-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x3 : Shape := ⟨2, ![16384, 3]⟩
abbrev S16384x10 : Shape := ⟨2, ![16384, 10]⟩
abbrev S16384 : Shape := ⟨1, ![16384]⟩
abbrev S1000000x128 : Shape := ⟨2, ![1000000, 128]⟩
abbrev S500x128 : Shape := ⟨2, ![500, 128]⟩
abbrev S384x384 : Shape := ⟨2, ![384, 384]⟩
abbrev S384x128 : Shape := ⟨2, ![384, 128]⟩
abbrev S384 : Shape := ⟨1, ![384]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x10 : S_.BroadcastsInDim S16384x10 (![] : Fin 0 → Fin S16384x10.rank)
  reducesTo_S16384x10_S_d0_1 : S16384x10.ReducesTo [0, 1] S_

variable [Facts]

def fn {F : FTy → Type} [FloatOps F] (main_arg0 : IVec S16384x3 32) (main_arg1 : IVec S16384x10 32) (main_arg2 : IVec S16384 32) (main_arg3 : FVec F S1000000x128 .f32) (main_arg4 : FVec F S500x128 .f32) (main_arg5 : FVec F S384x384 .f32) (main_arg6 : FVec F S384x128 .f32) (main_arg7 : FVec F S384 .f32) (main_arg8 : FVec F S384 .f32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg0 main_v0
  let main_c_0 : IVec S_ 1 := constantI S_ 1 1#1
  let main_v2 : IVec S_ 1 := (fun x v => Host.reduce IntOp.andi x v reducesTo_S16384x3_S_d0_1 h_S_) main_v1 main_c_0
  let main_c_1 : IVec S_ 32 := constantI S_ 32 500#32
  let main_v3 : IVec S16384x3 32 := broadcastInDim S16384x3 ![] bcast_S_S16384x3 main_c_1
  let main_v4 : IVec S16384x3 1 := cmpi .slt main_arg0 main_v3
  let main_c_2 : IVec S_ 1 := constantI S_ 1 1#1
  let main_v5 : IVec S_ 1 := (fun x v => Host.reduce IntOp.andi x v reducesTo_S16384x3_S_d0_1 h_S_) main_v4 main_c_2
  let main_v6 : IVec S_ 1 := andi main_v2 main_v5
  let main_c_3 : IVec S_ 32 := constantI S_ 32 0#32
  let main_v7 : IVec S16384x10 32 := broadcastInDim S16384x10 ![] bcast_S_S16384x10 main_c_3
  let main_v8 : IVec S16384x10 1 := cmpi .sge main_arg1 main_v7
  let main_c_4 : IVec S_ 1 := constantI S_ 1 1#1
  let main_v9 : IVec S_ 1 := (fun x v => Host.reduce IntOp.andi x v reducesTo_S16384x10_S_d0_1 h_S_) main_v8 main_c_4
  let main_v10 : IVec S_ 1 := andi main_v6 main_v9
  let main_c_5 : IVec S_ 32 := constantI S_ 32 1000000#32
  let main_v11 : IVec S16384x10 32 := broadcastInDim S16384x10 ![] bcast_S_S16384x10 main_c_5
  let main_v12 : IVec S16384x10 1 := cmpi .slt main_arg1 main_v11
  let main_c_6 : IVec S_ 1 := constantI S_ 1 1#1
  let main_v13 : IVec S_ 1 := (fun x v => Host.reduce IntOp.andi x v reducesTo_S16384x10_S_d0_1 h_S_) main_v12 main_c_6
  let main_v14 : IVec S_ 1 := andi main_v10 main_v13
  main_v14
-- ==== Kernel.lean ====
abbrev S16384x3 : Shape := ⟨2, ![16384, 3]⟩
abbrev S16384x10 : Shape := ⟨2, ![16384, 10]⟩
abbrev S16384 : Shape := ⟨1, ![16384]⟩
abbrev S1000000x128 : Shape := ⟨2, ![1000000, 128]⟩
abbrev S500x128 : Shape := ⟨2, ![500, 128]⟩
abbrev S384x384 : Shape := ⟨2, ![384, 384]⟩
abbrev S384x128 : Shape := ⟨2, ![384, 128]⟩
abbrev S384 : Shape := ⟨1, ![384]⟩
abbrev S10x16384 : Shape := ⟨2, ![10, 16384]⟩
abbrev S32x40x128 : Shape := ⟨3, ![32, 40, 128]⟩
abbrev S16384x1 : Shape := ⟨2, ![16384, 1]⟩
abbrev S32x4x128 : Shape := ⟨3, ![32, 4, 128]⟩
abbrev S163840x128 : Shape := ⟨2, ![163840, 128]⟩
abbrev S16384x128 : Shape := ⟨2, ![16384, 128]⟩
abbrev S40x128 : Shape := ⟨2, ![40, 128]⟩
abbrev S4x128 : Shape := ⟨2, ![4, 128]⟩
abbrev S128x128 : Shape := ⟨2, ![128, 128]⟩
abbrev S_ : Shape := ⟨0, ![]⟩
abbrev S1x40x128 : Shape := ⟨3, ![1, 40, 128]⟩
abbrev S1x128 : Shape := ⟨2, ![1, 128]⟩
abbrev S128 : Shape := ⟨1, ![128]⟩
abbrev S1x4x128 : Shape := ⟨3, ![1, 4, 128]⟩
abbrev S10x16384x128 : Shape := ⟨3, ![10, 16384, 128]⟩
abbrev S128x384 : Shape := ⟨2, ![128, 384]⟩
abbrev S1x384 : Shape := ⟨2, ![1, 384]⟩
abbrev S16x1024x1 : Shape := ⟨3, ![16, 1024, 1]⟩
abbrev S1x1024x128 : Shape := ⟨3, ![1, 1024, 128]⟩
abbrev S1024x128 : Shape := ⟨2, ![1024, 128]⟩
abbrev S1x1024x1 : Shape := ⟨3, ![1, 1024, 1]⟩
abbrev S1024x384 : Shape := ⟨2, ![1024, 384]⟩
abbrev S1024x1 : Shape := ⟨2, ![1024, 1]⟩

abbrev nBuf : Table → Nat
  | .hbm => 27
  | .local .tc .vmem => 15
  | .local .scVector .vmem => 5
  | _ => 0

abbrev bufTy : (tb : Table) → Fin (nBuf tb) → BufTy
  | .hbm, ⟨0, _⟩ => ⟨S16384x3, .i32⟩
  | .hbm, ⟨1, _⟩ => ⟨S16384x10, .i32⟩
  | .hbm, ⟨2, _⟩ => ⟨S16384, .i32⟩
  | .hbm, ⟨3, _⟩ => ⟨S1000000x128, .f32⟩
  | .hbm, ⟨4, _⟩ => ⟨S500x128, .f32⟩
  | .hbm, ⟨5, _⟩ => ⟨S384x384, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S10x16384, .i32⟩
  | .hbm, ⟨10, _⟩ => ⟨S32x40x128, .i32⟩
  | .hbm, ⟨11, _⟩ => ⟨S16384x1, .i32⟩
  | .hbm, ⟨12, _⟩ => ⟨S16384, .i32⟩
  | .hbm, ⟨13, _⟩ => ⟨S32x4x128, .i32⟩
  | .hbm, ⟨14, _⟩ => ⟨S16384x1, .i32⟩
  | .hbm, ⟨15, _⟩ => ⟨S16384, .i32⟩
  | .hbm, ⟨16, _⟩ => ⟨S32x4x128, .i32⟩
  | .hbm, ⟨17, _⟩ => ⟨S163840x128, .f32⟩
  | .hbm, ⟨18, _⟩ => ⟨S16384x128, .f32⟩
  | .hbm, ⟨19, _⟩ => ⟨S16384x128, .f32⟩
  | .hbm, ⟨20, _⟩ => ⟨S10x16384x128, .f32⟩
  | .hbm, ⟨21, _⟩ => ⟨S384x384, .f32⟩
  | .hbm, ⟨22, _⟩ => ⟨S128x384, .f32⟩
  | .hbm, ⟨23, _⟩ => ⟨S1x384, .f32⟩
  | .hbm, ⟨24, _⟩ => ⟨S1x384, .f32⟩
  | .hbm, ⟨25, _⟩ => ⟨S16x1024x1, .i32⟩
  | .hbm, ⟨26, _⟩ => ⟨S16384x128, .f32⟩
  | .local .tc .vmem, ⟨0, _⟩ => ⟨S1x1024x128, .f32⟩
  | .local .tc .vmem, ⟨1, _⟩ => ⟨S1x1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1x1024x1, .i32⟩
  | .local .tc .vmem, ⟨7, _⟩ => ⟨S1x1024x1, .i32⟩
  | .local .tc .vmem, ⟨8, _⟩ => ⟨S384x384, .f32⟩
  | .local .tc .vmem, ⟨9, _⟩ => ⟨S128x384, .f32⟩
  | .local .tc .vmem, ⟨10, _⟩ => ⟨S1x384, .f32⟩
  | .local .tc .vmem, ⟨11, _⟩ => ⟨S1x384, .f32⟩
  | .local .tc .vmem, ⟨12, _⟩ => ⟨S1024x128, .f32⟩
  | .local .tc .vmem, ⟨13, _⟩ => ⟨S1024x128, .f32⟩
  | .local .tc .vmem, ⟨14, _⟩ => ⟨S1024x384, .f32⟩
  | .local .scVector .vmem, ⟨0, _⟩ => ⟨S40x128, .i32⟩
  | .local .scVector .vmem, ⟨1, _⟩ => ⟨S4x128, .i32⟩
  | .local .scVector .vmem, ⟨2, _⟩ => ⟨S4x128, .i32⟩
  | .local .scVector .vmem, ⟨3, _⟩ => ⟨S128x128, .f32⟩
  | .local .scVector .vmem, ⟨4, _⟩ => ⟨S128x128, .f32⟩
  | _, _ => ⟨S16384x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_arg3_scv : Ref sig .scVector := ⟨.hbm, 3, rfl⟩
abbrev main_arg4_scv : Ref sig .scVector := ⟨.hbm, 4, rfl⟩
abbrev main_v1_scv : Ref sig .scVector := ⟨.hbm, 10, rfl⟩
abbrev main_v4_scv : Ref sig .scVector := ⟨.hbm, 13, rfl⟩
abbrev main_v7_scv : Ref sig .scVector := ⟨.hbm, 16, rfl⟩
abbrev main_v8_0_scv : Ref sig .scVector := ⟨.hbm, 17, rfl⟩
abbrev main_v8_1_scv : Ref sig .scVector := ⟨.hbm, 18, rfl⟩
abbrev main_v8_2_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg8_1 : Ref sig .tc := ⟨.vmem, 13, rfl⟩
abbrev cc1_scratch0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r0 : BitVec 32 := 0#32
  let c0_i32_54_r0 : BitVec 32 := 0#32
  ![v1.toNat, 0, 0]
@[reducible] def k0_t1_loop : Scf.Loop 32 :=
  let c0_i32_7 : BitVec 32 := 0#32
  let c20_i32 : BitVec 32 := 20#32
  let v10 : BitVec 32 := Scalar.addi c0_i32_7 c20_i32
  let c1_i32_8 : BitVec 32 := 1#32
  ⟨c0_i32_7, v10, c1_i32_8⟩
def k0_off2 (k0_t1 : Fin k0_t1_loop.trips) (c0_i32_54 : BitVec 32) : Fin 2 → Nat :=
  let c0_i32_7 : BitVec 32 := 0#32
  let c1_i32_8 : BitVec 32 := 1#32
  let arg19 : BitVec 32 := Scf.iv c0_i32_7 c1_i32_8 k0_t1
  let c2_i32_53 : BitVec 32 := 2#32
  let v47 : BitVec 32 := Scalar.muli arg19 c2_i32_53
  let v48 : BitVec 32 := Scalar.addi v47 c0_i32_54
  let c0_i32_55 : BitVec 32 := 0#32
  ![v48.toNat, 0]
def k0_off3 (i : grid0.Coords) (k0_t1 : Fin k0_t1_loop.trips) (c0_i32_54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c128_i32 : BitVec 32 := 128#32
  let v3 : BitVec 32 := Scalar.muli v2 c128_i32
  let c0_i32_7 : BitVec 32 := 0#32
  let c1_i32_8 : BitVec 32 := 1#32
  let arg19 : BitVec 32 := Scf.iv c0_i32_7 c1_i32_8 k0_t1
  let c2_i32_53 : BitVec 32 := 2#32
  let v47 : BitVec 32 := Scalar.muli arg19 c2_i32_53
  let v48 : BitVec 32 := Scalar.addi v47 c0_i32_54
  let c128_i32_58 : BitVec 32 := 128#32
  let v52 : BitVec 32 := Scalar.muli v48 c128_i32_58
  let v53 : BitVec 32 := Scalar.addi v3 v52
  let c0_i32_59 : BitVec 32 := 0#32
  ![v53.toNat, 0]
def k0_cond1 (k0_t1 : Fin k0_t1_loop.trips) : BitVec 1 :=
  let c0_i32_7 : BitVec 32 := 0#32
  let c1_i32_8 : BitVec 32 := 1#32
  let arg19 : BitVec 32 := Scf.iv c0_i32_7 c1_i32_8 k0_t1
  let c2_i32_53 : BitVec 32 := 2#32
  let v47 : BitVec 32 := Scalar.muli arg19 c2_i32_53
  let c0_i32_54 : BitVec 32 := 0#32
  let v48 : BitVec 32 := Scalar.addi v47 c0_i32_54
  let c2_i32_61 : BitVec 32 := 2#32
  let v56 : BitVec 32 := Scalar.addi v48 c2_i32_61
  let c40_i32_62 : BitVec 32 := 40#32
  let v57 : BitVec 1 := Scalar.cmpi .slt v56 c40_i32_62
  let v58 : BitVec 32 := Scalar.extui v57
  let c0_i32_63 : BitVec 32 := 0#32
  let v59 : BitVec 1 := Scalar.cmpi .ne v58 c0_i32_63
  v59

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c128_i32 : BitVec 32 := 128#32
  let v3 : BitVec 32 := Scalar.muli v2 c128_i32
  let c0_i32_7 : BitVec 32 := 0#32
  let c1_i32_8 : BitVec 32 := 1#32
  let arg19 : BitVec 32 := Scf.iv c0_i32_7 c1_i32_8 k0_t1
  let c2_i32_53 : BitVec 32 := 2#32
  let v47 : BitVec 32 := Scalar.muli arg19 c2_i32_53
  let c0_i32_54 : BitVec 32 := 0#32
  let v48 : BitVec 32 := Scalar.addi v47 c0_i32_54
  let c128_i32_75 : BitVec 32 := 128#32
  let v73 : BitVec 32 := Scalar.muli v48 c128_i32_75
  let v74 : BitVec 32 := Scalar.addi v3 v73
  let c0_i32_76 : BitVec 32 := 0#32
  ![v74.toNat, 0]
def k0_off5 (k0_t1 : Fin k0_t1_loop.trips) : Fin 2 → Nat :=
  let c0_i32_7 : BitVec 32 := 0#32
  let c1_i32_8 : BitVec 32 := 1#32
  let arg19 : BitVec 32 := Scf.iv c0_i32_7 c1_i32_8 k0_t1
  let c2_i32_53 : BitVec 32 := 2#32
  let v47 : BitVec 32 := Scalar.muli arg19 c2_i32_53
  let c0_i32_54 : BitVec 32 := 0#32
  let v48 : BitVec 32 := Scalar.addi v47 c0_i32_54
  let c2_i32_78 : BitVec 32 := 2#32
  let v77 : BitVec 32 := Scalar.addi v48 c2_i32_78
  let c0_i32_79 : BitVec 32 := 0#32
  ![v77.toNat, 0]
def k0_cond2 (k0_t1 : Fin k0_t1_loop.trips) : BitVec 1 :=
  let c0_i32_7 : BitVec 32 := 0#32
  let c1_i32_8 : BitVec 32 := 1#32
  let arg19 : BitVec 32 := Scf.iv c0_i32_7 c1_i32_8 k0_t1
  let c2_i32_64 : BitVec 32 := 2#32
  let v60 : BitVec 32 := Scalar.muli arg19 c2_i32_64
  let c1_i32_65 : BitVec 32 := 1#32
  let v61 : BitVec 32 := Scalar.addi v60 c1_i32_65
  let c2_i32_72 : BitVec 32 := 2#32
  let v69 : BitVec 32 := Scalar.addi v61 c2_i32_72
  let c40_i32_73 : BitVec 32 := 40#32
  let v70 : BitVec 1 := Scalar.cmpi .slt v69 c40_i32_73
  let v71 : BitVec 32 := Scalar.extui v70
  let c0_i32_74 : BitVec 32 := 0#32
  let v72 : BitVec 1 := Scalar.cmpi .ne v71 c0_i32_74
  v72

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c128_i32 : BitVec 32 := 128#32
  let v3 : BitVec 32 := Scalar.muli v2 c128_i32
  let c0_i32_7 : BitVec 32 := 0#32
  let c1_i32_8 : BitVec 32 := 1#32
  let arg19 : BitVec 32 := Scf.iv c0_i32_7 c1_i32_8 k0_t1
  let c2_i32_64 : BitVec 32 := 2#32
  let v60 : BitVec 32 := Scalar.muli arg19 c2_i32_64
  let c1_i32_65 : BitVec 32 := 1#32
  let v61 : BitVec 32 := Scalar.addi v60 c1_i32_65
  let c128_i32_75 : BitVec 32 := 128#32
  let v73 : BitVec 32 := Scalar.muli v61 c128_i32_75
  let v74 : BitVec 32 := Scalar.addi v3 v73
  let c0_i32_76 : BitVec 32 := 0#32
  ![v74.toNat, 0]
def k0_off7 (k0_t1 : Fin k0_t1_loop.trips) : Fin 2 → Nat :=
  let c0_i32_7 : BitVec 32 := 0#32
  let c1_i32_8 : BitVec 32 := 1#32
  let arg19 : BitVec 32 := Scf.iv c0_i32_7 c1_i32_8 k0_t1
  let c2_i32_64 : BitVec 32 := 2#32
  let v60 : BitVec 32 := Scalar.muli arg19 c2_i32_64
  let c1_i32_65 : BitVec 32 := 1#32
  let v61 : BitVec 32 := Scalar.addi v60 c1_i32_65
  let c2_i32_78 : BitVec 32 := 2#32
  let v77 : BitVec 32 := Scalar.addi v61 c2_i32_78
  let c0_i32_79 : BitVec 32 := 0#32
  ![v77.toNat, 0]
def k0_off8 (i : grid0.Coords) (c4864_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c128_i32 : BitVec 32 := 128#32
  let v3 : BitVec 32 := Scalar.muli v2 c128_i32
  let v11 : BitVec 32 := Scalar.addi v3 c4864_i32
  let c0_i32_10 : BitVec 32 := 0#32
  ![v11.toNat, 0]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r1 : BitVec 32 := 0#32
  let c0_i32_54_r1 : BitVec 32 := 0#32
  ![v1.toNat, 0, 0]
@[reducible] def k0_t2_loop : Scf.Loop 32 :=
  let c0_i32_24 : BitVec 32 := 0#32
  let c2_i32_25 : BitVec 32 := 2#32
  let v25 : BitVec 32 := Scalar.addi c0_i32_24 c2_i32_25
  let c1_i32_26 : BitVec 32 := 1#32
  ⟨c0_i32_24, v25, c1_i32_26⟩
def k0_off10 (k0_t2 : Fin k0_t2_loop.trips) (c0_i32_54 : BitVec 32) : Fin 2 → Nat :=
  let c0_i32_24 : BitVec 32 := 0#32
  let c1_i32_26 : BitVec 32 := 1#32
  let arg19 : BitVec 32 := Scf.iv c0_i32_24 c1_i32_26 k0_t2
  let c2_i32_53 : BitVec 32 := 2#32
  let v47 : BitVec 32 := Scalar.muli arg19 c2_i32_53
  let v48 : BitVec 32 := Scalar.addi v47 c0_i32_54
  let c0_i32_55 : BitVec 32 := 0#32
  ![v48.toNat, 0]
def k0_off11 (i : grid0.Coords) (k0_t2 : Fin k0_t2_loop.trips) (c0_i32_54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v17 : BitVec 32 := Scalar.muli v1 c4_i32
  let c128_i32_14 : BitVec 32 := 128#32
  let v18 : BitVec 32 := Scalar.muli v17 c128_i32_14
  let c0_i32_24 : BitVec 32 := 0#32
  let c1_i32_26 : BitVec 32 := 1#32
  let arg19 : BitVec 32 := Scf.iv c0_i32_24 c1_i32_26 k0_t2
  let c2_i32_53 : BitVec 32 := 2#32
  let v47 : BitVec 32 := Scalar.muli arg19 c2_i32_53
  let v48 : BitVec 32 := Scalar.addi v47 c0_i32_54
  let c128_i32_58 : BitVec 32 := 128#32
  let v52 : BitVec 32 := Scalar.muli v48 c128_i32_58
  let v53 : BitVec 32 := Scalar.addi v18 v52
  let c0_i32_59 : BitVec 32 := 0#32
  ![v53.toNat, 0]
def k0_cond3 (k0_t2 : Fin k0_t2_loop.trips) : BitVec 1 :=
  let c0_i32_24 : BitVec 32 := 0#32
  let c1_i32_26 : BitVec 32 := 1#32
  let arg19 : BitVec 32 := Scf.iv c0_i32_24 c1_i32_26 k0_t2
  let c2_i32_53 : BitVec 32 := 2#32
  let v47 : BitVec 32 := Scalar.muli arg19 c2_i32_53
  let c0_i32_54 : BitVec 32 := 0#32
  let v48 : BitVec 32 := Scalar.addi v47 c0_i32_54
  let c2_i32_61 : BitVec 32 := 2#32
  let v56 : BitVec 32 := Scalar.addi v48 c2_i32_61
  let c4_i32_62 : BitVec 32 := 4#32
  let v57 : BitVec 1 := Scalar.cmpi .slt v56 c4_i32_62
  let v58 : BitVec 32 := Scalar.extui v57
  let c0_i32_63 : BitVec 32 := 0#32
  let v59 : BitVec 1 := Scalar.cmpi .ne v58 c0_i32_63
  v59

def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v17 : BitVec 32 := Scalar.muli v1 c4_i32
  let c128_i32_14 : BitVec 32 := 128#32
  let v18 : BitVec 32 := Scalar.muli v17 c128_i32_14
  let c0_i32_24 : BitVec 32 := 0#32
  let c1_i32_26 : BitVec 32 := 1#32
  let arg19 : BitVec 32 := Scf.iv c0_i32_24 c1_i32_26 k0_t2
  let c2_i32_53 : BitVec 32 := 2#32
  let v47 : BitVec 32 := Scalar.muli arg19 c2_i32_53
  let c0_i32_54 : BitVec 32 := 0#32
  let v48 : BitVec 32 := Scalar.addi v47 c0_i32_54
  let c128_i32_75 : BitVec 32 := 128#32
  let v73 : BitVec 32 := Scalar.muli v48 c128_i32_75
  let v74 : BitVec 32 := Scalar.addi v18 v73
  let c0_i32_76 : BitVec 32 := 0#32
  ![v74.toNat, 0]
def k0_off13 (k0_t2 : Fin k0_t2_loop.trips) : Fin 2 → Nat :=
  let c0_i32_24 : BitVec 32 := 0#32
  let c1_i32_26 : BitVec 32 := 1#32
  let arg19 : BitVec 32 := Scf.iv c0_i32_24 c1_i32_26 k0_t2
  let c2_i32_53 : BitVec 32 := 2#32
  let v47 : BitVec 32 := Scalar.muli arg19 c2_i32_53
  let c0_i32_54 : BitVec 32 := 0#32
  let v48 : BitVec 32 := Scalar.addi v47 c0_i32_54
  let c2_i32_78 : BitVec 32 := 2#32
  let v77 : BitVec 32 := Scalar.addi v48 c2_i32_78
  let c0_i32_79 : BitVec 32 := 0#32
  ![v77.toNat, 0]
def k0_cond4 (k0_t2 : Fin k0_t2_loop.trips) : BitVec 1 :=
  let c0_i32_24 : BitVec 32 := 0#32
  let c1_i32_26 : BitVec 32 := 1#32
  let arg19 : BitVec 32 := Scf.iv c0_i32_24 c1_i32_26 k0_t2
  let c2_i32_64 : BitVec 32 := 2#32
  let v60 : BitVec 32 := Scalar.muli arg19 c2_i32_64
  let c1_i32_65 : BitVec 32 := 1#32
  let v61 : BitVec 32 := Scalar.addi v60 c1_i32_65
  let c2_i32_72 : BitVec 32 := 2#32
  let v69 : BitVec 32 := Scalar.addi v61 c2_i32_72
  let c4_i32_73 : BitVec 32 := 4#32
  let v70 : BitVec 1 := Scalar.cmpi .slt v69 c4_i32_73
  let v71 : BitVec 32 := Scalar.extui v70
  let c0_i32_74 : BitVec 32 := 0#32
  let v72 : BitVec 1 := Scalar.cmpi .ne v71 c0_i32_74
  v72

def k0_off14 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v17 : BitVec 32 := Scalar.muli v1 c4_i32
  let c128_i32_14 : BitVec 32 := 128#32
  let v18 : BitVec 32 := Scalar.muli v17 c128_i32_14
  let c0_i32_24 : BitVec 32 := 0#32
  let c1_i32_26 : BitVec 32 := 1#32
  let arg19 : BitVec 32 := Scf.iv c0_i32_24 c1_i32_26 k0_t2
  let c2_i32_64 : BitVec 32 := 2#32
  let v60 : BitVec 32 := Scalar.muli arg19 c2_i32_64
  let c1_i32_65 : BitVec 32 := 1#32
  let v61 : BitVec 32 := Scalar.addi v60 c1_i32_65
  let c128_i32_75 : BitVec 32 := 128#32
  let v73 : BitVec 32 := Scalar.muli v61 c128_i32_75
  let v74 : BitVec 32 := Scalar.addi v18 v73
  let c0_i32_76 : BitVec 32 := 0#32
  ![v74.toNat, 0]
def k0_off15 (k0_t2 : Fin k0_t2_loop.trips) : Fin 2 → Nat :=
  let c0_i32_24 : BitVec 32 := 0#32
  let c1_i32_26 : BitVec 32 := 1#32
  let arg19 : BitVec 32 := Scf.iv c0_i32_24 c1_i32_26 k0_t2
  let c2_i32_64 : BitVec 32 := 2#32
  let v60 : BitVec 32 := Scalar.muli arg19 c2_i32_64
  let c1_i32_65 : BitVec 32 := 1#32
  let v61 : BitVec 32 := Scalar.addi v60 c1_i32_65
  let c2_i32_78 : BitVec 32 := 2#32
  let v77 : BitVec 32 := Scalar.addi v61 c2_i32_78
  let c0_i32_79 : BitVec 32 := 0#32
  ![v77.toNat, 0]
def k0_off16 (i : grid0.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v17 : BitVec 32 := Scalar.muli v1 c4_i32
  let c128_i32_14 : BitVec 32 := 128#32
  let v18 : BitVec 32 := Scalar.muli v17 c128_i32_14
  let v26 : BitVec 32 := Scalar.addi v18 c256_i32
  let c0_i32_28 : BitVec 32 := 0#32
  ![v26.toNat, 0]
@[reducible] def k0_t3_loop : Scf.Loop 32 :=
  let c0_i32_43 : BitVec 32 := 0#32
  let c2_i32_44 : BitVec 32 := 2#32
  let v40 : BitVec 32 := Scalar.addi c0_i32_43 c2_i32_44
  let c1_i32_45 : BitVec 32 := 1#32
  ⟨c0_i32_43, v40, c1_i32_45⟩
def k0_off17 (k0_t3 : Fin k0_t3_loop.trips) (c0_i32_54 : BitVec 32) : Fin 2 → Nat :=
  let c0_i32_43 : BitVec 32 := 0#32
  let c1_i32_45 : BitVec 32 := 1#32
  let arg19 : BitVec 32 := Scf.iv c0_i32_43 c1_i32_45 k0_t3
  let c2_i32_53 : BitVec 32 := 2#32
  let v47 : BitVec 32 := Scalar.muli arg19 c2_i32_53
  let v48 : BitVec 32 := Scalar.addi v47 c0_i32_54
  let c0_i32_55 : BitVec 32 := 0#32
  ![v48.toNat, 0]
def k0_off18 (i : grid0.Coords) (k0_t3 : Fin k0_t3_loop.trips) (c0_i32_54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_32 : BitVec 32 := 4#32
  let v32 : BitVec 32 := Scalar.muli v1 c4_i32_32
  let c128_i32_33 : BitVec 32 := 128#32
  let v33 : BitVec 32 := Scalar.muli v32 c128_i32_33
  let c0_i32_43 : BitVec 32 := 0#32
  let c1_i32_45 : BitVec 32 := 1#32
  let arg19 : BitVec 32 := Scf.iv c0_i32_43 c1_i32_45 k0_t3
  let c2_i32_53 : BitVec 32 := 2#32
  let v47 : BitVec 32 := Scalar.muli arg19 c2_i32_53
  let v48 : BitVec 32 := Scalar.addi v47 c0_i32_54
  let c128_i32_58 : BitVec 32 := 128#32
  let v52 : BitVec 32 := Scalar.muli v48 c128_i32_58
  let v53 : BitVec 32 := Scalar.addi v33 v52
  let c0_i32_59 : BitVec 32 := 0#32
  ![v53.toNat, 0]
def k0_cond5 (k0_t3 : Fin k0_t3_loop.trips) : BitVec 1 :=
  let c0_i32_43 : BitVec 32 := 0#32
  let c1_i32_45 : BitVec 32 := 1#32
  let arg19 : BitVec 32 := Scf.iv c0_i32_43 c1_i32_45 k0_t3
  let c2_i32_53 : BitVec 32 := 2#32
  let v47 : BitVec 32 := Scalar.muli arg19 c2_i32_53
  let c0_i32_54 : BitVec 32 := 0#32
  let v48 : BitVec 32 := Scalar.addi v47 c0_i32_54
  let c2_i32_61 : BitVec 32 := 2#32
  let v56 : BitVec 32 := Scalar.addi v48 c2_i32_61
  let c4_i32_62 : BitVec 32 := 4#32
  let v57 : BitVec 1 := Scalar.cmpi .slt v56 c4_i32_62
  let v58 : BitVec 32 := Scalar.extui v57
  let c0_i32_63 : BitVec 32 := 0#32
  let v59 : BitVec 1 := Scalar.cmpi .ne v58 c0_i32_63
  v59

def k0_off19 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_32 : BitVec 32 := 4#32
  let v32 : BitVec 32 := Scalar.muli v1 c4_i32_32
  let c128_i32_33 : BitVec 32 := 128#32
  let v33 : BitVec 32 := Scalar.muli v32 c128_i32_33
  let c0_i32_43 : BitVec 32 := 0#32
  let c1_i32_45 : BitVec 32 := 1#32
  let arg19 : BitVec 32 := Scf.iv c0_i32_43 c1_i32_45 k0_t3
  let c2_i32_53 : BitVec 32 := 2#32
  let v47 : BitVec 32 := Scalar.muli arg19 c2_i32_53
  let c0_i32_54 : BitVec 32 := 0#32
  let v48 : BitVec 32 := Scalar.addi v47 c0_i32_54
  let c128_i32_75 : BitVec 32 := 128#32
  let v73 : BitVec 32 := Scalar.muli v48 c128_i32_75
  let v74 : BitVec 32 := Scalar.addi v33 v73
  let c0_i32_76 : BitVec 32 := 0#32
  ![v74.toNat, 0]
def k0_off20 (k0_t3 : Fin k0_t3_loop.trips) : Fin 2 → Nat :=
  let c0_i32_43 : BitVec 32 := 0#32
  let c1_i32_45 : BitVec 32 := 1#32
  let arg19 : BitVec 32 := Scf.iv c0_i32_43 c1_i32_45 k0_t3
  let c2_i32_53 : BitVec 32 := 2#32
  let v47 : BitVec 32 := Scalar.muli arg19 c2_i32_53
  let c0_i32_54 : BitVec 32 := 0#32
  let v48 : BitVec 32 := Scalar.addi v47 c0_i32_54
  let c2_i32_78 : BitVec 32 := 2#32
  let v77 : BitVec 32 := Scalar.addi v48 c2_i32_78
  let c0_i32_79 : BitVec 32 := 0#32
  ![v77.toNat, 0]
def k0_cond6 (k0_t3 : Fin k0_t3_loop.trips) : BitVec 1 :=
  let c0_i32_43 : BitVec 32 := 0#32
  let c1_i32_45 : BitVec 32 := 1#32
  let arg19 : BitVec 32 := Scf.iv c0_i32_43 c1_i32_45 k0_t3
  let c2_i32_64 : BitVec 32 := 2#32
  let v60 : BitVec 32 := Scalar.muli arg19 c2_i32_64
  let c1_i32_65 : BitVec 32 := 1#32
  let v61 : BitVec 32 := Scalar.addi v60 c1_i32_65
  let c2_i32_72 : BitVec 32 := 2#32
  let v69 : BitVec 32 := Scalar.addi v61 c2_i32_72
  let c4_i32_73 : BitVec 32 := 4#32
  let v70 : BitVec 1 := Scalar.cmpi .slt v69 c4_i32_73
  let v71 : BitVec 32 := Scalar.extui v70
  let c0_i32_74 : BitVec 32 := 0#32
  let v72 : BitVec 1 := Scalar.cmpi .ne v71 c0_i32_74
  v72

def k0_off21 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_32 : BitVec 32 := 4#32
  let v32 : BitVec 32 := Scalar.muli v1 c4_i32_32
  let c128_i32_33 : BitVec 32 := 128#32
  let v33 : BitVec 32 := Scalar.muli v32 c128_i32_33
  let c0_i32_43 : BitVec 32 := 0#32
  let c1_i32_45 : BitVec 32 := 1#32
  let arg19 : BitVec 32 := Scf.iv c0_i32_43 c1_i32_45 k0_t3
  let c2_i32_64 : BitVec 32 := 2#32
  let v60 : BitVec 32 := Scalar.muli arg19 c2_i32_64
  let c1_i32_65 : BitVec 32 := 1#32
  let v61 : BitVec 32 := Scalar.addi v60 c1_i32_65
  let c128_i32_75 : BitVec 32 := 128#32
  let v73 : BitVec 32 := Scalar.muli v61 c128_i32_75
  let v74 : BitVec 32 := Scalar.addi v33 v73
  let c0_i32_76 : BitVec 32 := 0#32
  ![v74.toNat, 0]
def k0_off22 (k0_t3 : Fin k0_t3_loop.trips) : Fin 2 → Nat :=
  let c0_i32_43 : BitVec 32 := 0#32
  let c1_i32_45 : BitVec 32 := 1#32
  let arg19 : BitVec 32 := Scf.iv c0_i32_43 c1_i32_45 k0_t3
  let c2_i32_64 : BitVec 32 := 2#32
  let v60 : BitVec 32 := Scalar.muli arg19 c2_i32_64
  let c1_i32_65 : BitVec 32 := 1#32
  let v61 : BitVec 32 := Scalar.addi v60 c1_i32_65
  let c2_i32_78 : BitVec 32 := 2#32
  let v77 : BitVec 32 := Scalar.addi v61 c2_i32_78
  let c0_i32_79 : BitVec 32 := 0#32
  ![v77.toNat, 0]
abbrev grid1 : Pipeline.Grid := ⟨2, ![16, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S384x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x3 : Shape := ⟨2, ![16384, 3]⟩
abbrev S16384x10 : Shape := ⟨2, ![16384, 10]⟩
abbrev S16384 : Shape := ⟨1, ![16384]⟩
abbrev S1000000x128 : Shape := ⟨2, ![1000000, 128]⟩
abbrev S500x128 : Shape := ⟨2, ![500, 128]⟩
abbrev S384x384 : Shape := ⟨2, ![384, 384]⟩
abbrev S384x128 : Shape := ⟨2, ![384, 128]⟩
abbrev S384 : Shape := ⟨1, ![384]⟩
abbrev S16384x1 : Shape := ⟨2, ![16384, 1]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x10x1 : Shape := ⟨3, ![16384, 10, 1]⟩
abbrev S1x1x1 : Shape := ⟨3, ![1, 1, 1]⟩
abbrev S16384x10x128 : Shape := ⟨3, ![16384, 10, 128]⟩
abbrev S16384x1x128 : Shape := ⟨3, ![16384, 1, 128]⟩
abbrev S16384x10x384 : Shape := ⟨3, ![16384, 10, 384]⟩
abbrev S10 : Shape := ⟨1, ![10]⟩
abbrev S1x10 : Shape := ⟨2, ![1, 10]⟩
abbrev S10x16384x384 : Shape := ⟨3, ![10, 16384, 384]⟩
abbrev S10x16384 : Shape := ⟨2, ![10, 16384]⟩
abbrev S1x16384x384 : Shape := ⟨3, ![1, 16384, 384]⟩
abbrev S16384x384 : Shape := ⟨2, ![16384, 384]⟩
abbrev S1x16384 : Shape := ⟨2, ![1, 16384]⟩
abbrev S1x384 : Shape := ⟨2, ![1, 384]⟩
abbrev S128x384 : Shape := ⟨2, ![128, 384]⟩

abbrev nBuf : Space → Nat
  | .hbm => 171
  | .vmem => 0
  | .smem => 0
  | _ => 0

abbrev hbmTy0_0 (i : Nat) : BufTy := match i % 128 with
  | 0 => ⟨S16384x3, .i32⟩
  | 1 => ⟨S16384x10, .i32⟩
  | 2 => ⟨S16384, .i32⟩
  | 3 => ⟨S1000000x128, .f32⟩
  | 4 => ⟨S500x128, .f32⟩
  | 5 => ⟨S384x384, .f32⟩
  | 6 => ⟨S384x128, .f32⟩
  | 7 => ⟨S384, .f32⟩
  | 8 => ⟨S384, .f32⟩
  | 9 => ⟨S16384x1, .i32⟩
  | 10 => ⟨S16384, .i32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x128, .f32⟩
  | 32 => ⟨S16384x128, .i1⟩
  | 33 => ⟨S_, .f32⟩
  | 34 => ⟨S16384x128, .f32⟩
  | 35 => ⟨S16384x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x128, .f32⟩
  | 55 => ⟨S16384x128, .i1⟩
  | 56 => ⟨S_, .f32⟩
  | 57 => ⟨S16384x128, .f32⟩
  | 58 => ⟨S16384x128, .f32⟩
  | 59 => ⟨S_, .i32⟩
  | 60 => ⟨S16384x10, .i32⟩
  | 61 => ⟨S16384x10, .i1⟩
  | 62 => ⟨S_, .i32⟩
  | 63 => ⟨S16384x10, .i32⟩
  | 64 => ⟨S16384x10, .i32⟩
  | 65 => ⟨S16384x10, .i32⟩
  | 66 => ⟨S16384x10x1, .i32⟩
  | 67 => ⟨S1, .i32⟩
  | 68 => ⟨S_, .i32⟩
  | 69 => ⟨S16384x10x1, .i32⟩
  | 70 => ⟨S16384x10x1, .i1⟩
  | 71 => ⟨S1x1x1, .i32⟩
  | 72 => ⟨S16384x10x1, .i32⟩
  | 73 => ⟨S16384x10x1, .i1⟩
  | 74 => ⟨S16384x10x1, .i1⟩
  | 75 => ⟨S_, .i1⟩
  | 76 => ⟨S16384x10, .i1⟩
  | 77 => ⟨S16384x10x128, .f32⟩
  | 78 => ⟨S16384x10x128, .i1⟩
  | 79 => ⟨S_, .f32⟩
  | 80 => ⟨S16384x10x128, .f32⟩
  | 81 => ⟨S16384x10x128, .f32⟩
  | 82 => ⟨S16384x1x128, .f32⟩
  | 83 => ⟨S16384x10x128, .f32⟩
  | 84 => ⟨S16384x1x128, .f32⟩
  | 85 => ⟨S16384x10x128, .f32⟩
  | 86 => ⟨S16384x10x384, .f32⟩
  | 87 => ⟨S10, .i32⟩
  | 88 => ⟨S1x10, .i32⟩
  | 89 => ⟨S16384x1, .i32⟩
  | 90 => ⟨S16384x10, .i32⟩
  | 91 => ⟨S16384x10, .i32⟩
  | 92 => ⟨S16384x10, .i1⟩
  | 93 => ⟨S16384x10, .f32⟩
  | 94 => ⟨S_, .f32⟩
  | 95 => ⟨S16384x128, .f32⟩
  | 96 => ⟨S10x16384x384, .f32⟩
  | 97 => ⟨S10x16384, .f32⟩
  | 98 => ⟨S_, .i32⟩
  | 99 => ⟨S10x16384x384, .f32⟩
  | 100 => ⟨S10x16384, .f32⟩
  | 101 => ⟨S384x384, .f32⟩
  | 102 => ⟨S384, .f32⟩
  | 103 => ⟨S384x128, .f32⟩
  | 104 => ⟨S384, .f32⟩
  | 105 => ⟨S_, .i32⟩
  | 106 => ⟨S16384x128, .f32⟩
  | 107 => ⟨S_, .i32⟩
  | 108 => ⟨S_, .i1⟩
  | 109 => ⟨S_, .i32⟩
  | 110 => ⟨S_, .i32⟩
  | 111 => ⟨S1x16384x384, .f32⟩
  | 112 => ⟨S16384x384, .f32⟩
  | 113 => ⟨S_, .i32⟩
  | 114 => ⟨S1x16384, .f32⟩
  | 115 => ⟨S16384, .f32⟩
  | 116 => ⟨S384x384, .f32⟩
  | 117 => ⟨S16384x384, .f32⟩
  | 118 => ⟨S1x384, .f32⟩
  | 119 => ⟨S16384x384, .f32⟩
  | 120 => ⟨S16384x384, .f32⟩
  | 121 => ⟨S128x384, .f32⟩
  | 122 => ⟨S16384x384, .f32⟩
  | 123 => ⟨S1x384, .f32⟩
  | 124 => ⟨S16384x384, .f32⟩
  | 125 => ⟨S16384x384, .f32⟩
  | 126 => ⟨S16384x128, .f32⟩
  | 127 => ⟨S16384x128, .f32⟩
  | _ => ⟨S16384x3, .i32⟩

abbrev hbmTy0_1 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S16384x128, .f32⟩
  | 5 => ⟨S16384x128, .f32⟩
  | 6 => ⟨S16384x128, .f32⟩
  | 7 => ⟨S_, .f32⟩
  | 8 => ⟨S16384x128, .f32⟩
  | 9 => ⟨S16384x128, .f32⟩
  | 10 => ⟨S_, .f32⟩
  | 11 => ⟨S16384x128, .f32⟩
  | 12 => ⟨S16384x128, .f32⟩
  | 13 => ⟨S16384x128, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S_, .f32⟩
  | 20 => ⟨S16384x128, .f32⟩
  | 21 => ⟨S16384x128, .f32⟩
  | 22 => ⟨S16384x128, .f32⟩
  | 23 => ⟨S16384x128, .f32⟩
  | 24 => ⟨S16384x128, .f32⟩
  | 25 => ⟨S_, .f32⟩
  | 26 => ⟨S16384x128, .f32⟩
  | 27 => ⟨S16384x128, .f32⟩
  | 28 => ⟨S16384x128, .f32⟩
  | 29 => ⟨S16384x128, .f32⟩
  | 30 => ⟨S16384x128, .f32⟩
  | 31 => ⟨S16384x1, .f32⟩
  | 32 => ⟨S16384x128, .f32⟩
  | 33 => ⟨S16384x128, .f32⟩
  | 34 => ⟨S16384x1, .f32⟩
  | 35 => ⟨S_, .f32⟩
  | 36 => ⟨S16384x1, .f32⟩
  | 37 => ⟨S16384x1, .f32⟩
  | 38 => ⟨S16384x128, .f32⟩
  | 39 => ⟨S16384x128, .f32⟩
  | 40 => ⟨S16384x128, .f32⟩
  | 41 => ⟨S_, .i32⟩
  | 42 => ⟨S_, .i32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_cst : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_c : Ref sig .tc := ⟨.hbm, 98, rfl⟩
abbrev main_v22_0 : Ref sig .tc := ⟨.hbm, 99, rfl⟩
abbrev main_v22_1 : Ref sig .tc := ⟨.hbm, 100, rfl⟩
abbrev main_v22_2 : Ref sig .tc := ⟨.hbm, 101, rfl⟩
abbrev main_v22_3 : Ref sig .tc := ⟨.hbm, 102, rfl⟩
abbrev main_v22_4 : Ref sig .tc := ⟨.hbm, 103, rfl⟩
abbrev main_v22_5 : Ref sig .tc := ⟨.hbm, 104, rfl⟩
abbrev main_v22_6 : Ref sig .tc := ⟨.hbm, 105, rfl⟩
abbrev main_v22_7 : Ref sig .tc := ⟨.hbm, 106, rfl⟩
abbrev main_while0c_c_7 : Ref sig .tc := ⟨.hbm, 107, rfl⟩
abbrev main_while0c_v23 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_v0 : Ref sig .tc := ⟨.hbm, 111, rfl⟩
abbrev main_while0b_v23 : Ref sig .tc := ⟨.hbm, 112, rfl⟩
abbrev main_while0b_call4_c : Ref sig .tc := ⟨.hbm, 113, rfl⟩
abbrev main_while0b_call4_v0 : Ref sig .tc := ⟨.hbm, 114, rfl⟩
abbrev main_while0b_v24 : Ref sig .tc := ⟨.hbm, 115, rfl⟩
abbrev main_while0b_v25 : Ref sig .tc := ⟨.hbm, 116, rfl⟩
abbrev main_while0b_v26 : Ref sig .tc := ⟨.hbm, 117, rfl⟩
abbrev main_while0b_v27 : Ref sig .tc := ⟨.hbm, 118, rfl⟩
abbrev main_while0b_v28 : Ref sig .tc := ⟨.hbm, 119, rfl⟩
abbrev main_while0b_v29 : Ref sig .tc := ⟨.hbm, 120, rfl⟩
abbrev main_while0b_v30 : Ref sig .tc := ⟨.hbm, 121, rfl⟩
abbrev main_while0b_v31 : Ref sig .tc := ⟨.hbm, 122, rfl⟩
abbrev main_while0b_v32 : Ref sig .tc := ⟨.hbm, 123, rfl⟩
abbrev main_while0b_v33 : Ref sig .tc := ⟨.hbm, 124, rfl⟩
abbrev main_while0b_v34 : Ref sig .tc := ⟨.hbm, 125, rfl⟩
abbrev main_while0b_v35 : Ref sig .tc := ⟨.hbm, 126, rfl⟩
abbrev main_while0b_v36 : Ref sig .tc := ⟨.hbm, 127, rfl⟩
abbrev main_while0b_v37 : Ref sig .tc := ⟨.hbm, 128, rfl⟩
abbrev main_while0b_v38 : Ref sig .tc := ⟨.hbm, 129, rfl⟩
abbrev main_while0b_v39 : Ref sig .tc := ⟨.hbm, 130, rfl⟩
abbrev main_while0b_v40 : Ref sig .tc := ⟨.hbm, 131, rfl⟩
abbrev main_while0b_v41 : Ref sig .tc := ⟨.hbm, 132, rfl⟩
abbrev main_while0b_v42 : Ref sig .tc := ⟨.hbm, 133, rfl⟩
abbrev main_while0b_v43 : Ref sig .tc := ⟨.hbm, 134, rfl⟩
abbrev main_while0b_cst_7 : Ref sig .tc := ⟨.hbm, 135, rfl⟩
abbrev main_while0b_v44 : Ref sig .tc := ⟨.hbm, 136, rfl⟩
abbrev main_while0b_v45 : Ref sig .tc := ⟨.hbm, 137, rfl⟩
abbrev main_while0b_cst_8 : Ref sig .tc := ⟨.hbm, 138, rfl⟩
abbrev main_while0b_v46 : Ref sig .tc := ⟨.hbm, 139, rfl⟩
abbrev main_while0b_v47 : Ref sig .tc := ⟨.hbm, 140, rfl⟩
abbrev main_while0b_v48 : Ref sig .tc := ⟨.hbm, 141, rfl⟩
abbrev main_while0b_v49 : Ref sig .tc := ⟨.hbm, 142, rfl⟩
abbrev main_while0b_v50 : Ref sig .tc := ⟨.hbm, 143, rfl⟩
abbrev main_while0b_cst_9 : Ref sig .tc := ⟨.hbm, 144, rfl⟩
abbrev main_while0b_v51 : Ref sig .tc := ⟨.hbm, 145, rfl⟩
abbrev main_while0b_v52 : Ref sig .tc := ⟨.hbm, 146, rfl⟩
abbrev main_while0b_cst_10 : Ref sig .tc := ⟨.hbm, 147, rfl⟩
abbrev main_while0b_v53 : Ref sig .tc := ⟨.hbm, 148, rfl⟩
abbrev main_while0b_v54 : Ref sig .tc := ⟨.hbm, 149, rfl⟩
abbrev main_while0b_v55 : Ref sig .tc := ⟨.hbm, 150, rfl⟩
abbrev main_while0b_v56 : Ref sig .tc := ⟨.hbm, 151, rfl⟩
abbrev main_while0b_v57 : Ref sig .tc := ⟨.hbm, 152, rfl⟩
abbrev main_while0b_cst_11 : Ref sig .tc := ⟨.hbm, 153, rfl⟩
abbrev main_while0b_v58 : Ref sig .tc := ⟨.hbm, 154, rfl⟩
abbrev main_while0b_v59 : Ref sig .tc := ⟨.hbm, 155, rfl⟩
abbrev main_while0b_v60 : Ref sig .tc := ⟨.hbm, 156, rfl⟩
abbrev main_while0b_v61 : Ref sig .tc := ⟨.hbm, 157, rfl⟩
abbrev main_while0b_v62 : Ref sig .tc := ⟨.hbm, 158, rfl⟩
abbrev main_while0b_v63 : Ref sig .tc := ⟨.hbm, 159, rfl⟩
abbrev main_while0b_v64 : Ref sig .tc := ⟨.hbm, 160, rfl⟩
abbrev main_while0b_v65 : Ref sig .tc := ⟨.hbm, 161, rfl⟩
abbrev main_while0b_v66 : Ref sig .tc := ⟨.hbm, 162, rfl⟩
abbrev main_while0b_cst_12 : Ref sig .tc := ⟨.hbm, 163, rfl⟩
abbrev main_while0b_v67 : Ref sig .tc := ⟨.hbm, 164, rfl⟩
abbrev main_while0b_v68 : Ref sig .tc := ⟨.hbm, 165, rfl⟩
abbrev main_while0b_v69 : Ref sig .tc := ⟨.hbm, 166, rfl⟩
abbrev main_while0b_v70 : Ref sig .tc := ⟨.hbm, 167, rfl⟩
abbrev main_while0b_v71 : Ref sig .tc := ⟨.hbm, 168, rfl⟩
abbrev main_while0b_c_13 : Ref sig .tc := ⟨.hbm, 169, rfl⟩
abbrev main_while0b_v72 : Ref sig .tc := ⟨.hbm, 170, rfl⟩

abbrev nD : Nat := 1
abbrev τ : Topo := Topo.v7x

variable {F : FTy → Type} [FloatOps F]

abbrev main_while0_count : Scf.Loop 32 := ⟨0#32, 10#32, 1#32⟩
-- ==== Proof.Range.lean ====
/-
  What the precondition says of the two integer arguments: their words are row numbers of the tables they are looked up in.
-/
module

public import proofs.«01_k».proof.Pre_in_range
public import proofs.«01_k».proof.Proof.Gen.Pre_in_range
public import Idealize.ShloMosaic.Lib.ReduceAll
public import Idealize.ShloMosaic.Lib.WordCmp

@[expose] public section

namespace Cert.Proof.Range

open Idealize.ShloMosaic Cert.Pre_in_range

variable {F : FTy → Type} [FloatOps F] [hF : Cert.Pre_in_range.Facts]

/-- A word that is at least 0 and less than `n`, both signed, is a number below `n`. -/
theorem toNat_lt {v : BitVec 32} {n : ℕ} (hn : n < 2 ^ 31) (h0 : IntOp.cmpi .sge v 0#32 = 1#1) (h1 : IntOp.cmpi .slt v (BitVec.ofNat 32 n) = 1#1) :
    v.toNat < n := by
  have h0 := IntOp.cmpi_sge.1 h0
  have h1 := IntOp.cmpi_slt.1 h1
  rw [BitVec.toInt_eq_toNat_cond] at h0 h1
  rw [BitVec.toInt_eq_toNat_cond] at h0 h1
  simp only [BitVec.toNat_ofNat] at h0 h1
  have e : n % 2 ^ 32 = n := Nat.mod_eq_of_lt (by omega)
  rw [e] at h1
  split at h0 <;> split at h1 <;> omega

theorem and_ones {p q : BitVec 1} (h : IntOp.andi p q = 1#1) : p = 1#1 ∧ q = 1#1 := by
  revert p q; decide

/-- Every word of the triples is below 500, and every word of the history below a million. -/
theorem of_fn (a0 : IVec S16384x3 32) (a1 : IVec S16384x10 32) (a2 : IVec S16384 32) (a3 : FVec F S1000000x128 .f32) (a4 : FVec F S500x128 .f32)
    (a5 : FVec F S384x384 .f32) (a6 : FVec F S384x128 .f32) (a7 a8 : FVec F S384 .f32)
    (h : Cert.Pre_in_range.fn (F := F) a0 a1 a2 a3 a4 a5 a6 a7 a8 = fun _ => 1#1) :
    (∀ i, (a0 i).toNat < 500) ∧ (∀ i, (a1 i).toNat < 1000000) := by
  have e := congrFun h (fun a => a.elim0)
  unfold Cert.Pre_in_range.fn at e
  obtain ⟨e, e4⟩ := and_ones e
  obtain ⟨e, e3⟩ := and_ones e
  obtain ⟨e1, e2⟩ := and_ones e
  have s : Subsingleton S_.Idx := ⟨fun a b => funext fun i => i.elim0⟩
  exact ⟨fun i => toNat_lt (by decide) (Host.reduce_andi_all _ _ _ _ _ e1 i) (Host.reduce_andi_all _ _ _ _ _ e2 i),
    fun i => toNat_lt (by decide) (Host.reduce_andi_all _ _ _ _ _ e3 i) (Host.reduce_andi_all _ _ _ _ _ e4 i)⟩

end Cert.Proof.Range
-- ==== Proof.Streams.lean ====
/-
  One STREAM of a double-buffered gather: a buffer, the semaphore its gathers signal, the semaphore its write-backs
  signal. Trip `t` of the loop waits for the gather of block `2 t + b`, sends the buffer to its place in the output,
  and, if there is a block `2 (t + 1) + b`, waits for that copy and starts the gather of the next block. Two such
  streams (`b = 0, 1`) share the loop and touch nothing of one another's: each reads its own share of the table and of
  the list of row numbers. Everything here is about any such stream: the table, the list, the output and the number of
  trips are parameters, and so is what block `j` is to hold (`val j`).
-/
module

public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Pipeline.Kit
public import Idealize.ShloMosaic.Lib.Tactic

@[expose] public section

noncomputable section

namespace Cert.Proof.Streams

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name] [Infinite Name]
variable {U : Type} [URA U] {Lvl : Type} [Preorder Lvl] {Λ : Labels}
variable {defs : Defs nD τ sig (Elt F) Λ} (EC : UEmb Counters (MT nD τ sig Ix (Elt F) Name U Lvl))
variable [EC.LandsIn (upEmb : UEmb _ (MT nD τ sig Ix (Elt F) Name U Lvl))]
variable (𝒱 : Variants) (c : Thread nD τ) (bd : Option 𝒱.V) (ι : Ix)

local notation "𝕄" => MT nD τ sig Ix (Elt F) Name U Lvl

/-- What the thread owes, its record of waits grown by entries at index `ι` only. -/
def owesP (O : CellTallies nD τ sig Ix) (W : Waits sig Ix) : sProp 𝕄 :=
  iprop(∃ W', ⌜∀ p ∈ W', p ∈ W ∨ p.2 = ι⌝ ∗ owes c O W')

theorem owesP_intro (O : CellTallies nD τ sig Ix) (W : Waits sig Ix) : (owes c O W : sProp 𝕄) ⊢ owesP c ι O W := by
  unfold owesP
  iintro H
  iexists W
  isplitr
  · ipureintro; exact fun p hp => Or.inl hp
  · iexact H

/-- A wait of the local copy or gather in flight on `sem`: it delivers, and the counter is back at zero. -/
theorem step_wait {s' : Shape} {e' : EltTy} {κ' : Kind} {sp sp' : Space} {s : Shape} {e : EltTy} {sem : DmaSem sig}
    {srcw : Memref sig c.2.kind sp' s' e'} {dstw : Memref sig κ' sp s e} {hsrc : srcw.view.WordExact} {hdst : dstw.view.WordExact}
    {N : ℕ} (hN : dstw.view.dmaCredit = N) {D : sProp 𝕄} {O : CellTallies nD τ sig Ix} {W : Waits sig Ix} {Q : PUnit → sProp 𝕄} :
    iprop(Transfers.Flight EC c (.dma sem) ι N D ∗ owesP c ι O W ∗ Transfers.MayWaits c ι O)
      ⊢ iprop((iprop(D ∗ semVal (c, .dma sem) 0 ∗ owesP c ι O W) -∗ Q ⟨⟩)
        -∗ wp frame (wpE defs 𝒱 c bd) Set.univ (Prog.lift (.waitDma2 sem srcw dstw hsrc hdst)) Q) := by
  unfold owesP
  iintro ⟨Hf, ⟨%W', %hW', HO⟩, Hmw⟩ Hk
  ihave Hmw' := (Transfers.MayWaits.elim (SemLoc.dma sem)) $$ Hmw
  iapply (Transfers.wp_waitLocalO EC 𝒱 c bd ι hN (k := fun x => .ret x)) $$ [Hf HO Hmw']
  · iframe Hf HO Hmw'
  iintro ⟨HD, Hv, HO⟩
  rw [wp_ret]
  imodintro
  iapply Hk
  iframe HD Hv
  iexists _
  isplitr [HO]
  swap
  · iexact HO
  · ipureintro
    intro p hp
    rcases Finset.mem_insert.mp hp with rfl | hp
    · exact Or.inr rfl
    · exact hW' p hp

/-- The buffer seen through `m` reads as `v`. -/
def HoldsIn {κ : Kind} {sp : Space} {s : Shape} {e : EltTy} (m : Memref sig κ sp s e) (v : s.Idx → Elt F e) (f : m.view.ty.Contents (Elt F)) : Prop :=
  ∀ y, m.view.read (Elt F) f y = v y

variable {s₀ s si : Shape} {e : EltTy} {a : Nat}
  (g w : DmaSem sig) (tb : Memref sig c.2.kind .hbm s₀ e) (buf : Memref sig c.2.kind .vmem s e) (N Nw : ℕ)
  (RT RL : sProp (MT nD τ sig Ix (Elt F) Name U Lvl))

/-- A buffer at some contents that read as `v`. -/
def bufAt (v : s.Idx → Elt F e) : sProp 𝕄 := iprop(∃ f, ⌜HoldsIn buf v f⌝ ∗ (buf.view.loc c ↦{fullShare} f))

/-- A buffer at contents not told. -/
def bufAny : sProp 𝕄 := iprop(∃ f : Buf (Elt F) (buf.view.loc c), (buf.view.loc c ↦{fullShare} f))

/-- The gather of contents `v` is on its way into the buffer; with it come back the shares of the table and of the list. -/
def Gathering (v : s.Idx → Elt F e) : sProp 𝕄 :=
  Transfers.Flight EC c (.dma g) ι N iprop(bufAt c buf v ∗ RT ∗ RL)

/-- The buffer is on its way to the output; the wait gives the finished block `dn` and the buffer. -/
def Sending (dn : sProp (MT nD τ sig Ix (Elt F) Name U Lvl)) : sProp 𝕄 :=
  Transfers.Flight EC c (.dma w) ι Nw iprop(dn ∗ bufAny (Ix := Ix) (Name := Name) (U := U) (Lvl := Lvl) (F := F) c buf)

theorem bufAny_of_bufAt (v : s.Idx → Elt F e) : (bufAt c buf v : sProp 𝕄) ⊢ bufAny c buf := by
  unfold bufAt bufAny
  iintro ⟨%f, -, H⟩
  iexists f
  iexact H

/-- A list of row numbers, all of them rows of the table, naming at each row of the block what `v` says of that row. -/
def Names {hg : s₀.Gathers a s} (T : s₀.Idx → Elt F e) (l : si.Idx → Elt F .i32) (hn : si.numel = s.size hg.axis') (v : s.Idx → Elt F e) : Prop :=
  ∃ hin : ∀ x, (l x).toNat < s₀.size hg.axis, ∀ y, SparseCore.gatherPayload hg T (SparseCore.rows l hn hin) y = v y

/-- Starting the gather of a block. -/
theorem step_gather {hg : s₀.Gathers a s} {row : Memref sig c.2.kind .vmem si .i32} {hn : si.numel = s.size hg.axis'}
    {hp : c.2.kind = .scVector} {hsrc : tb.view.WordExact} {he : e.bits = 32} {hsp : Space.hbm = .hbm ∨ Space.hbm = .shared} {hr : s₀.StreamRows a}
    (hN : ∑ j, (buf.slice (s.rowRect hg.axis' j) (s.stride_rowRect hg.axis' j)).view.dmaCredit = N) (hs : 0 < s.numel)
    {q qo : PosShare TreeShare} {T : Buf (Elt F) (tb.view.loc c)} {fo : Buf (Elt F) (row.view.loc c)}
    (hT : RT = (tb.view.loc c ↦{q} T)) (hL : RL = (row.view.loc c ↦{qo} fo)) {v : s.Idx → Elt F e}
    (hv : Names (hg := hg) (tb.view.read (Elt F) T) (row.view.read (Elt F) fo) hn v) {Q : PUnit → sProp 𝕄} :
    iprop(RT ∗ RL ∗ bufAny c buf ∗ semVal (c, .dma g) 0)
      ⊢ iprop((Gathering EC c ι g buf N RT RL v -∗ Q ⟨⟩)
        -∗ wp frame (wpE defs 𝒱 c bd) Set.univ (SparseCore.enqueueIndirectGather hp tb buf hg row hn g hsrc he hsp hr) Q) := by
  obtain ⟨hin, hval⟩ := hv
  subst hT hL
  unfold bufAny Gathering
  iintro ⟨HT, HL, ⟨%f, Hb⟩, Hv⟩ Hk
  iapply (SparseCore.wp_gatherFromWhole EC 𝒱 c bd ι N hN hs hin (hp := hp) (hsrc := hsrc) (he := he) (hsp := hsp) (hr := hr) (k := fun x => .ret x)) $$ [HT HL Hb Hv]
  · iframe HT Hb HL Hv
  iintro Hf
  rw [wp_ret]
  imodintro
  iapply Hk
  iapply (Transfers.Flight_mono EC c ?_) $$ Hf
  unfold bufAt
  iintro ⟨Hb, HT, HL⟩
  iframe HT HL
  iexists _
  isplitr [Hb]
  swap
  · iexact Hb
  · ipureintro
    intro y
    rw [View.read_write_of_mem _ _ (Finset.mem_univ y)]
    exact hval y

/-- Starting the copy of a gathered block to its place. -/
theorem step_send {out : Memref sig c.2.kind .hbm s e} {hsrc : buf.view.WordExact} {hdst : out.view.WordExact}
    {hsem : DmaTarget.Typed (nD := nD) .vmem (.dma w) (.here out)}
    (hN : out.view.amount (.dma w) = Nw) (hN0 : 0 < Nw) {v : s.Idx → Elt F e} {td dn : sProp (MT nD τ sig Ix (Elt F) Name U Lvl)}
    (htd : td ⊢ ∃ f, (out.view.loc c ↦[out.view.set]{fullShare} f))
    (hdn : ∀ f, HoldsIn out v f → ((out.view.loc c ↦[out.view.set]{fullShare} f) ⊢ dn)) {Q : PUnit → sProp 𝕄} :
    iprop(bufAt c buf v ∗ td ∗ semVal (c, .dma w) 0)
      ⊢ iprop((Sending EC c ι w buf Nw dn -∗ Q ⟨⟩)
        -∗ wp frame (wpE defs 𝒱 c bd) Set.univ (Prog.lift (.enqueueDma buf (.here out) (.dma w) hsrc hdst hsem)) Q) := by
  unfold bufAt Sending
  iintro ⟨⟨%f, %hf, Hb⟩, Htd, Hv⟩ Hk
  ihave ⟨%fd, Hd⟩ := htd $$ Htd
  iapply (Transfers.wp_dmaFromWhole EC 𝒱 c bd ι Nw hN hN0 (Finset.Subset.refl _) (k := fun x => .ret x)) $$ [Hb Hd Hv]
  · iframe Hb Hd Hv
  iintro Hf
  rw [wp_ret]
  imodintro
  iapply Hk
  iapply (Transfers.Flight_mono EC c ?_) $$ Hf
  unfold bufAny
  iintro ⟨Hd, Hb⟩
  isplitl [Hd]
  · iapply (hdn _ ?_) $$ Hd
    intro y
    rw [View.read_write_of_mem _ _ (Finset.mem_univ y)]
    exact hf y
  · iexists f
    iexact Hb

/-- Fetching the tile's sheet of the list into its scratch. -/
theorem step_fetch {sl : Shape} {el : EltTy} {src : Memref sig c.2.kind .hbm sl el} {lst : Memref sig c.2.kind .vmem sl el} {sm : DmaSem sig} {Nl : ℕ}
    {hsrc : src.view.WordExact} {hdst : lst.view.WordExact} {hsem : DmaTarget.Typed (nD := nD) .hbm (.dma sm) (.here lst)}
    (hN : lst.view.amount (.dma sm) = Nl) (hN0 : 0 < Nl)
    {q : PosShare TreeShare} {fs : Buf (Elt F) (src.view.loc c)} {Q : PUnit → sProp 𝕄} :
    iprop((src.view.loc c ↦{q} fs) ∗ bufAny c lst ∗ semVal (c, .dma sm) 0)
      ⊢ iprop((Transfers.Flight EC c (.dma sm) ι Nl iprop(bufAt c lst (src.view.read (Elt F) fs) ∗ (src.view.loc c ↦{q} fs)) -∗ Q ⟨⟩)
        -∗ wp frame (wpE defs 𝒱 c bd) Set.univ (Prog.lift (.enqueueDma src (.here lst) (.dma sm) hsrc hdst hsem)) Q) := by
  unfold bufAny bufAt
  iintro ⟨Hs, ⟨%fd, Hd⟩, Hv⟩ Hk
  iapply (Transfers.wp_dmaFromWhole EC 𝒱 c bd ι Nl hN hN0 (Sd := Finset.univ) (Finset.subset_univ _) (k := fun x => .ret x)) $$ [Hs Hd Hv]
  · iframe Hs Hd Hv
  iintro Hf
  rw [wp_ret]
  imodintro
  iapply Hk
  iapply (Transfers.Flight_mono EC c ?_) $$ Hf
  iintro ⟨Hd, Hs⟩
  iframe Hs
  iexists _
  isplitr [Hd]
  swap
  · iexact Hd
  · ipureintro
    intro y
    rw [View.read_write_of_mem _ _ (Finset.mem_univ y)]

/-- One trip of one stream. -/
def halfTrip {hg : s₀.Gathers a s} {hn : si.numel = s.size hg.axis'} (hp : c.2.kind = .scVector) (hsrc : tb.view.WordExact) (hb : buf.view.WordExact)
    (he : e.bits = 32) (hsp : Space.hbm = .hbm ∨ Space.hbm = .shared) (hr : s₀.StreamRows a)
    (out : Memref sig c.2.kind .hbm s e) (hout : out.view.WordExact) (hsem : DmaTarget.Typed (nD := nD) .vmem (.dma w) (.here out))
    (cond : Prop) [Decidable cond] (out' : cond → Memref sig c.2.kind .hbm s e) (hout' : ∀ h, (out' h).view.WordExact)
    (row : cond → Memref sig c.2.kind .vmem si .i32) : Prog (TpuEff nD τ sig (Elt F) Λ c.2) PUnit := do
  SparseCore.waitIndirectGather g tb buf hsrc hb
  Prog.lift (.enqueueDma buf (.here out) (.dma w) hb hout hsem)
  if h : cond then do
    Prog.lift (.waitDma2 w buf (out' h) hb (hout' h))
    SparseCore.enqueueIndirectGather hp tb buf hg (row h) hn g hsrc he hsp hr
    pure ⟨⟩
  else do
    pure ⟨⟩

/-- One trip of a stream that another block follows: block `v` ends at its place, and the gather of `v'` is on its way. -/
theorem halfTrip_more {hg : s₀.Gathers a s} {hn : si.numel = s.size hg.axis'} {hp : c.2.kind = .scVector} {hsrc : tb.view.WordExact} {hb : buf.view.WordExact}
    {he : e.bits = 32} {hsp : Space.hbm = .hbm ∨ Space.hbm = .shared} {hr : s₀.StreamRows a}
    {out : Memref sig c.2.kind .hbm s e} {hout : out.view.WordExact} {hsem : DmaTarget.Typed (nD := nD) .vmem (.dma w) (.here out)}
    {cond : Prop} [Decidable cond] {out' : cond → Memref sig c.2.kind .hbm s e} {hout' : ∀ h, (out' h).view.WordExact}
    {row : cond → Memref sig c.2.kind .vmem si .i32} (hc : cond)
    (hNb : buf.view.dmaCredit = N) (hNo : (out' hc).view.dmaCredit = Nw)
    (hN : ∑ j, (buf.slice (s.rowRect hg.axis' j) (s.stride_rowRect hg.axis' j)).view.dmaCredit = N) (hs : 0 < s.numel)
    (hNa : out.view.amount (.dma w) = Nw) (hN0 : 0 < Nw)
    {q qo : PosShare TreeShare} {T : Buf (Elt F) (tb.view.loc c)} {fo : Buf (Elt F) ((row hc).view.loc c)}
    (hT : RT = (tb.view.loc c ↦{q} T)) (hL : RL = ((row hc).view.loc c ↦{qo} fo)) {v v' : s.Idx → Elt F e}
    (hv : Names (hg := hg) (tb.view.read (Elt F) T) ((row hc).view.read (Elt F) fo) hn v')
    {td dn : sProp (MT nD τ sig Ix (Elt F) Name U Lvl)}
    (htd : td ⊢ ∃ f, (out.view.loc c ↦[out.view.set]{fullShare} f))
    (hdn : ∀ f, HoldsIn out v f → ((out.view.loc c ↦[out.view.set]{fullShare} f) ⊢ dn))
    {O : CellTallies nD τ sig Ix} {W : Waits sig Ix} {Q : PUnit → sProp 𝕄} :
    iprop(Gathering EC c ι g buf N RT RL v ∗ semVal (c, .dma w) 0 ∗ td ∗ owesP c ι O W ∗ Transfers.MayWaits c ι O)
      ⊢ iprop((iprop(Gathering EC c ι g buf N RT RL v' ∗ semVal (c, .dma w) 0 ∗ dn ∗ owesP c ι O W) -∗ Q ⟨⟩)
        -∗ wp frame (wpE defs 𝒱 c bd) Set.univ
          (halfTrip c g w tb buf (hg := hg) (hn := hn) hp hsrc hb he hsp hr out hout hsem cond out' hout' row) Q) := by
  unfold halfTrip
  rw [dif_pos hc]
  simp only [wp_bind]
  iintro ⟨HG, Hv, Htd, HO, #Hmw⟩ Hk
  iapply (step_wait EC 𝒱 c bd ι hNb) $$ [HG HO]
  · unfold Gathering
    iframe HG HO Hmw
  iintro ⟨⟨Hb, HT, HL⟩, Hg, HO⟩
  iapply (step_send EC 𝒱 c bd ι w buf Nw hNa hN0 htd hdn) $$ [Hb Htd Hv]
  · iframe Hb Htd Hv
  iintro HS
  iapply (step_wait EC 𝒱 c bd ι hNo) $$ [HS HO]
  · unfold Sending
    iframe HS HO Hmw
  iintro ⟨⟨Hdn, Hb⟩, Hv, HO⟩
  iapply (step_gather EC 𝒱 c bd ι g tb buf N RT RL hN hs hT hL hv (hp := hp) (hsrc := hsrc) (he := he) (hsp := hsp) (hr := hr)) $$ [HT HL Hb Hg]
  · iframe HT HL Hb Hg
  iintro HG
  rw [wp_pure]
  imodintro
  iapply Hk
  iframe HG Hv Hdn HO

/-- The last trip of a stream: its block is on its way to its place. -/
theorem halfTrip_last {hg : s₀.Gathers a s} {hn : si.numel = s.size hg.axis'} {hp : c.2.kind = .scVector} {hsrc : tb.view.WordExact} {hb : buf.view.WordExact}
    {he : e.bits = 32} {hsp : Space.hbm = .hbm ∨ Space.hbm = .shared} {hr : s₀.StreamRows a}
    {out : Memref sig c.2.kind .hbm s e} {hout : out.view.WordExact} {hsem : DmaTarget.Typed (nD := nD) .vmem (.dma w) (.here out)}
    {cond : Prop} [Decidable cond] {out' : cond → Memref sig c.2.kind .hbm s e} {hout' : ∀ h, (out' h).view.WordExact}
    {row : cond → Memref sig c.2.kind .vmem si .i32} (hc : ¬ cond)
    (hNb : buf.view.dmaCredit = N) (hNa : out.view.amount (.dma w) = Nw) (hN0 : 0 < Nw) {v : s.Idx → Elt F e}
    {td dn : sProp (MT nD τ sig Ix (Elt F) Name U Lvl)}
    (htd : td ⊢ ∃ f, (out.view.loc c ↦[out.view.set]{fullShare} f))
    (hdn : ∀ f, HoldsIn out v f → ((out.view.loc c ↦[out.view.set]{fullShare} f) ⊢ dn))
    {O : CellTallies nD τ sig Ix} {W : Waits sig Ix} {Q : PUnit → sProp 𝕄} :
    iprop(Gathering EC c ι g buf N RT RL v ∗ semVal (c, .dma w) 0 ∗ td ∗ owesP c ι O W ∗ Transfers.MayWaits c ι O)
      ⊢ iprop((iprop(Sending EC c ι w buf Nw dn ∗ RT ∗ RL ∗ semVal (c, .dma g) 0 ∗ owesP c ι O W) -∗ Q ⟨⟩)
        -∗ wp frame (wpE defs 𝒱 c bd) Set.univ
          (halfTrip c g w tb buf (hg := hg) (hn := hn) hp hsrc hb he hsp hr out hout hsem cond out' hout' row) Q) := by
  unfold halfTrip
  rw [dif_neg hc]
  simp only [wp_bind]
  iintro ⟨HG, Hv, Htd, HO, #Hmw⟩ Hk
  iapply (step_wait EC 𝒱 c bd ι hNb) $$ [HG HO]
  · unfold Gathering
    iframe HG HO Hmw
  iintro ⟨⟨Hb, HT, HL⟩, Hg, HO⟩
  iapply (step_send EC 𝒱 c bd ι w buf Nw hNa hN0 htd hdn) $$ [Hb Htd Hv]
  · iframe Hb Htd Hv
  iintro HS
  rw [wp_pure]
  imodintro
  iapply Hk
  iframe HS HT HL Hg HO

/-! ## The stream over its loop -/

variable (n : ℕ) (val : ℕ → s.Idx → Elt F e) (td dn : ℕ → sProp (MT nD τ sig Ix (Elt F) Name U Lvl))

/-- The stream before trip `t` of `n`: the gather of its block `t` is on its way, the blocks before `t` are in place, the
    places of those from `t` on untouched; after the last trip, its last block is on its way to its place. -/
def St (t : ℕ) : sProp 𝕄 :=
  iprop((if t < n then iprop(Gathering EC c ι g buf N RT RL (val t) ∗ semVal (c, .dma w) 0)
      else iprop(Sending EC c ι w buf Nw (dn (n - 1)) ∗ RT ∗ RL ∗ semVal (c, .dma g) 0))
    ∗ bigSep (Finset.range (min t (n - 1))) dn ∗ bigSep (Finset.Ico t n) td)

/-- The stream before its first trip. -/
theorem St_zero (hn : 0 < n) :
    iprop(Gathering EC c ι g buf N RT RL (val 0) ∗ semVal (c, .dma w) 0 ∗ bigSep (Finset.range n) td)
      ⊢ (St EC c ι g w buf N Nw RT RL n val td dn 0 : sProp 𝕄) := by
  unfold St
  rw [if_pos hn, Nat.zero_min, Finset.range_zero, bigSep_empty, ← Finset.range_eq_Ico]
  iintro ⟨HG, Hv, Ht⟩
  iframe HG Hv Ht
  exact BI.Entails.refl _

/-- What trip `t` needs of its operands: the amounts that its copies and waits name, the places it writes (`td t` before,
    `dn t` after), the list row that it starts the next gather by. -/
structure StepOK {hg : s₀.Gathers a s} {hn : si.numel = s.size hg.axis'} (out : Memref sig c.2.kind .hbm s e)
    (cond : Prop) (out' : cond → Memref sig c.2.kind .hbm s e) (row : cond → Memref sig c.2.kind .vmem si .i32) (t : ℕ) : Prop where
  hc : cond ↔ t + 1 < n
  hNb : buf.view.dmaCredit = N
  hNo : ∀ h, (out' h).view.dmaCredit = Nw
  hN : ∑ j, (buf.slice (s.rowRect hg.axis' j) (s.stride_rowRect hg.axis' j)).view.dmaCredit = N
  hs : 0 < s.numel
  hNa : out.view.amount (.dma w) = Nw
  hN0 : 0 < Nw
  hv : ∃ (q : PosShare TreeShare) (T : Buf (Elt F) (tb.view.loc c)), RT = (tb.view.loc c ↦{q} T)
    ∧ ∀ h, ∃ (qo : PosShare TreeShare) (fo : Buf (Elt F) ((row h).view.loc c)), RL = ((row h).view.loc c ↦{qo} fo)
      ∧ Names (hg := hg) (tb.view.read (Elt F) T) ((row h).view.read (Elt F) fo) hn (val (t + 1))
  htd : td t ⊢ ∃ f, (out.view.loc c ↦[out.view.set]{fullShare} f)
  hdn : ∀ f, HoldsIn out (val t) f → ((out.view.loc c ↦[out.view.set]{fullShare} f) ⊢ dn t)

/-- One trip of the stream. -/
theorem St_step {hg : s₀.Gathers a s} {hn : si.numel = s.size hg.axis'} {hp : c.2.kind = .scVector} {hsrc : tb.view.WordExact} {hb : buf.view.WordExact}
    {he : e.bits = 32} {hsp : Space.hbm = .hbm ∨ Space.hbm = .shared} {hr : s₀.StreamRows a}
    {out : Memref sig c.2.kind .hbm s e} {hout : out.view.WordExact} {hsem : DmaTarget.Typed (nD := nD) .vmem (.dma w) (.here out)}
    {cond : Prop} [Decidable cond] {out' : cond → Memref sig c.2.kind .hbm s e} {hout' : ∀ h, (out' h).view.WordExact}
    {row : cond → Memref sig c.2.kind .vmem si .i32} {t : ℕ} (ht : t < n)
    (ok : StepOK c w tb buf N Nw RT RL n val td dn (hg := hg) (hn := hn) out cond out' row t)
    {O : CellTallies nD τ sig Ix} {W : Waits sig Ix} {Q : PUnit → sProp 𝕄} :
    iprop(St EC c ι g w buf N Nw RT RL n val td dn t ∗ owesP c ι O W ∗ Transfers.MayWaits c ι O)
      ⊢ iprop((iprop(St EC c ι g w buf N Nw RT RL n val td dn (t + 1) ∗ owesP c ι O W) -∗ Q ⟨⟩)
        -∗ wp frame (wpE defs 𝒱 c bd) Set.univ
          (halfTrip c g w tb buf (hg := hg) (hn := hn) hp hsrc hb he hsp hr out hout hsem cond out' hout' row) Q) := by
  obtain ⟨hc, hNb, hNo, hN, hs, hNa, hN0, ⟨q, T, hT, hv⟩, htd, hdn⟩ := ok
  have hI : (bigSep (Finset.Ico t n) td : sProp 𝕄) = iprop(td t ∗ bigSep (Finset.Ico (t + 1) n) td) := by
    rw [show Finset.Ico t n = insert t (Finset.Ico (t + 1) n) by ext x; simp only [Finset.mem_insert, Finset.mem_Ico]; omega,
      SparseCore.bigSep_insert' (by simp)]
  unfold St
  rw [if_pos ht, hI]
  iintro ⟨⟨⟨HG, Hv⟩, Hd, Ht, Hts⟩, HO, Hmw⟩ Hk
  by_cases h1 : t + 1 < n
  · rw [if_pos h1]
    obtain ⟨qo, fo, hL, hv⟩ := hv (hc.mpr h1)
    iapply (halfTrip_more EC 𝒱 c bd ι g w tb buf N Nw RT RL (hp := hp) (hsrc := hsrc) (he := he) (hsp := hsp) (hr := hr)
      (hc.mpr h1) hNb (hNo _) hN hs hNa hN0 hT hL hv htd hdn) $$ [HG Hv Ht HO Hmw]
    · iframe HG Hv Ht HO Hmw
    iintro ⟨HG, Hv, Hdn, HO⟩
    iapply Hk
    rw [show min t (n - 1) = t by omega, show min (t + 1) (n - 1) = t + 1 by omega, Finset.range_add_one,
      SparseCore.bigSep_insert' (by simp)]
    iframe HG Hv Hd Hdn Hts HO
  · rw [if_neg h1]
    iapply (halfTrip_last EC 𝒱 c bd ι g w tb buf N Nw RT RL (hp := hp) (hsrc := hsrc) (he := he) (hsp := hsp) (hr := hr)
      (fun h => h1 (hc.mp h)) hNb hNa hN0 htd hdn) $$ [HG Hv Ht HO Hmw]
    · iframe HG Hv Ht HO Hmw
    iintro ⟨HS, HT, HL, Hg, HO⟩
    iapply Hk
    have e : n - 1 = t := by omega
    rw [e, show min t t = t by omega, show min (t + 1) t = t by omega]
    iframe HS HT HL Hg Hd Hts HO

/-- The stream's last wait: every block is in its place, and all that the stream borrowed is back. -/
theorem St_end (hn : 0 < n) {out : Memref sig c.2.kind .hbm s e} {hb : buf.view.WordExact} {hout : out.view.WordExact}
    (hNo : out.view.dmaCredit = Nw)
    {O : CellTallies nD τ sig Ix} {W : Waits sig Ix} {Q : PUnit → sProp 𝕄} :
    iprop(St EC c ι g w buf N Nw RT RL n val td dn n ∗ owesP c ι O W ∗ Transfers.MayWaits c ι O)
      ⊢ iprop((iprop(bigSep (Finset.range n) dn ∗ bufAny c buf ∗ RT ∗ RL ∗ semVal (c, .dma g) 0 ∗ semVal (c, .dma w) 0 ∗ owesP c ι O W) -∗ Q ⟨⟩)
        -∗ wp frame (wpE defs 𝒱 c bd) Set.univ (Prog.lift (.waitDma2 w buf out hb hout)) Q) := by
  unfold St
  rw [if_neg (lt_irrefl n), show min n (n - 1) = n - 1 by omega, Finset.Ico_self, bigSep_empty]
  iintro ⟨⟨⟨HS, HT, HL, Hg⟩, Hd, -⟩, HO, Hmw⟩ Hk
  iapply (step_wait EC 𝒱 c bd ι hNo) $$ [HS HO Hmw]
  · unfold Sending
    iframe HS HO Hmw
  iintro ⟨⟨Hdn, Hb⟩, Hv, HO⟩
  iapply Hk
  have e : n = (n - 1) + 1 := by omega
  rw [show Finset.range n = insert (n - 1) (Finset.range (n - 1)) by rw [← Finset.range_add_one, ← e], SparseCore.bigSep_insert' (by simp)]
  iframe Hdn Hd Hb HT HL Hg Hv HO

/-- A loop whose every trip is a trip of each of two streams. -/
theorem loop_wp {lb ub st : BitVec 32} {hok : Scf.OK lb ub st} (hn : n = Scf.trips lb ub st)
    (body : Fin (Scf.trips lb ub st) → PUnit → Prog (TpuEff nD τ sig (Elt F) Λ c.2) PUnit) (S₀ S₁ : ℕ → sProp (MT nD τ sig Ix (Elt F) Name U Lvl))
    {O : CellTallies nD τ sig Ix} {W : Waits sig Ix}
    (h₀ h₁ : Fin (Scf.trips lb ub st) → Prog (TpuEff nD τ sig (Elt F) Λ c.2) PUnit)
    (hbody : ∀ t, body t ⟨⟩ = (do h₀ t; h₁ t; pure ⟨⟩))
    (step₀ : ∀ (t : Fin (Scf.trips lb ub st)) (Q : PUnit → sProp 𝕄), iprop(S₀ t.val ∗ owesP c ι O W ∗ Transfers.MayWaits c ι O)
      ⊢ iprop((iprop(S₀ (t.val + 1) ∗ owesP c ι O W) -∗ Q ⟨⟩) -∗ wp frame (wpE defs 𝒱 c bd) Set.univ (h₀ t) Q))
    (step₁ : ∀ (t : Fin (Scf.trips lb ub st)) (Q : PUnit → sProp 𝕄), iprop(S₁ t.val ∗ owesP c ι O W ∗ Transfers.MayWaits c ι O)
      ⊢ iprop((iprop(S₁ (t.val + 1) ∗ owesP c ι O W) -∗ Q ⟨⟩) -∗ wp frame (wpE defs 𝒱 c bd) Set.univ (h₁ t) Q))
    {Q : PUnit → sProp 𝕄} :
    iprop(S₀ 0 ∗ S₁ 0 ∗ owesP c ι O W ∗ Transfers.MayWaits c ι O)
      ⊢ iprop((iprop(S₀ n ∗ S₁ n ∗ owesP c ι O W) -∗ Q ⟨⟩)
        -∗ wp frame (wpE defs 𝒱 c bd) Set.univ (Scf.for lb ub st hok ⟨⟩ body) Q) := by
  subst hn
  iintro ⟨H₀, H₁, HO, #Hmw⟩ Hk
  iapply (Scf.wp_for frame (wpE defs 𝒱 c bd) Set.univ lb ub st hok ⟨⟩ body
    (fun t _ => iprop(S₀ t ∗ S₁ t ∗ owesP c ι O W ∗ Transfers.MayWaits c ι O)) ?_)
  · intro t acc
    rw [hbody t]
    simp only [wp_bind]
    iintro ⟨H₀, H₁, HO, #Hmw⟩
    iapply (step₀ t _) $$ [H₀ HO]
    · iframe H₀ HO Hmw
    iintro ⟨H₀, HO⟩
    iapply (step₁ t _) $$ [H₁ HO]
    · iframe H₁ HO Hmw
    iintro ⟨H₁, HO⟩
    rw [wp_pure]
    imodintro
    iframe H₀ H₁ HO Hmw
  · isplitl [H₀ H₁ HO]
    · iframe H₀ H₁ HO Hmw
    · iintro %acc ⟨H₀, H₁, HO, -⟩
      iapply Hk
      iframe H₀ H₁ HO

end Cert.Proof.Streams

end
-- ==== Proof.Gather.lean ====
/-
  What a gather's blocks hold. A table of `R` rows of 128 numbers, and a list of row numbers laid out as 32 × n × 128,
  one `n × 128` sheet per tile: row `r` of the result is the table's row named by the list's `r`-th number, in row-major
  order. Tile `w` makes the result's blocks of 128 rows `w * n`, …, `w * n + n - 1`; block `k` depends on row `k` of
  the list seen as 32 n rows of 128.
-/
module

public import proofs.«01_k».proof.Proof.Streams

@[expose] public section

noncomputable section

namespace Cert.Proof.Gather

open Idealize.ShloMosaic
open Cert.Proof.Streams

variable {α : Type} {R n : ℕ} [NeZero R] [NeZero n]

/-- An index of a rank-3 array from its coordinates, each wrapped into its extent. -/
def tri (n : ℕ) [NeZero n] (w j k : ℕ) : (⟨3, ![32, n, 128]⟩ : Shape).Idx := fun a =>
  match a with
  | 0 => Fin.ofNat 32 w
  | 1 => Fin.ofNat n j
  | 2 => Fin.ofNat 128 k

theorem tri_eta (x : (⟨3, ![32, n, 128]⟩ : Shape).Idx) : tri n (x 0).val (x 1).val (x 2).val = x := by
  funext a
  match a with
  | 0 => exact Fin.ext (Nat.mod_eq_of_lt (x 0).isLt)
  | 1 => exact Fin.ext (Nat.mod_eq_of_lt (x 1).isLt)
  | 2 => exact Fin.ext (Nat.mod_eq_of_lt (x 2).isLt)

/-- Element `(r, y)` of the gather: the table's row named by number `r` of the list, at column `y`. -/
def lookN (T : (⟨2, ![R, 128]⟩ : Shape).Idx → α) (L : (⟨3, ![32, n, 128]⟩ : Shape).Idx → BitVec 32) (r : ℕ) (y : Fin 128) : α :=
  T (Shape.pair (d := ![R, 128]) (Fin.ofNat R (L (tri n (r / 128 / n) (r / 128 % n) (r % 128))).toNat) y)

/-- The gather as an array of `M` rows. -/
def look (M : ℕ) (T : (⟨2, ![R, 128]⟩ : Shape).Idx → α) (L : (⟨3, ![32, n, 128]⟩ : Shape).Idx → BitVec 32) :
    (⟨2, ![M, 128]⟩ : Shape).Idx → α := fun p => lookN T L (p 0).val (p 1)

/-- Block `k` of the gather: its rows `128 k` to `128 k + 127`. -/
def blk (T : (⟨2, ![R, 128]⟩ : Shape).Idx → α) (L : (⟨3, ![32, n, 128]⟩ : Shape).Idx → BitVec 32) (k : ℕ) :
    (⟨2, ![128, 128]⟩ : Shape).Idx → α := fun y => lookN T L (k * 128 + (y 0).val) (y 1)

/-- Row `j` of sheet `w` names block `w n + j`. -/
theorem names_blk {F : FTy → Type} (T : (⟨2, ![R, 128]⟩ : Shape).Idx → Elt F .f32) (L : (⟨3, ![32, n, 128]⟩ : Shape).Idx → BitVec 32)
    (hin : ∀ x, (L x).toNat < R) (hg : (⟨2, ![R, 128]⟩ : Shape).Gathers 0 ⟨2, ![128, 128]⟩) {w j : ℕ} (hw : w < 32) (hj : j < n)
    (l : (⟨1, ![128]⟩ : Shape).Idx → Elt F .i32) (hl : ∀ k, l k = L (tri n w j (k 0).val)) (hn : (⟨1, ![128]⟩ : Shape).numel = 128) :
    Names (hg := hg) T l hn (blk T L (w * n + j)) := by
  refine ⟨fun x => by rw [hl]; exact hin _, fun y => ?_⟩
  unfold SparseCore.gatherPayload blk lookN
  congr 1
  funext b
  have hn0 : 0 < n := NeZero.pos n
  have hy0 : (y 0).val < 128 := (y 0).isLt
  match b with
  | 0 =>
    apply Fin.ext
    refine (congrArg Fin.val (hg.idx_axis _ y)).trans ?_
    show (l _).toNat = _ % R
    rw [hl, Nat.mod_eq_of_lt (hin _)]
    have e0 : (((⟨1, ![128]⟩ : Shape).rowMajor.symm ((y 0).cast hn.symm)) 0).val = (y 0).val := by
      rw [← Shape.rowMajor_val_one, Equiv.apply_symm_apply]; rfl
    have e1 : ((w * n + j) * 128 + (y 0).val) / 128 = w * n + j := by omega
    have e2 : (w * n + j) / n = w := by
      rw [Nat.add_comm, Nat.add_mul_div_right _ _ hn0, Nat.div_eq_of_lt hj, Nat.zero_add]
    have e3 : (w * n + j) % n = j := by
      rw [Nat.add_comm, Nat.add_mul_mod_self_right, Nat.mod_eq_of_lt hj]
    have e4 : ((w * n + j) * 128 + (y 0).val) % 128 = (y 0).val := by omega
    show (L (tri n w j (((⟨1, ![128]⟩ : Shape).rowMajor.symm ((y 0).cast hn.symm)) 0).val)).toNat = _
    rw [e0, e1, e2, e3, e4]
  | 1 => exact Fin.ext (hg.idx_of_ne _ y 1 Nat.one_ne_zero)

/-- The places of block `k` of an `M`-row array. -/
def cs (M k : ℕ) : Finset (⟨2, ![M, 128]⟩ : Shape).Idx := Finset.univ.filter fun p => (p 0).val / 128 = k

theorem mem_cs {M k : ℕ} {p : (⟨2, ![M, 128]⟩ : Shape).Idx} : p ∈ cs M k ↔ (p 0).val / 128 = k := by simp [cs]

theorem cs_disjoint (M : ℕ) {k k' : ℕ} (h : k ≠ k') : Disjoint (cs M k) (cs M k') :=
  Finset.disjoint_left.mpr fun _ hp hp' => h ((mem_cs.mp hp).symm.trans (mem_cs.mp hp'))

/-- The rectangle of 128 rows from row `128 k` is block `k`'s places, -/
theorem unit_set {M k : ℕ} {off : Fin 2 → ℕ} (h : off = ![k * 128, 0]) (inb : ∀ a, off a + (![128, 128] : Fin 2 → ℕ) a ≤ (![M, 128] : Fin 2 → ℕ) a) :
    (Rect.unit (s := ⟨2, ![M, 128]⟩) off ![128, 128] inb).set = cs M k := by
  subst h
  ext p
  rw [Rect.mem_set_unit, mem_cs]
  have h1 : (p 1).val < 128 := (p 1).isLt
  constructor
  · intro h
    have h0 : k * 128 ≤ (p 0).val ∧ (p 0).val < k * 128 + 128 := h 0
    omega
  · intro h a
    match a with
    | 0 => show k * 128 ≤ (p 0).val ∧ (p 0).val < k * 128 + 128; omega
    | 1 => show 0 ≤ (p 1).val ∧ (p 1).val < 0 + 128; omega

/-- and an array that reads there as block `k` agrees there with the gather. -/
theorem eq_look_of_read {M k : ℕ} {off : Fin 2 → ℕ} (h : off = ![k * 128, 0]) (inb : ∀ a, off a + (![128, 128] : Fin 2 → ℕ) a ≤ (![M, 128] : Fin 2 → ℕ) a)
    (T : (⟨2, ![R, 128]⟩ : Shape).Idx → α) (L : (⟨3, ![32, n, 128]⟩ : Shape).Idx → BitVec 32) (f : (⟨2, ![M, 128]⟩ : Shape).Idx → α)
    (hf : ∀ y, f ((Rect.unit (s := ⟨2, ![M, 128]⟩) off ![128, 128] inb).emb y) = blk T L k y) :
    ∀ p ∈ cs M k, f p = look M T L p := by
  intro p hp
  rw [← unit_set h inb, ← Rect.map_emb_univ] at hp
  obtain ⟨y, -, rfl⟩ := Finset.mem_map.mp hp
  rw [hf]
  subst h
  unfold blk look
  congr 1
  · show k * 128 + (y 0).val = k * 128 + 1 * (y 0).val
    omega
  · apply Fin.ext
    show (y 1).val = 0 + 1 * (y 1).val
    omega

/-- Row `j` of an `n × 128` list, as the 128 numbers that the row's view reads. -/
theorem row_emb {j : ℕ} (hj : j < n) {off : Fin 2 → ℕ} (h : off = ![j, 0]) (inb : ∀ a, off a + (![1, 128] : Fin 2 → ℕ) a ≤ (![n, 128] : Fin 2 → ℕ) a)
    (hq : (⟨1, ![128]⟩ : Shape).numel = (⟨2, ![1, 128]⟩ : Shape).numel) (k : (⟨1, ![128]⟩ : Shape).Idx) :
    (Rect.unit (s := ⟨2, ![n, 128]⟩) off ![1, 128] inb).emb (Shape.reshapeEquiv hq k) = Shape.pair (d := ![n, 128]) ⟨j, hj⟩ (k 0) := by
  subst h
  rw [show Shape.reshapeEquiv hq k = Fin.cons ⟨0, Nat.one_pos⟩ k from Shape.reshapeEquiv_cons_one (d := ![128]) hq k]
  funext a
  apply Fin.ext
  match a with
  | 0 => show j + 1 * 0 = j; omega
  | 1 => show 0 + 1 * (k 0).val = (k 0).val; omega

/-- Sheet `w` of the 32, as the `n × 128` numbers that the sheet's view reads. -/
theorem sheet_emb {w : ℕ} (hw : w < 32) {off : Fin 3 → ℕ} (h : off = ![w, 0, 0])
    (inb : ∀ a, off a + (![1, n, 128] : Fin 3 → ℕ) a ≤ (![32, n, 128] : Fin 3 → ℕ) a)
    (hq : (⟨2, ![n, 128]⟩ : Shape).numel = (⟨3, ![1, n, 128]⟩ : Shape).numel) (x : (⟨2, ![n, 128]⟩ : Shape).Idx) :
    (Rect.unit (s := ⟨3, ![32, n, 128]⟩) off ![1, n, 128] inb).emb (Shape.reshapeEquiv hq x) = tri n w (x 0).val (x 1).val := by
  subst h
  rw [show Shape.reshapeEquiv hq x = Fin.cons ⟨0, Nat.one_pos⟩ x from Shape.reshapeEquiv_cons_one (d := ![n, 128]) hq x]
  funext a
  apply Fin.ext
  match a with
  | 0 => show w + 1 * 0 = w % 32; rw [Nat.mod_eq_of_lt hw]; omega
  | 1 =>
    show 0 + 1 * (x 0).val = (x 0).val % n
    rw [Nat.mod_eq_of_lt (show (x 0).val < n from (x 0).isLt)]; omega
  | 2 =>
    show 0 + 1 * (x 1).val = (x 1).val % 128
    rw [Nat.mod_eq_of_lt (show (x 1).val < 128 from (x 1).isLt)]; omega

end Cert.Proof.Gather

end
-- ==== Proof.Parts.lean ====
/-
  A whole array as the tiles' parts of it: a separating conjunction over `A B` numbers as one over `A` groups of `B`, over 32
  tiles as one over 2 cores of 16 subcores, an array as its blocks of 128 rows, and its full share as 32 shares.
-/
module

public import proofs.«01_k».proof.Proof.Gather
public import Idealize.ShloMosaic.Lib.ShareLeaves
public import Idealize.ShloMosaic.Lib.SparseCore.Launch

@[expose] public section

noncomputable section

namespace Cert.Proof.Parts

open Idealize.ShloMosaic
open Idealize.SL Idealize.SL.RA Idealize.SL.BI
open scoped Idealize.SL.BI
open Idealize.SL.BI.BIBase Idealize.SL.BI.Laws Idealize.SL.ProofMode
open Cert.Proof.Gather

section Sums
variable {M : Type} [URA M] (Φ : ℕ → sProp M)

/-- Over `A + B` numbers: over the first `A`, and over the `B` after them. -/
theorem range_add (A B : ℕ) :
    bigSep (Finset.range (A + B)) Φ = iprop(bigSep (Finset.range A) Φ ∗ bigSep (Finset.range B) fun j => Φ (A + j)) := by
  classical
  have hset : Finset.range (A + B) = Finset.range A ∪ (Finset.range B).image (A + ·) := by
    ext k
    simp only [Finset.mem_union, Finset.mem_range, Finset.mem_image]
    constructor
    · intro h
      by_cases hk : k < A
      · exact Or.inl hk
      · exact Or.inr ⟨k - A, by omega, by omega⟩
    · rintro (h | ⟨j, hj, rfl⟩) <;> omega
  have hdis : Disjoint (Finset.range A) ((Finset.range B).image (A + ·)) := by
    rw [Finset.disjoint_left]
    intro k hk hk'
    obtain ⟨j, -, rfl⟩ := Finset.mem_image.mp hk'
    have := Finset.mem_range.mp hk
    omega
  rw [hset, BI.bigSep_union hdis, SparseCore.bigSep_image_of_injOn (fun a _ b _ h => Nat.add_left_cancel h)]
  rfl

/-- Over `A B` numbers: over `A` groups of `B` of them. -/
theorem range_mul (A B : ℕ) :
    bigSep (Finset.range (A * B)) Φ = bigSep (Finset.range A) fun w => bigSep (Finset.range B) fun j => Φ (w * B + j) := by
  induction A with
  | zero => simp only [Nat.zero_mul, Finset.range_zero, BI.bigSep_empty]
  | succ A ih =>
    rw [Nat.succ_mul, range_add, ih, range_add (fun w => bigSep (Finset.range B) fun j => Φ (w * B + j)) A 1,
      Finset.range_one, BI.bigSep_singleton]
    rfl

/-- Over `n` numbers, or over their type. -/
theorem range_eq_fin (n : ℕ) : bigSep (Finset.range n) Φ = bigSep Finset.univ fun i : Fin n => Φ i.val := by
  classical
  have hset : Finset.range n = (Finset.univ : Finset (Fin n)).image Fin.val := by
    ext k
    simp only [Finset.mem_range, Finset.mem_image, Finset.mem_univ, true_and]
    exact ⟨fun h => ⟨⟨k, h⟩, rfl⟩, fun ⟨i, hi⟩ => hi ▸ i.isLt⟩
  rw [hset, SparseCore.bigSep_image_of_injOn (fun a _ b _ h => Fin.ext h)]

/-- Over 32 tiles: over 2 cores, of 16 subcores each. -/
theorem tiles : bigSep (Finset.range 32) Φ = bigSep Finset.univ fun c : Fin 2 => bigSep Finset.univ fun i : Fin 16 => Φ (2 * i.val + c.val) := by
  rw [show (32 : ℕ) = 16 * 2 from rfl, range_mul, range_eq_fin _ 16, BI.bigSep_univ_comm]
  refine BI.bigSep_congr fun i _ => ?_
  rw [range_eq_fin _ 2]
  refine BI.bigSep_congr fun c _ => ?_
  rw [Nat.mul_comm]

end Sums

/-- The blocks of 128 rows make up the array. -/
theorem cs_cover (M n : ℕ) (h : M = n * 128) : (Finset.range n).biUnion (cs M) = Finset.univ := by
  ext p
  have hp : (p 0).val < M := (p 0).isLt
  simp only [Finset.mem_biUnion, Finset.mem_range, Finset.mem_univ, iff_true]
  exact ⟨(p 0).val / 128, by omega, mem_cs.mpr rfl⟩

end Cert.Proof.Parts

end
-- ==== Proof.Stage.lean ====
/-
  One STAGE of the gather: a tile fetches its sheet of a list of row numbers into a scratch, starts the gathers of its
  first two blocks, and runs the loop of the two streams. What the stage writes is the gather of the table by the list
  (`look`), block by block.
-/
module

public import proofs.«01_k».proof.Proof.Gather

@[expose] public section

noncomputable section

namespace Cert.Proof.Stage

open Idealize.ShloMosaic
open Idealize.SL Idealize.SL.RA Idealize.SL.BI
open scoped Idealize.SL.BI
open Idealize.SL.BI.BIBase Idealize.SL.BI.Laws Idealize.SL.ProofMode Idealize.SL.Sem
open Cert.Proof.Streams Cert.Proof.Gather

variable {nD : Nat} {τ : Topo} {sig : RefSig} {Ix : Type} [DecidableEq Ix]
variable {F : FTy → Type} {Name : Type} [DecidableEq Name] [Infinite Name]
variable {U : Type} [URA U] {Lvl : Type} [Preorder Lvl] {Λ : Labels}
variable {defs : Defs nD τ sig (Elt F) Λ} (EC : UEmb Counters (MT nD τ sig Ix (Elt F) Name U Lvl))
variable [EC.LandsIn (upEmb : UEmb _ (MT nD τ sig Ix (Elt F) Name U Lvl))]
variable (𝒱 : Variants) (c : Thread nD τ) (bd : Option 𝒱.V) (ι : Ix)

local notation "𝕄" => MT nD τ sig Ix (Elt F) Name U Lvl

section Blocks

variable {R n M : ℕ} [NeZero R] [NeZero n]
variable (outM : Memref sig c.2.kind .hbm ⟨2, ![M, 128]⟩ .f32) (lst : Memref sig c.2.kind .vmem ⟨2, ![n, 128]⟩ .i32)

/-- Block `k` of the output, at contents `f`. -/
def outBlk (f : Buf (Elt F) (outM.view.loc c)) (k : ℕ) : sProp 𝕄 := outM.view.loc c ↦[(cs M k).map outM.view.emb]{fullShare} f

/-- The block as the program slices it. -/
abbrev outS {off : Fin 2 → ℕ} (inb : ∀ a, off a + (![128, 128] : Fin 2 → ℕ) a ≤ (![M, 128] : Fin 2 → ℕ) a) :
    Memref sig c.2.kind .hbm ⟨2, ![128, 128]⟩ .f32 := outM.slice (Rect.unit (s := ⟨2, ![M, 128]⟩) off ![128, 128] inb) (fun _ => rfl)

theorem outS_set {k : ℕ} {off : Fin 2 → ℕ} (h : off = ![k * 128, 0]) (inb : ∀ a, off a + (![128, 128] : Fin 2 → ℕ) a ≤ (![M, 128] : Fin 2 → ℕ) a) :
    (outS c outM inb).view.set = (cs M k).map outM.view.emb := by
  rw [← unit_set h inb]
  exact View.set_slice _ _

theorem piece_out {k : ℕ} {off : Fin 2 → ℕ} (h : off = ![k * 128, 0]) (inb : ∀ a, off a + (![128, 128] : Fin 2 → ℕ) a ≤ (![M, 128] : Fin 2 → ℕ) a)
    (f : Buf (Elt F) (outM.view.loc c)) :
    (outBlk c outM f k : sProp 𝕄) ⊢ ∃ f', ((outS c outM inb).view.loc c ↦[(outS c outM inb).view.set]{fullShare} f') := by
  rw [outS_set c outM h]
  unfold outBlk
  iintro H
  iexists f
  iexact H

/-- The block's places, reading as block `k` of the gather, are the gather there. -/
theorem piece_in {k : ℕ} {off : Fin 2 → ℕ} (h : off = ![k * 128, 0]) (inb : ∀ a, off a + (![128, 128] : Fin 2 → ℕ) a ≤ (![M, 128] : Fin 2 → ℕ) a)
    (T : (⟨2, ![R, 128]⟩ : Shape).Idx → Elt F .f32) (L : (⟨3, ![32, n, 128]⟩ : Shape).Idx → BitVec 32) (g f : Buf (Elt F) (outM.view.loc c))
    (hg : ∀ p, outM.view.read (Elt F) g p = look M T L p) (hf : HoldsIn (outS c outM inb) (blk T L k) f) :
    ((outS c outM inb).view.loc c ↦[(outS c outM inb).view.set]{fullShare} f) ⊢ (outBlk c outM g k : sProp 𝕄) := by
  rw [outS_set c outM h]
  unfold outBlk
  have e := eq_look_of_read h inb T L (outM.view.read (Elt F) f) hf
  have e' : ∀ i ∈ (cs M k).map outM.view.emb, f i = g i := by
    intro i hi
    obtain ⟨p, hp, rfl⟩ := Finset.mem_map.mp hi
    have := (e p hp).trans (hg p).symm
    rw [View.read_apply, View.read_apply] at this
    exact (cast_bijective _).1 this
  exact Entails.of_eq (pointsTo_congr (ℓ := outM.view.loc c) e')

/-- The tile's list in its scratch: sheet `w`. -/
def Sheet (w : ℕ) (L : (⟨3, ![32, n, 128]⟩ : Shape).Idx → BitVec 32) : (⟨2, ![n, 128]⟩ : Shape).Idx → Elt F .i32 :=
  fun x => L (tri n w (x 0).val (x 1).val)

/-- Row `j` of the list, as the program slices it. -/
abbrev rowS {off : Fin 2 → ℕ} (inb : ∀ a, off a + (![1, 128] : Fin 2 → ℕ) a ≤ (![n, 128] : Fin 2 → ℕ) a)
    (hsq : (⟨2, ![1, 128]⟩ : Shape).Squeezes ⟨1, ![128]⟩) : Memref sig c.2.kind .vmem ⟨1, ![128]⟩ .i32 :=
  (lst.slice (Rect.unit (s := ⟨2, ![n, 128]⟩) off ![1, 128] inb) (fun _ => rfl)).squeeze ⟨1, ![128]⟩ hsq

/-- Row `j` of sheet `w` names block `w n + j`. -/
theorem row_names {w j : ℕ} (hw : w < 32) (hj : j < n) {off : Fin 2 → ℕ} (h : off = ![j, 0])
    (inb : ∀ a, off a + (![1, 128] : Fin 2 → ℕ) a ≤ (![n, 128] : Fin 2 → ℕ) a) (hsq : (⟨2, ![1, 128]⟩ : Shape).Squeezes ⟨1, ![128]⟩)
    (T : (⟨2, ![R, 128]⟩ : Shape).Idx → Elt F .f32) (L : (⟨3, ![32, n, 128]⟩ : Shape).Idx → BitVec 32) (hin : ∀ x, (L x).toNat < R)
    (hg : (⟨2, ![R, 128]⟩ : Shape).Gathers 0 ⟨2, ![128, 128]⟩) (fl : Buf (Elt F) (lst.view.loc c)) (hfl : HoldsIn lst (Sheet (F := F) w L) fl)
    (hn : (⟨1, ![128]⟩ : Shape).numel = 128) :
    Names (hg := hg) T ((rowS c lst inb hsq).view.read (Elt F) fl) hn (blk T L (w * n + j)) := by
  refine names_blk T L hin hg hw hj _ (fun k => ?_) hn
  refine (hfl ((Rect.unit (s := ⟨2, ![n, 128]⟩) off ![1, 128] inb).emb (Shape.reshapeEquiv hsq.numel_eq k))).trans ?_
  rw [row_emb hj h]
  rfl

variable (w g : DmaSem sig) (tb : Memref sig c.2.kind .hbm ⟨2, ![R, 128]⟩ .f32) (buf : Memref sig c.2.kind .vmem ⟨2, ![128, 128]⟩ .f32)

/-- What a trip of stream `b` needs, of a program whose offsets are the closed forms: block `wid n + 2 t + b` at row
    `128 (wid n + 2 t + b)` of the output, the next trip's list row `2 (t + 1) + b`. -/
theorem stepOK (N Nw nt : ℕ) (q qo : PosShare TreeShare) (T : Buf (Elt F) (tb.view.loc c)) (fl : Buf (Elt F) (lst.view.loc c))
    (Tt : (⟨2, ![R, 128]⟩ : Shape).Idx → Elt F .f32) (hTt : tb.view.read (Elt F) T = Tt)
    (L : (⟨3, ![32, n, 128]⟩ : Shape).Idx → BitVec 32) (hin : ∀ x, (L x).toNat < R)
    {wid b : ℕ} (hw : wid < 32) (hb : b < 2) (hnt : n = 2 * nt) (hfl : HoldsIn lst (Sheet (F := F) wid L) fl)
    (f₀ f₁ : Buf (Elt F) (outM.view.loc c)) (hf₁ : ∀ p, outM.view.read (Elt F) f₁ p = look M Tt L p)
    (hg : (⟨2, ![R, 128]⟩ : Shape).Gathers 0 ⟨2, ![128, 128]⟩) (hn : (⟨1, ![128]⟩ : Shape).numel = 128) {t : ℕ}
    {offA : Fin 2 → ℕ} (hA : offA = ![(wid * n + (2 * t + b)) * 128, 0]) (inbA : ∀ a, offA a + (![128, 128] : Fin 2 → ℕ) a ≤ (![M, 128] : Fin 2 → ℕ) a)
    {cond : Prop} (hc : cond ↔ t + 1 < nt) (out' : cond → Memref sig c.2.kind .hbm ⟨2, ![128, 128]⟩ .f32)
    {offR : Fin 2 → ℕ} (hR : cond → offR = ![2 * (t + 1) + b, 0])
    (inbR : cond → ∀ a, offR a + (![1, 128] : Fin 2 → ℕ) a ≤ (![n, 128] : Fin 2 → ℕ) a) (hsq : (⟨2, ![1, 128]⟩ : Shape).Squeezes ⟨1, ![128]⟩)
    (hNb : buf.view.dmaCredit = N) (hNo : ∀ h, (out' h).view.dmaCredit = Nw)
    (hN : ∑ j, (buf.slice ((⟨2, ![128, 128]⟩ : Shape).rowRect hg.axis' j) ((⟨2, ![128, 128]⟩ : Shape).stride_rowRect hg.axis' j)).view.dmaCredit = N)
    (hNa : (outS c outM inbA).view.amount (.dma w) = Nw) (hN0 : 0 < Nw) :
    StepOK (Name := Name) (U := U) (Lvl := Lvl) (Ix := Ix) c w tb buf N Nw (tb.view.loc c ↦{q} T) (lst.view.loc c ↦{qo} fl) nt
      (fun t => blk Tt L (wid * n + (2 * t + b))) (fun t => outBlk c outM f₀ (wid * n + (2 * t + b))) (fun t => outBlk c outM f₁ (wid * n + (2 * t + b)))
      (hg := hg) (hn := hn) (outS c outM inbA) cond out' (fun h => rowS c lst (inbR h) hsq) t where
  hc := hc
  hNb := hNb
  hNo := hNo
  hN := hN
  hs := by decide
  hNa := hNa
  hN0 := hN0
  hv := ⟨q, T, rfl, fun h => ⟨qo, fl, rfl, by
    subst hTt
    have h1 := hc.mp h
    exact row_names c lst hw (by omega) (hR h) (inbR h) hsq _ L hin hg fl hfl hn⟩⟩
  htd := piece_out c outM hA inbA f₀
  hdn := fun f hf => piece_in c outM hA inbA Tt L f₁ f hf₁ hf

/-- A row of the list's buffer, taken at the stage's start: the buffer seen as its row, which names the row's block. -/
theorem row_start {w j : ℕ} (hw : w < 32) (hj : j < n) {off : Fin 2 → ℕ} (h : off = ![j, 0])
    (inb : ∀ a, off a + (![1, 128] : Fin 2 → ℕ) a ≤ (![n, 128] : Fin 2 → ℕ) a) (hsq : (⟨2, ![1, 128]⟩ : Shape).Squeezes ⟨1, ![128]⟩)
    {T : Buf (Elt F) (tb.view.loc c)} {Tt : (⟨2, ![R, 128]⟩ : Shape).Idx → Elt F .f32} (hT : tb.view.read (Elt F) T = Tt)
    {L : (⟨3, ![32, n, 128]⟩ : Shape).Idx → BitVec 32} (hin : ∀ x, (L x).toNat < R)
    (hg : (⟨2, ![R, 128]⟩ : Shape).Gathers 0 ⟨2, ![128, 128]⟩) (hn : (⟨1, ![128]⟩ : Shape).numel = 128) (fl : Buf (Elt F) (lst.view.loc c)) :
    ∃ f, ∀ qo, (lst.view.loc c ↦{qo} fl : sProp (MT nD τ sig Ix (Elt F) Name U Lvl)) = ((rowS c lst inb hsq).view.loc c ↦{qo} f)
      ∧ (HoldsIn lst (Sheet (F := F) w L) fl →
        Names (hg := hg) (tb.view.read (Elt F) T) ((rowS c lst inb hsq).view.read (Elt F) f) hn (blk Tt L (w * n + j))) :=
  ⟨fl, fun _ => ⟨rfl, fun hfl => by
    rw [hT]
    exact row_names c lst hw hj h inb hsq Tt L hin hg fl hfl hn⟩⟩

end Blocks

/-- Assertions that entail one another are equal. -/
theorem eq_of_entails {P Q : sProp (MT nD τ sig Ix (Elt F) Name U Lvl)} (h : P ⊢ Q) (h' : Q ⊢ P) : P = Q := BI.Entails.antisymm h h'

/-- Two interleaved families are one. -/
theorem bigSep_even_odd (Φ : ℕ → sProp (MT nD τ sig Ix (Elt F) Name U Lvl)) (k : ℕ) (n : ℕ) :
    bigSep (Finset.range (2 * n)) (fun j => Φ (k + j))
      = iprop(bigSep (Finset.range n) (fun t => Φ (k + (2 * t + 0))) ∗ bigSep (Finset.range n) (fun t => Φ (k + (2 * t + 1)))) := by
  induction n with
  | zero =>
    simp only [Nat.mul_zero, Finset.range_zero, bigSep_empty]
    exact (BI.Entails.antisymm sep_emp.1 sep_emp.2).symm
  | succ n ih =>
    rw [show 2 * (n + 1) = 2 * n + 1 + 1 by omega, Finset.range_add_one, SparseCore.bigSep_insert' (by simp), Finset.range_add_one,
      SparseCore.bigSep_insert' (by simp), ih, Finset.range_add_one, SparseCore.bigSep_insert' (by simp), SparseCore.bigSep_insert' (by simp)]
    refine eq_of_entails ?_ ?_
    · iintro ⟨H1, H2, H3, H4⟩
      iframe H1 H2 H3 H4
    · iintro ⟨⟨H2, H3⟩, H1, H4⟩
      iframe H1 H2 H3 H4

section Run

variable {n nt : ℕ} {sl s₀ s si : Shape} {a : ℕ} {e : EltTy}
variable (tb : Memref sig c.2.kind .hbm s₀ e) (buf₀ buf₁ : Memref sig c.2.kind .vmem s e) (lst : Memref sig c.2.kind .vmem sl .i32)
variable (g₀ w₀ g₁ w₁ : DmaSem sig) (N Nw : ℕ)
variable (q : PosShare TreeShare) (T : Buf (Elt F) (tb.view.loc c)) (Lv : sl.Idx → Elt F .i32)
variable (nt : ℕ) (val₀ val₁ : ℕ → s.Idx → Elt F e) (td₀ dn₀ td₁ dn₁ : ℕ → sProp (MT nD τ sig Ix (Elt F) Name U Lvl))

/-- The two streams after `t` trips, reading the list scratch at `fl`. -/
def Both (fl : Buf (Elt F) (lst.view.loc c)) (t : ℕ) : sProp 𝕄 :=
  iprop(St EC c ι g₀ w₀ buf₀ N Nw (tb.view.loc c ↦{q.left} T) (lst.view.loc c ↦{fullShare.left} fl) nt val₀ td₀ dn₀ t
    ∗ St EC c ι g₁ w₁ buf₁ N Nw (tb.view.loc c ↦{q.right} T) (lst.view.loc c ↦{fullShare.right} fl) nt val₁ td₁ dn₁ t)

/-- The stage's start, up to the end of its loop. -/
theorem stage_wp {src src' : Memref sig c.2.kind .hbm sl .i32} {sm : DmaSem sig} {Nl : ℕ} (hNl : lst.view.amount (.dma sm) = Nl) (hNl' : lst.view.dmaCredit = Nl)
    (hNl0 : 0 < Nl) {qa : PosShare TreeShare} {fs : Buf (Elt F) (src.view.loc c)} (hLv : src.view.read (Elt F) fs = Lv)
    {hsrc : src.view.WordExact} {hdst : lst.view.WordExact} {hsem : DmaTarget.Typed (nD := nD) .hbm (.dma sm) (.here lst)}
    {hsrc' : src'.view.WordExact} {hdst' : lst.view.WordExact}
    {hg : s₀.Gathers a s} {hn : si.numel = s.size hg.axis'} {hp : c.2.kind = .scVector} {htb : tb.view.WordExact}
    {he : e.bits = 32} {hsp : Space.hbm = .hbm ∨ Space.hbm = .shared} {hr : s₀.StreamRows a}
    {row₀ row₁ : Memref sig c.2.kind .vmem si .i32} (hs : 0 < s.numel)
    (hN₀ : ∑ j, (buf₀.slice (s.rowRect hg.axis' j) (s.stride_rowRect hg.axis' j)).view.dmaCredit = N)
    (hN₁ : ∑ j, (buf₁.slice (s.rowRect hg.axis' j) (s.stride_rowRect hg.axis' j)).view.dmaCredit = N)
    (e₀ : ∀ fl, ∃ f₀, ∀ qo, (lst.view.loc c ↦{qo} fl : sProp 𝕄) = (row₀.view.loc c ↦{qo} f₀)
      ∧ (HoldsIn lst Lv fl → Names (hg := hg) (tb.view.read (Elt F) T) (row₀.view.read (Elt F) f₀) hn (val₀ 0)))
    (e₁ : ∀ fl, ∃ f₁, ∀ qo, (lst.view.loc c ↦{qo} fl : sProp 𝕄) = (row₁.view.loc c ↦{qo} f₁)
      ∧ (HoldsIn lst Lv fl → Names (hg := hg) (tb.view.read (Elt F) T) (row₁.view.read (Elt F) f₁) hn (val₁ 0)))
    (hnt : 0 < nt) {O : CellTallies nD τ sig Ix} {W : Waits sig Ix}
    {loop : Prog (TpuEff nD τ sig (Elt F) Λ c.2) PUnit} {Q : PUnit → sProp 𝕄}
    (hloop : ∀ fl, HoldsIn lst Lv fl →
      iprop(Both EC c ι tb buf₀ buf₁ lst g₀ w₀ g₁ w₁ N Nw q T nt val₀ val₁ td₀ dn₀ td₁ dn₁ fl 0 ∗ owesP c ι O W ∗ Transfers.MayWaits c ι O)
        ⊢ iprop((iprop(Both EC c ι tb buf₀ buf₁ lst g₀ w₀ g₁ w₁ N Nw q T nt val₀ val₁ td₀ dn₀ td₁ dn₁ fl nt ∗ owesP c ι O W) -∗ Q ⟨⟩)
          -∗ wp frame (wpE defs 𝒱 c bd) Set.univ loop Q)) :
    iprop((src.view.loc c ↦{qa} fs) ∗ bufAny c lst ∗ semVal (c, .dma sm) 0 ∗ (tb.view.loc c ↦{q} T)
        ∗ (bufAny c buf₀ ∗ semVal (c, .dma g₀) 0 ∗ semVal (c, .dma w₀) 0) ∗ (bufAny c buf₁ ∗ semVal (c, .dma g₁) 0 ∗ semVal (c, .dma w₁) 0)
        ∗ bigSep (Finset.range nt) td₀ ∗ bigSep (Finset.range nt) td₁ ∗ owesP c ι O W ∗ Transfers.MayWaits c ι O)
      ⊢ iprop((iprop((∃ fl, Both EC c ι tb buf₀ buf₁ lst g₀ w₀ g₁ w₁ N Nw q T nt val₀ val₁ td₀ dn₀ td₁ dn₁ fl nt) ∗ (src.view.loc c ↦{qa} fs)
            ∗ semVal (c, .dma sm) 0 ∗ owesP c ι O W) -∗ Q ⟨⟩)
        -∗ wp frame (wpE defs 𝒱 c bd) Set.univ (Prog.lift (.enqueueDma src (.here lst) (.dma sm) hsrc hdst hsem)) fun _ =>
          wp frame (wpE defs 𝒱 c bd) Set.univ (Prog.lift (.waitDma2 sm src' lst hsrc' hdst')) fun _ =>
          wp frame (wpE defs 𝒱 c bd) Set.univ (SparseCore.enqueueIndirectGather hp tb buf₀ hg row₀ hn g₀ htb he hsp hr) fun _ =>
          wp frame (wpE defs 𝒱 c bd) Set.univ (SparseCore.enqueueIndirectGather hp tb buf₁ hg row₁ hn g₁ htb he hsp hr) fun _ =>
          wp frame (wpE defs 𝒱 c bd) Set.univ loop Q) := by
  iintro ⟨Hs, Hl, Hsm, HT, ⟨Hb0, Hg0, Hw0⟩, ⟨Hb1, Hg1, Hw1⟩, Ht0, Ht1, HO, #Hmw⟩ Hk
  iapply (step_fetch EC 𝒱 c bd ι hNl hNl0) $$ [Hs Hl Hsm]
  · iframe Hs Hl Hsm
  iintro HF
  iapply (step_wait EC 𝒱 c bd ι hNl') $$ [HF HO]
  · iframe HF HO Hmw
  iintro ⟨⟨Hl, Hs⟩, Hsm, HO⟩
  unfold bufAt
  icases Hl with ⟨%fl, %hfl, Hl⟩
  rw [hLv] at hfl
  ihave ⟨HT0, HT1⟩ := (pointsTo_share (PosShare.mem_left_op_right q)).1 $$ HT
  ihave ⟨Hl0, Hl1⟩ := (pointsTo_share (PosShare.mem_left_op_right fullShare)).1 $$ Hl
  obtain ⟨f₀, h₀⟩ := e₀ fl
  obtain ⟨f₁, h₁⟩ := e₁ fl
  iapply (step_gather EC 𝒱 c bd ι g₀ tb buf₀ N (tb.view.loc c ↦{q.left} T) (lst.view.loc c ↦{fullShare.left} fl) hN₀ hs rfl
    (h₀ _).1 ((h₀ fullShare.left).2 hfl) (hp := hp) (hsrc := htb) (he := he) (hsp := hsp) (hr := hr)) $$ [HT0 Hl0 Hb0 Hg0]
  · iframe HT0 Hl0 Hb0 Hg0
  iintro HG0
  iapply (step_gather EC 𝒱 c bd ι g₁ tb buf₁ N (tb.view.loc c ↦{q.right} T) (lst.view.loc c ↦{fullShare.right} fl) hN₁ hs rfl
    (h₁ _).1 ((h₁ fullShare.right).2 hfl) (hp := hp) (hsrc := htb) (he := he) (hsp := hsp) (hr := hr)) $$ [HT1 Hl1 Hb1 Hg1]
  · iframe HT1 Hl1 Hb1 Hg1
  iintro HG1
  iapply (hloop fl hfl) $$ [HG0 Hw0 Ht0 HG1 Hw1 Ht1 HO]
  · unfold Both
    iframe HO Hmw
    isplitl [HG0 Hw0 Ht0]
    · iapply (St_zero EC c ι g₀ w₀ buf₀ N Nw _ _ nt val₀ td₀ dn₀ hnt)
      iframe HG0 Hw0 Ht0
    · iapply (St_zero EC c ι g₁ w₁ buf₁ N Nw _ _ nt val₁ td₁ dn₁ hnt)
      iframe HG1 Hw1 Ht1
  iintro ⟨HB, HO⟩
  iapply Hk
  iframe Hs Hsm HO
  iexists fl
  iexact HB

/-- After the first stream's last wait: its blocks written and its things back, the second stream still to be waited for. -/
def Half : sProp 𝕄 :=
  iprop(∃ fl, (bigSep (Finset.range nt) dn₀ ∗ bufAny c buf₀ ∗ (tb.view.loc c ↦{q.left} T) ∗ (lst.view.loc c ↦{fullShare.left} fl)
      ∗ semVal (c, .dma g₀) 0 ∗ semVal (c, .dma w₀) 0)
    ∗ St EC c ι g₁ w₁ buf₁ N Nw (tb.view.loc c ↦{q.right} T) (lst.view.loc c ↦{fullShare.right} fl) nt val₁ td₁ dn₁ nt)

/-- The stage's first last wait. -/
theorem stage_end₀ (hnt : 0 < nt) {out₀ : Memref sig c.2.kind .hbm s e} {hb₀ : buf₀.view.WordExact} {ho₀ : out₀.view.WordExact}
    (hN₀ : out₀.view.dmaCredit = Nw) {O : CellTallies nD τ sig Ix} {W : Waits sig Ix} {Q : PUnit → sProp 𝕄} :
    iprop((∃ fl, Both EC c ι tb buf₀ buf₁ lst g₀ w₀ g₁ w₁ N Nw q T nt val₀ val₁ td₀ dn₀ td₁ dn₁ fl nt) ∗ owesP c ι O W ∗ Transfers.MayWaits c ι O)
      ⊢ iprop((iprop(Half EC c ι tb buf₀ buf₁ lst g₀ w₀ g₁ w₁ N Nw q T nt val₁ dn₀ td₁ dn₁ ∗ owesP c ι O W) -∗ Q ⟨⟩)
        -∗ wp frame (wpE defs 𝒱 c bd) Set.univ (Prog.lift (.waitDma2 w₀ buf₀ out₀ hb₀ ho₀)) Q) := by
  unfold Both Half
  iintro ⟨⟨%fl, H0, H1⟩, HO, #Hmw⟩ Hk
  iapply (St_end EC 𝒱 c bd ι g₀ w₀ buf₀ N Nw _ _ nt val₀ td₀ dn₀ hnt hN₀) $$ [H0 HO]
  · iframe H0 HO Hmw
  iintro ⟨Hd0, Hb0, HT0, Hl0, Hg0, Hw0, HO⟩
  iapply Hk
  iframe HO
  iexists fl
  iframe H1 Hd0 Hb0 HT0 Hl0 Hg0 Hw0

/-- The stage's second last wait, after which everything is back and both streams' blocks are written. -/
theorem stage_end₁ (hnt : 0 < nt) {out₁ : Memref sig c.2.kind .hbm s e} {hb₁ : buf₁.view.WordExact} {ho₁ : out₁.view.WordExact}
    (hN₁ : out₁.view.dmaCredit = Nw) {O : CellTallies nD τ sig Ix} {W : Waits sig Ix} {Q : PUnit → sProp 𝕄} :
    iprop(Half EC c ι tb buf₀ buf₁ lst g₀ w₀ g₁ w₁ N Nw q T nt val₁ dn₀ td₁ dn₁ ∗ owesP c ι O W ∗ Transfers.MayWaits c ι O)
      ⊢ iprop((iprop(bigSep (Finset.range nt) dn₀ ∗ bigSep (Finset.range nt) dn₁ ∗ bufAny c lst ∗ (tb.view.loc c ↦{q} T)
            ∗ (bufAny c buf₀ ∗ semVal (c, .dma g₀) 0 ∗ semVal (c, .dma w₀) 0) ∗ (bufAny c buf₁ ∗ semVal (c, .dma g₁) 0 ∗ semVal (c, .dma w₁) 0)
            ∗ owesP c ι O W) -∗ Q ⟨⟩)
        -∗ wp frame (wpE defs 𝒱 c bd) Set.univ (Prog.lift (.waitDma2 w₁ buf₁ out₁ hb₁ ho₁)) Q) := by
  unfold Half
  iintro ⟨⟨%fl, ⟨Hd0, Hb0, HT0, Hl0, Hg0, Hw0⟩, H1⟩, HO, #Hmw⟩ Hk
  iapply (St_end EC 𝒱 c bd ι g₁ w₁ buf₁ N Nw _ _ nt val₁ td₁ dn₁ hnt hN₁) $$ [H1 HO]
  · iframe H1 HO Hmw
  iintro ⟨Hd1, Hb1, HT1, Hl1, Hg1, Hw1, HO⟩
  iapply Hk
  iframe Hd0 Hd1 Hb0 Hg0 Hw0 Hb1 Hg1 Hw1 HO
  isplitl [Hl0 Hl1]
  · unfold bufAny
    iexists fl
    iapply (pointsTo_share (PosShare.mem_left_op_right fullShare)).2
    iframe Hl0 Hl1
  · iapply (pointsTo_share (PosShare.mem_left_op_right q)).2
    iframe HT0 HT1

end Run

section Loop

variable {R n M : ℕ} [NeZero R] [NeZero n]
variable (outM : Memref sig c.2.kind .hbm ⟨2, ![M, 128]⟩ .f32) (lst : Memref sig c.2.kind .vmem ⟨2, ![n, 128]⟩ .i32)
variable (tb : Memref sig c.2.kind .hbm ⟨2, ![R, 128]⟩ .f32) (buf₀ buf₁ : Memref sig c.2.kind .vmem ⟨2, ![128, 128]⟩ .f32)
variable (g₀ w₀ g₁ w₁ : DmaSem sig) (N Nw : ℕ)
variable (q : PosShare TreeShare) (T : Buf (Elt F) (tb.view.loc c)) (Tt : (⟨2, ![R, 128]⟩ : Shape).Idx → Elt F .f32)
variable (L : (⟨3, ![32, n, 128]⟩ : Shape).Idx → BitVec 32) (wid nt : ℕ) (f₀ f₁ : Buf (Elt F) (outM.view.loc c))

/-- What stream `b`'s block of trip `t` is to hold, and its places before (`f₀`) and after (`f₁`). -/
abbrev valB (b t : ℕ) : (⟨2, ![128, 128]⟩ : Shape).Idx → Elt F .f32 := blk Tt L (wid * n + (2 * t + b))
abbrev pieceB (n : ℕ) (f : Buf (Elt F) (outM.view.loc c)) (b t : ℕ) : sProp 𝕄 := outBlk c outM f (wid * n + (2 * t + b))

/-- Both streams of a stage after `t` trips. -/
abbrev Duo (fl : Buf (Elt F) (lst.view.loc c)) (t : ℕ) : sProp 𝕄 :=
  Both EC c ι tb buf₀ buf₁ lst g₀ w₀ g₁ w₁ N Nw q T nt (valB Tt L wid 0) (valB Tt L wid 1)
    (pieceB c outM wid n f₀ 0) (pieceB c outM wid n f₁ 0) (pieceB c outM wid n f₀ 1) (pieceB c outM wid n f₁ 1) fl t

/-- The loop of a stage whose offsets are the closed forms. -/
theorem duo_loop (hTt : tb.view.read (Elt F) T = Tt) (hin : ∀ x, (L x).toNat < R) (hw : wid < 32) (hnt : n = 2 * nt)
    (hf₁ : ∀ p, outM.view.read (Elt F) f₁ p = look M Tt L p)
    {hg : (⟨2, ![R, 128]⟩ : Shape).Gathers 0 ⟨2, ![128, 128]⟩} {hn : (⟨1, ![128]⟩ : Shape).numel = 128}
    {hp : c.2.kind = .scVector} {htb : tb.view.WordExact} {hb₀ : buf₀.view.WordExact} {hb₁ : buf₁.view.WordExact}
    {he : (EltTy.f32).bits = 32} {hsp : Space.hbm = .hbm ∨ Space.hbm = .shared} {hr : (⟨2, ![R, 128]⟩ : Shape).StreamRows 0}
    {hsq : (⟨2, ![1, 128]⟩ : Shape).Squeezes ⟨1, ![128]⟩}
    {lb ub st : BitVec 32} {hok : Scf.OK lb ub st} (htr : nt = Scf.trips lb ub st)
    {offA₀ offA₁ offR₀ offR₁ : Fin (Scf.trips lb ub st) → Fin 2 → ℕ}
    {inbA₀ : ∀ t a, offA₀ t a + (![128, 128] : Fin 2 → ℕ) a ≤ (![M, 128] : Fin 2 → ℕ) a}
    {inbA₁ : ∀ t a, offA₁ t a + (![128, 128] : Fin 2 → ℕ) a ≤ (![M, 128] : Fin 2 → ℕ) a}
    {hsem₀ : ∀ t, DmaTarget.Typed (nD := nD) .vmem (.dma w₀) (.here (outS c outM (inbA₀ t)))}
    {hsem₁ : ∀ t, DmaTarget.Typed (nD := nD) .vmem (.dma w₁) (.here (outS c outM (inbA₁ t)))}
    {cond₀ cond₁ : Fin (Scf.trips lb ub st) → Prop} [∀ t, Decidable (cond₀ t)] [∀ t, Decidable (cond₁ t)]
    {inbR₀ : ∀ t, cond₀ t → ∀ a, offR₀ t a + (![1, 128] : Fin 2 → ℕ) a ≤ (![n, 128] : Fin 2 → ℕ) a}
    {inbR₁ : ∀ t, cond₁ t → ∀ a, offR₁ t a + (![1, 128] : Fin 2 → ℕ) a ≤ (![n, 128] : Fin 2 → ℕ) a}
    {out'₀ : ∀ t, cond₀ t → Memref sig c.2.kind .hbm ⟨2, ![128, 128]⟩ .f32} {out'₁ : ∀ t, cond₁ t → Memref sig c.2.kind .hbm ⟨2, ![128, 128]⟩ .f32}
    {ho₀ : ∀ t, (outS c outM (inbA₀ t)).view.WordExact} {ho₁ : ∀ t, (outS c outM (inbA₁ t)).view.WordExact}
    {ho'₀ : ∀ t h, (out'₀ t h).view.WordExact} {ho'₁ : ∀ t h, (out'₁ t h).view.WordExact}
    (body : Fin (Scf.trips lb ub st) → PUnit → Prog (TpuEff nD τ sig (Elt F) Λ c.2) PUnit)
    (hbody : ∀ t, body t ⟨⟩ = (do
      halfTrip c g₀ w₀ tb buf₀ (hg := hg) (hn := hn) hp htb hb₀ he hsp hr (outS c outM (inbA₀ t)) (ho₀ t) (hsem₀ t) (cond₀ t) (out'₀ t) (ho'₀ t)
        (fun h => rowS c lst (inbR₀ t h) hsq)
      halfTrip c g₁ w₁ tb buf₁ (hg := hg) (hn := hn) hp htb hb₁ he hsp hr (outS c outM (inbA₁ t)) (ho₁ t) (hsem₁ t) (cond₁ t) (out'₁ t) (ho'₁ t)
        (fun h => rowS c lst (inbR₁ t h) hsq)
      pure ⟨⟩))
    (hA₀ : ∀ t, offA₀ t = ![(wid * n + (2 * t.val + 0)) * 128, 0]) (hA₁ : ∀ t, offA₁ t = ![(wid * n + (2 * t.val + 1)) * 128, 0])
    (hR₀ : ∀ t, offR₀ t = ![2 * (t.val + 1) + 0, 0]) (hR₁ : ∀ t, offR₁ t = ![2 * (t.val + 1) + 1, 0])
    (hc₀ : ∀ t, cond₀ t ↔ t.val + 1 < nt) (hc₁ : ∀ t, cond₁ t ↔ t.val + 1 < nt)
    (hNb₀ : buf₀.view.dmaCredit = N) (hNb₁ : buf₁.view.dmaCredit = N)
    (hN₀ : ∑ j, (buf₀.slice ((⟨2, ![128, 128]⟩ : Shape).rowRect hg.axis' j) ((⟨2, ![128, 128]⟩ : Shape).stride_rowRect hg.axis' j)).view.dmaCredit = N)
    (hN₁ : ∑ j, (buf₁.slice ((⟨2, ![128, 128]⟩ : Shape).rowRect hg.axis' j) ((⟨2, ![128, 128]⟩ : Shape).stride_rowRect hg.axis' j)).view.dmaCredit = N)
    (hNo₀ : ∀ t h, (out'₀ t h).view.dmaCredit = Nw) (hNo₁ : ∀ t h, (out'₁ t h).view.dmaCredit = Nw)
    (hNa₀ : ∀ t, (outS c outM (inbA₀ t)).view.amount (.dma w₀) = Nw) (hNa₁ : ∀ t, (outS c outM (inbA₁ t)).view.amount (.dma w₁) = Nw) (hN0 : 0 < Nw)
    {O : CellTallies nD τ sig Ix} {W : Waits sig Ix} {Q : PUnit → sProp 𝕄}
    (fl : Buf (Elt F) (lst.view.loc c)) (hfl : HoldsIn lst (Sheet (F := F) wid L) fl) :
    iprop(Duo EC c ι outM lst tb buf₀ buf₁ g₀ w₀ g₁ w₁ N Nw q T Tt L wid nt f₀ f₁ fl 0 ∗ owesP c ι O W ∗ Transfers.MayWaits c ι O)
      ⊢ iprop((iprop(Duo EC c ι outM lst tb buf₀ buf₁ g₀ w₀ g₁ w₁ N Nw q T Tt L wid nt f₀ f₁ fl nt ∗ owesP c ι O W) -∗ Q ⟨⟩)
        -∗ wp frame (wpE defs 𝒱 c bd) Set.univ (Scf.for lb ub st hok ⟨⟩ body) Q) := by
  unfold Duo Both
  iintro ⟨⟨H0, H1⟩, HO, Hmw⟩ Hk
  iapply (loop_wp 𝒱 c bd ι nt htr body
    (St EC c ι g₀ w₀ buf₀ N Nw (tb.view.loc c ↦{q.left} T) (lst.view.loc c ↦{fullShare.left} fl) nt (valB Tt L wid 0) (pieceB c outM wid n f₀ 0) (pieceB c outM wid n f₁ 0))
    (St EC c ι g₁ w₁ buf₁ N Nw (tb.view.loc c ↦{q.right} T) (lst.view.loc c ↦{fullShare.right} fl) nt (valB Tt L wid 1) (pieceB c outM wid n f₀ 1) (pieceB c outM wid n f₁ 1))
    _ _ hbody
    (fun t Q => St_step EC 𝒱 c bd ι g₀ w₀ tb buf₀ N Nw _ _ nt (valB Tt L wid 0) _ _ (htr ▸ t.isLt)
      (stepOK c outM lst w₀ tb buf₀ N Nw nt q.left fullShare.left T fl Tt hTt L hin hw (Nat.zero_lt_two) hnt hfl f₀ f₁ hf₁ hg hn (hA₀ t) (inbA₀ t) (hc₀ t)
        (out'₀ t) (fun _ => hR₀ t) (inbR₀ t) hsq hNb₀ (hNo₀ t) hN₀ (hNa₀ t) hN0))
    (fun t Q => St_step EC 𝒱 c bd ι g₁ w₁ tb buf₁ N Nw _ _ nt (valB Tt L wid 1) _ _ (htr ▸ t.isLt)
      (stepOK c outM lst w₁ tb buf₁ N Nw nt q.right fullShare.right T fl Tt hTt L hin hw (Nat.one_lt_two) hnt hfl f₀ f₁ hf₁ hg hn (hA₁ t) (inbA₁ t) (hc₁ t)
        (out'₁ t) (fun _ => hR₁ t) (inbR₁ t) hsq hNb₁ (hNo₁ t) hN₁ (hNa₁ t) hN0))) $$ [H0 H1 HO Hmw]
  · iframe H0 H1 HO Hmw
  iintro ⟨H0, H1, HO⟩
  iapply Hk
  iframe H0 H1 HO

end Loop

end Cert.Proof.Stage

end
-- ==== Proof.KernelIdeal.Setup.lean ====
/-
  The program as the launch theorem sees it, its arrays, and what the SparseCore call's handshakes carry: each of the 32
  tiles takes a share of both tables and of the three lists, and its blocks of the three outputs; it brings them back, the
  blocks at the gathers' values.
-/
module

public import proofs.«01_k».proof.Defs
public import proofs.«01_k».proof.Proof.Stage
public import Idealize.ShloMosaic.Lib.ShareLeaves
public import Idealize.ShloMosaic.Lib.StableHlo.Run
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-! ## The arrays -/

abbrev t3Loc (d : Dev nD) : Loc nD τ sig := (SparseCore.T d).loc main_arg3
abbrev t4Loc (d : Dev nD) : Loc nD τ sig := (SparseCore.T d).loc main_arg4
abbrev l1Loc (d : Dev nD) : Loc nD τ sig := (SparseCore.T d).loc main_v1
abbrev l4Loc (d : Dev nD) : Loc nD τ sig := (SparseCore.T d).loc main_v4
abbrev l7Loc (d : Dev nD) : Loc nD τ sig := (SparseCore.T d).loc main_v7
abbrev o0Loc (d : Dev nD) : Loc nD τ sig := (SparseCore.T d).loc main_v8_0
abbrev o1Loc (d : Dev nD) : Loc nD τ sig := (SparseCore.T d).loc main_v8_1
abbrev o2Loc (d : Dev nD) : Loc nD τ sig := (SparseCore.T d).loc main_v8_2

/-- What the SparseCore call reads: two tables and three lists of row numbers. -/
structure Ins (F : FTy → Type) where
  t3 : S1000000x128.Idx → Elt F .f32
  t4 : S500x128.Idx → Elt F .f32
  l1 : S32x40x128.Idx → BitVec 32
  l4 : S32x4x128.Idx → BitVec 32
  l7 : S32x4x128.Idx → BitVec 32

/-- What its three outputs hold, before or after. -/
structure Outs (F : FTy → Type) where
  o0 : S163840x128.Idx → Elt F .f32
  o1 : S16384x128.Idx → Elt F .f32
  o2 : S16384x128.Idx → Elt F .f32

/-- The lists name rows of their tables. -/
structure Ins.OK (I : Ins F) : Prop where
  l1 : ∀ x, (I.l1 x).toNat < 1000000
  l4 : ∀ x, (I.l4 x).toNat < 1000000
  l7 : ∀ x, (I.l7 x).toNat < 500

/-- The three gathers. -/
def Ins.look (I : Ins F) : Outs F where
  o0 := Gather.look (R := 1000000) (n := 40) 163840 I.t3 I.l1
  o1 := Gather.look (R := 1000000) (n := 4) 16384 I.t3 I.l4
  o2 := Gather.look (R := 500) (n := 4) 16384 I.t4 I.l7

/-- Tile `w`'s share of what every tile reads. -/
def sh (w : ℕ) : PosShare TreeShare := ShareLeaves.leaf 5 fullShare (Fin.ofNat 32 w)

variable (d : Dev nD) (I : Ins F)

/-- Tile `w`'s share of the tables and lists. -/
def inR (w : ℕ) : sProp 𝕄 :=
  iprop((t3Loc d ↦{sh w} I.t3) ∗ (t4Loc d ↦{sh w} I.t4) ∗ (l1Loc d ↦{sh w} I.l1) ∗ (l4Loc d ↦{sh w} I.l4) ∗ (l7Loc d ↦{sh w} I.l7))

/-- Tile `w`'s blocks of the outputs. -/
def outR (w : ℕ) (X : Outs F) : sProp 𝕄 :=
  iprop((bigSep (Finset.range 40) fun j => o0Loc d ↦[cs 163840 (w * 40 + j)]{fullShare} X.o0)
    ∗ (bigSep (Finset.range 4) fun j => o1Loc d ↦[cs 16384 (w * 4 + j)]{fullShare} X.o1)
    ∗ (bigSep (Finset.range 4) fun j => o2Loc d ↦[cs 16384 (w * 4 + j)]{fullShare} X.o2))

instance inR_storable (w : ℕ) : BI.Storable (upEmb : UEmb _ 𝕄) (inR d I w) := by unfold inR; infer_instance
instance outR_storable (w : ℕ) (X : Outs F) : BI.Storable (upEmb : UEmb _ 𝕄) (outR d w X) := by unfold outR; infer_instance

/-- The arrays whole. -/
def inW : sProp 𝕄 :=
  iprop((t3Loc d ↦{fullShare} I.t3) ∗ (t4Loc d ↦{fullShare} I.t4) ∗ (l1Loc d ↦{fullShare} I.l1) ∗ (l4Loc d ↦{fullShare} I.l4) ∗ (l7Loc d ↦{fullShare} I.l7))
def outW (X : Outs F) : sProp 𝕄 :=
  iprop((o0Loc d ↦{fullShare} X.o0) ∗ (o1Loc d ↦{fullShare} X.o1) ∗ (o2Loc d ↦{fullShare} X.o2))

/-- The tile that core `c`'s subcore `i` is. -/
abbrev tileNo (c i : ℕ) : ℕ := 2 * i + c

/-! ## What the handshakes carry -/

variable (m : (ℓ : Loc nD τ sig) → Buf (Elt F) ℓ) (In : Dev nD → Ins F)

/-- The outputs at launch. -/
def outs₀ (d : Dev nD) : Outs F := ⟨m (o0Loc d), m (o1Loc d), m (o2Loc d)⟩

/-- One tile's share of everything, and all of one core's. -/
def tileR (d : Dev nD) (X : Outs F) (c i : ℕ) : sProp 𝕄 := iprop(inR d (In d) (tileNo c i) ∗ outR d (tileNo c i) X)
instance tileR_storable (d : Dev nD) (X : Outs F) (c i : ℕ) : BI.Storable (upEmb : UEmb _ 𝕄) (tileR In d X c i) := by unfold tileR; infer_instance
def coreR (d : Dev nD) (X : Outs F) (c : ℕ) : sProp 𝕄 := bigSep Finset.univ fun i : Fin 16 => tileR In d X c i.val
instance coreR_storable (d : Dev nD) (X : Outs F) (c : ℕ) : BI.Storable (upEmb : UEmb _ 𝕄) (coreR In d X c) := by unfold coreR; infer_instance

/-- The one call: each core takes its sixteen tiles' shares and blocks, each tile its own. -/
def P : (K (F := F)).Pay (nD := nD) (Val := Elt F) (Name := ℕ) (U := UU) where
  st := fun _ d c => coreR In d (outs₀ m d) c.val
  dn := fun _ d c => coreR In d (In d).look c.val
  go := fun _ d c i => tileR In d (outs₀ m d) c.val i.val
  td := fun _ d c i => tileR In d (In d).look c.val i.val
  x := fun _ _ => iprop(emp)

instance P_storable : (P (F := F) m In).IsStorable where
  st q d c := coreR_storable In d _ c.val
  dn q d c := coreR_storable In d _ c.val
  go q d c i := tileR_storable In d _ c.val i.val
  td q d c i := tileR_storable In d _ c.val i.val

/-- A core's takings split among its tiles and come back together. -/
theorem vecSplit : (K (F := F)).VecSplit' (P m In) 0 := by
  intro d c
  show coreR In d (outs₀ m d) c.val ⊢ |={Set.univ}=> iprop(
      (bigSep Finset.univ fun i : Fin 16 => tileR In d (outs₀ m d) c.val i.val)
      ∗ ((bigSep Finset.univ fun i : Fin 16 => tileR In d (In d).look c.val i.val) -∗ coreR In d (In d).look c.val))
  unfold coreR
  iintro H
  imodintro
  iframe H
  iintro H
  iexact H

end Cert.Proof.OfKernelIdeal

end
-- ==== Proof.KernelIdeal.Whole.lean ====
/-
  The SparseCore call's arrays whole are what its two cores take: every tile's shares and blocks.
-/
module

public import proofs.«01_k».proof.Proof.Parts
public import proofs.«01_k».proof.Proof.KernelIdeal.Setup

@[expose] public section

noncomputable section

namespace Cert.Proof.OfKernelIdeal

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Gather

variable {F : FTy → Type}

local notation "𝕄" => MT nD τ sig (HIx 1) (Elt F) ℕ UU ℕ

variable (d : Dev nD) (I : Ins F)

/-- A whole array is the 32 tiles' shares of it. -/
theorem shares {ℓ : Loc nD τ sig} (f : Buf (Elt F) ℓ) :
    (ℓ ↦{fullShare} f : sProp 𝕄) = bigSep (Finset.range 32) fun w => ℓ ↦{sh w} f := by
  rw [Parts.range_eq_fin]
  refine (ShareLeaves.pointsTo_leaves Finset.univ f 5 fullShare).trans (BI.bigSep_congr fun i _ => ?_)
  unfold sh
  rw [show Fin.ofNat 32 i.val = i from Fin.ext (Nat.mod_eq_of_lt i.isLt)]

theorem ins_parts : (inW d I : sProp 𝕄) = bigSep (Finset.range 32) fun w => inR d I w := by
  unfold inW inR
  rw [bigSep_sep', bigSep_sep', bigSep_sep', bigSep_sep', shares, shares, shares, shares, shares]

/-- A whole array of 128-row blocks is its blocks. -/
theorem blocks0 (f : S163840x128.Idx → Elt F .f32) :
    (o0Loc d ↦{fullShare} f : sProp 𝕄)
      = bigSep (Finset.range 32) fun w => bigSep (Finset.range 40) fun j => o0Loc d ↦[cs 163840 (w * 40 + j)]{fullShare} f := by
  rw [← Parts.range_mul (fun k => (o0Loc d ↦[cs 163840 k]{fullShare} f : sProp 𝕄))]
  rw [← pointsTo_biUnion (ℓ := o0Loc d) _ (fun k => cs 163840 k) (fun _ _ _ _ h => cs_disjoint _ h), Parts.cs_cover 163840 _ rfl]

theorem blocks1 (f : S16384x128.Idx → Elt F .f32) :
    (o1Loc d ↦{fullShare} f : sProp 𝕄)
      = bigSep (Finset.range 32) fun w => bigSep (Finset.range 4) fun j => o1Loc d ↦[cs 16384 (w * 4 + j)]{fullShare} f := by
  rw [← Parts.range_mul (fun k => (o1Loc d ↦[cs 16384 k]{fullShare} f : sProp 𝕄))]
  rw [← pointsTo_biUnion (ℓ := o1Loc d) _ (fun k => cs 16384 k) (fun _ _ _ _ h => cs_disjoint _ h), Parts.cs_cover 16384 _ rfl]

theorem blocks2 (f : S16384x128.Idx → Elt F .f32) :
    (o2Loc d ↦{fullShare} f : sProp 𝕄)
      = bigSep (Finset.range 32) fun w => bigSep (Finset.range 4) fun j => o2Loc d ↦[cs 16384 (w * 4 + j)]{fullShare} f := by
  rw [← Parts.range_mul (fun k => (o2Loc d ↦[cs 16384 k]{fullShare} f : sProp 𝕄))]
  rw [← pointsTo_biUnion (ℓ := o2Loc d) _ (fun k => cs 16384 k) (fun _ _ _ _ h => cs_disjoint _ h), Parts.cs_cover 16384 _ rfl]

theorem outs_parts (X : Outs F) : (outW d X : sProp 𝕄) = bigSep (Finset.range 32) fun w => outR d w X := by
  unfold outW outR
  rw [bigSep_sep', bigSep_sep', blocks0, blocks1, blocks2]

/-- Both cores' takings together are the arrays whole. -/
theorem whole (In : Dev nD → Ins F) (X : Outs F) :
    (bigSep Finset.univ fun c : Fin 2 => coreR In d X c.val : sProp 𝕄) = iprop(inW d (In d) ∗ outW d X) := by
  unfold coreR tileR tileNo
  rw [← Parts.tiles (fun w => (iprop(inR d (In d) w ∗ outR d w X) : sProp 𝕄)), bigSep_sep', ← ins_parts, ← outs_parts]

end Cert.Proof.OfKernelIdeal

end
-- ==== Proof.KernelIdeal.Loops.lean ====
/-
  What a tile's task addresses: its scratch, the arrays, its blocks of them; and the loops of its three stages.
-/
module

public import proofs.«01_k».proof.Proof.KernelIdeal.Setup

@[expose] public section

noncomputable section

namespace Cert.Proof.OfKernelIdeal

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather Cert.Proof.Streams Cert.Proof.Stage

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

/-- The tile's number, below 32. -/
abbrev wid (L : grid0.Coords) : ℕ := tileNo (L 0).val (L 1).val

theorem wid_lt (L : grid0.Coords) : wid L < 32 := by
  have h0 : (L 0).val < 2 := (L 0).isLt
  have h1 : (L 1).val < 16 := (L 1).isLt
  show 2 * (L 1).val + (L 0).val < 32
  omega

section Scratch

variable (d : Dev nD) (L : grid0.Coords)

/-- The semaphores the task names. -/
def semSet : Finset (SemLoc sig) :=
  {.dma cc0_scratch5.sem, .dma cc0_scratch6.sem, .dma cc0_scratch7.sem, .dma cc0_scratch8.sem, .dma cc0_scoped0.sem, .dma cc0_scoped1.sem, .dma cc0_scoped2.sem}

/-- The scratch buffers. -/
def bufSet : Finset (Ref sig .scVector) := {cc0_scratch0, cc0_scratch1, cc0_scratch2, cc0_scratch3, cc0_scratch4}

theorem semSet_scoped : ∀ s ∈ semSet, s.isScoped .scVector = true := by decide

/-- A family over a set is the family over a part of it and a rest. -/
theorem bigSep_part {I : Type} [DecidableEq I] {S S' : Finset I} (h : S' ⊆ S) (Φ : I → sProp 𝕄) :
    bigSep S Φ = iprop(bigSep S' Φ ∗ bigSep (S \ S') Φ) := by
  conv_lhs => rw [← Finset.union_sdiff_of_subset h]
  exact bigSep_union Finset.disjoint_sdiff

abbrev cell (d : Dev nD) (L : grid0.Coords) (s : DmaSem sig) : GSem nD τ sig := (V d (cV L) (jV L), .dma s)

theorem ownSems0_tile : ∃ R : sProp 𝕄, (ownSems0 (V d (cV L) (jV L)) : sProp 𝕄)
      = iprop((semVal (cell d L cc0_scratch5.sem) 0 ∗ semVal (cell d L cc0_scratch6.sem) 0 ∗ semVal (cell d L cc0_scratch7.sem) 0
        ∗ semVal (cell d L cc0_scratch8.sem) 0 ∗ semVal (cell d L cc0_scoped0.sem) 0 ∗ semVal (cell d L cc0_scoped1.sem) 0
        ∗ semVal (cell d L cc0_scoped2.sem) 0) ∗ R) := by
  have hsub : semSet.image (fun s => ((V d (cV L) (jV L), s) : GSem nD τ sig)) ⊆ ownCells (V d (cV L) (jV L)) := by
    intro g hg
    obtain ⟨s, hs, rfl⟩ := Finset.mem_image.mp hg
    exact mem_ownCells.mpr ⟨rfl, semSet_scoped s hs⟩
  refine ⟨bigSep (ownCells (V d (cV L) (jV L)) \ semSet.image (fun s => ((V d (cV L) (jV L), s) : GSem nD τ sig))) fun g => semVal g 0, ?_⟩
  unfold SparseCore.Cfg.ownSems0
  rw [bigSep_part hsub, SparseCore.bigSep_image_of_injOn (fun a _ b _ h => (Prod.mk.inj h).2)]
  unfold semSet
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem ownBufs_tile : ∃ R : sProp 𝕄, (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)
        ∗ (∃ f, (V d (cV L) (jV L)).loc cc0_scratch4 ↦{fullShare} f)) ∗ R) := by
  have hsub : bufSet.image (fun r => (Proc.scVector (cV L) (jV L)).devRef r) ⊆ ownRefs (τ := τ) (sig := sig) (.scVector (cV L) (jV L)) := by
    intro b hb
    obtain ⟨r, hr, rfl⟩ := Finset.mem_image.mp hb
    refine SparseCore.Cfg.mem_ownRefs_of_owner ?_
    unfold bufSet at hr
    simp only [Finset.mem_insert, Finset.mem_singleton] at hr
    rcases hr with rfl | rfl | rfl | rfl | rfl <;> rfl
  refine ⟨bigSep (ownRefs (τ := τ) (sig := sig) (.scVector (cV L) (jV L)) \ bufSet.image (fun r => (Proc.scVector (cV L) (jV L)).devRef r))
    fun b => iprop(∃ f, ((d, b) : Loc nD τ sig) ↦{fullShare} f), ?_⟩
  unfold SparseCore.Cfg.ownBufs
  refine (bigSep_part hsub _).trans ?_
  rw [SparseCore.bigSep_image_of_injOn (fun a _ b _ h => Proc.devRef_injective _ h)]
  unfold bufSet
  rw [SparseCore.bigSep_insert' (show (cc0_scratch0 : Ref sig .scVector) ∉ ({cc0_scratch1, cc0_scratch2, cc0_scratch3, cc0_scratch4} : Finset (Ref sig .scVector)) by decide),
    SparseCore.bigSep_insert' (show (cc0_scratch1 : Ref sig .scVector) ∉ ({cc0_scratch2, cc0_scratch3, cc0_scratch4} : Finset (Ref sig .scVector)) by decide),
    SparseCore.bigSep_insert' (show (cc0_scratch2 : Ref sig .scVector) ∉ ({cc0_scratch3, cc0_scratch4} : Finset (Ref sig .scVector)) by decide),
    SparseCore.bigSep_insert' (show (cc0_scratch3 : Ref sig .scVector) ∉ ({cc0_scratch4} : Finset (Ref sig .scVector)) by decide), bigSep_singleton]

end Scratch

/-! ## The arrays as the task addresses them -/

abbrev t3V : Memref sig .scVector .hbm S1000000x128 .f32 := (Memref.whole main_arg3_scv).slice (Rect.unit (s := S1000000x128) ![0, 0] S1000000x128.size inb_S1000000x128_S1000000x128_0_0) (fun _ => rfl)
abbrev t4V : Memref sig .scVector .hbm S500x128 .f32 := (Memref.whole main_arg4_scv).slice (Rect.unit (s := S500x128) ![0, 0] S500x128.size inb_S500x128_S500x128_0_0) (fun _ => rfl)
abbrev o0V : Memref sig .scVector .hbm S163840x128 .f32 := Memref.whole main_v8_0_scv
abbrev o1V : Memref sig .scVector .hbm S16384x128 .f32 := Memref.whole main_v8_1_scv
abbrev o2V : Memref sig .scVector .hbm S16384x128 .f32 := Memref.whole main_v8_2_scv
abbrev s0V : Memref sig .scVector .vmem S40x128 .i32 := Memref.whole cc0_scratch0
abbrev s1V : Memref sig .scVector .vmem S4x128 .i32 := Memref.whole cc0_scratch1
abbrev s2V : Memref sig .scVector .vmem S4x128 .i32 := Memref.whole cc0_scratch2
abbrev bAV : Memref sig .scVector .vmem S128x128 .f32 := Memref.whole cc0_scratch3
abbrev bBV : Memref sig .scVector .vmem S128x128 .f32 := Memref.whole cc0_scratch4

section Facts

variable (d : Dev nD) (L : grid0.Coords)

/-- A block of an output as the task addresses it is the block of the array. -/
theorem piece_o0 (f : S163840x128.Idx → Elt F .f32) (k : ℕ) :
    (outBlk (V d (cV L) (jV L)) o0V f k : sProp 𝕄) = (o0Loc d ↦[cs 163840 k]{fullShare} f) := by
  unfold outBlk
  rw [show (cs 163840 k).map o0V.view.emb = cs 163840 k from Finset.map_refl]
theorem piece_o1 (f : S16384x128.Idx → Elt F .f32) (k : ℕ) :
    (outBlk (V d (cV L) (jV L)) o1V f k : sProp 𝕄) = (o1Loc d ↦[cs 16384 k]{fullShare} f) := by
  unfold outBlk
  rw [show (cs 16384 k).map o1V.view.emb = cs 16384 k from Finset.map_refl]
theorem piece_o2 (f : S16384x128.Idx → Elt F .f32) (k : ℕ) :
    (outBlk (V d (cV L) (jV L)) o2V f k : sProp 𝕄) = (o2Loc d ↦[cs 16384 k]{fullShare} f) := by
  unfold outBlk
  rw [show (cs 16384 k).map o2V.view.emb = cs 16384 k from Finset.map_refl]

/-- The tables' views read the tables. -/
theorem read_all {R : ℕ} (f : (⟨2, ![R, 128]⟩ : Shape).Idx → Elt F .f32) (inb : ∀ a, (![0, 0] : Fin 2 → ℕ) a + (![R, 128] : Fin 2 → ℕ) a ≤ (![R, 128] : Fin 2 → ℕ) a)
    (y : (⟨2, ![R, 128]⟩ : Shape).Idx) : (Rect.unit (s := ⟨2, ![R, 128]⟩) ![0, 0] ![R, 128] inb).emb y = y := by
  funext a
  apply Fin.ext
  match a with
  | 0 => show 0 + 1 * (y 0).val = (y 0).val; omega
  | 1 => show 0 + 1 * (y 1).val = (y 1).val; omega

theorem read_t3 (f : S1000000x128.Idx → Elt F .f32) : t3V.view.read (Elt F) f = f := by
  funext y
  exact congrArg f (read_all f inb_S1000000x128_S1000000x128_0_0 y)
theorem read_t4 (f : S500x128.Idx → Elt F .f32) : t4V.view.read (Elt F) f = f := by
  funext y
  exact congrArg f (read_all f inb_S500x128_S500x128_0_0 y)

/-- The tile's blocks of an output, as the two streams' blocks. -/
theorem blocks_o0 (f : S163840x128.Idx → Elt F .f32) :
    (bigSep (Finset.range 40) fun j => (o0Loc d ↦[cs 163840 (wid L * 40 + j)]{fullShare} f : sProp 𝕄))
      = iprop(bigSep (Finset.range 20) (pieceB (V d (cV L) (jV L)) o0V (wid L) 40 f 0) ∗ bigSep (Finset.range 20) (pieceB (V d (cV L) (jV L)) o0V (wid L) 40 f 1)) := by
  refine (congrArg (bigSep _) (funext fun j => (piece_o0 d L f (wid L * 40 + j)).symm)).trans ?_
  exact bigSep_even_odd (fun k => (outBlk (V d (cV L) (jV L)) o0V f k : sProp 𝕄)) (wid L * 40) 20
theorem blocks_o1 (f : S16384x128.Idx → Elt F .f32) :
    (bigSep (Finset.range 4) fun j => (o1Loc d ↦[cs 16384 (wid L * 4 + j)]{fullShare} f : sProp 𝕄))
      = iprop(bigSep (Finset.range 2) (pieceB (V d (cV L) (jV L)) o1V (wid L) 4 f 0) ∗ bigSep (Finset.range 2) (pieceB (V d (cV L) (jV L)) o1V (wid L) 4 f 1)) := by
  refine (congrArg (bigSep _) (funext fun j => (piece_o1 d L f (wid L * 4 + j)).symm)).trans ?_
  exact bigSep_even_odd (fun k => (outBlk (V d (cV L) (jV L)) o1V f k : sProp 𝕄)) (wid L * 4) 2
theorem blocks_o2 (f : S16384x128.Idx → Elt F .f32) :
    (bigSep (Finset.range 4) fun j => (o2Loc d ↦[cs 16384 (wid L * 4 + j)]{fullShare} f : sProp 𝕄))
      = iprop(bigSep (Finset.range 2) (pieceB (V d (cV L) (jV L)) o2V (wid L) 4 f 0) ∗ bigSep (Finset.range 2) (pieceB (V d (cV L) (jV L)) o2V (wid L) 4 f 1)) := by
  refine (congrArg (bigSep _) (funext fun j => (piece_o2 d L f (wid L * 4 + j)).symm)).trans ?_
  exact bigSep_even_odd (fun k => (outBlk (V d (cV L) (jV L)) o2V f k : sProp 𝕄)) (wid L * 4) 2

/-- The lists' sheets as the task fetches them. -/
theorem sheet_l1 (f : S32x40x128.Idx → BitVec 32) :
    (((Memref.whole main_v1_scv).slice (Rect.unit (s := S32x40x128) (k0_off1 L) S1x40x128.size (k0_off1_inb L)) (fun _ => rfl)).squeeze S40x128 squeezes_S1x40x128_S40x128).view.read (Elt F) f
      = Sheet (F := F) (n := 40) (wid L) f := by
  funext x
  exact congrArg f (sheet_emb (n := 40) (wid_lt L) (k0_off1_eq L) (k0_off1_inb L) squeezes_S1x40x128_S40x128.numel_eq x)
theorem sheet_l4 (f : S32x4x128.Idx → BitVec 32) :
    (((Memref.whole main_v4_scv).slice (Rect.unit (s := S32x4x128) (k0_off9 L) S1x4x128.size (k0_off9_inb L)) (fun _ => rfl)).squeeze S4x128 squeezes_S1x4x128_S4x128).view.read (Elt F) f
      = Sheet (F := F) (n := 4) (wid L) f := by
  funext x
  exact congrArg f (sheet_emb (n := 4) (wid_lt L) (k0_off9_eq L) (k0_off9_inb L) squeezes_S1x4x128_S4x128.numel_eq x)
theorem sheet_l7 (f : S32x4x128.Idx → BitVec 32) :
    (((Memref.whole main_v7_scv).slice (Rect.unit (s := S32x4x128) (k0_off9 L) S1x4x128.size (k0_off9_inb L)) (fun _ => rfl)).squeeze S4x128 squeezes_S1x4x128_S4x128).view.read (Elt F) f
      = Sheet (F := F) (n := 4) (wid L) f := by
  funext x
  exact congrArg f (sheet_emb (n := 4) (wid_lt L) (k0_off9_eq L) (k0_off9_inb L) squeezes_S1x4x128_S4x128.numel_eq x)

/-- The rows of a buffer's gather weigh together what the buffer does. -/
theorem credA_S1000000x128 : ∑ j, ((Memref.whole cc0_scratch3 : Memref sig .scVector .vmem S128x128 .f32).slice (S128x128.rowRect gathers_S1000000x128_S128x128.axis' j) (S128x128.stride_rowRect gathers_S1000000x128_S128x128.axis' j)).view.dmaCredit
    = (bAV : Memref sig .scVector .vmem S128x128 .f32).view.dmaCredit := by decide
theorem credB_S1000000x128 : ∑ j, ((Memref.whole cc0_scratch4 : Memref sig .scVector .vmem S128x128 .f32).slice (S128x128.rowRect gathers_S1000000x128_S128x128.axis' j) (S128x128.stride_rowRect gathers_S1000000x128_S128x128.axis' j)).view.dmaCredit
    = (bAV : Memref sig .scVector .vmem S128x128 .f32).view.dmaCredit := by decide
theorem credA_S500x128 : ∑ j, ((Memref.whole cc0_scratch3 : Memref sig .scVector .vmem S128x128 .f32).slice (S128x128.rowRect gathers_S500x128_S128x128.axis' j) (S128x128.stride_rowRect gathers_S500x128_S128x128.axis' j)).view.dmaCredit
    = (bAV : Memref sig .scVector .vmem S128x128 .f32).view.dmaCredit := by decide
theorem credB_S500x128 : ∑ j, ((Memref.whole cc0_scratch4 : Memref sig .scVector .vmem S128x128 .f32).slice (S128x128.rowRect gathers_S500x128_S128x128.axis' j) (S128x128.stride_rowRect gathers_S500x128_S128x128.axis' j)).view.dmaCredit
    = (bAV : Memref sig .scVector .vmem S128x128 .f32).view.dmaCredit := by decide

theorem numel_pos : 0 < S128x128.numel := by decide

/-- Stage 1's loop as the task runs it. -/
abbrev bodyT1 [FloatOps F] := k0_t1_body (F := F) L (Memref.whole main_arg3_scv) (Memref.isWhole_whole _) (Memref.whole main_arg4_scv) (Memref.isWhole_whole _) (Memref.whole main_v1_scv) (Memref.isWhole_whole _)
    (Memref.whole main_v4_scv) (Memref.isWhole_whole _) (Memref.whole main_v7_scv) (Memref.isWhole_whole _) (Memref.whole main_v8_0_scv) (Memref.isWhole_whole _)
    (Memref.whole main_v8_1_scv) (Memref.isWhole_whole _) (Memref.whole main_v8_2_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0 cc0_scoped1 cc0_scoped2
/-- Both streams of stage 1 after `t` trips. -/
abbrev Duo1 (I : Ins F) (X : Outs F) (fl : Buf (Elt F) ((V d (cV L) (jV L)).loc cc0_scratch0)) (t : ℕ) : sProp 𝕄 :=
  Duo (F := F) (R := 1000000) (n := 40) (M := 163840) countersEmb (V d (cV L) (jV L)) (default : HIx 1) o0V s0V t3V bAV bBV cc0_scratch5.sem cc0_scratch7.sem cc0_scratch6.sem cc0_scratch8.sem
    bAV.view.dmaCredit bAV.view.dmaCredit (sh (wid L)) I.t3 I.t3 I.l1 (wid L) 20 X.o0 I.look.o0 fl t

theorem loop1 [FloatOps F] (I : Ins F) (hI : I.OK) (X : Outs F) {O : CellTallies nD τ sig (HIx 1)} {W : Waits sig (HIx 1)} {Q : PUnit → sProp 𝕄}
    (fl : Buf (Elt F) ((V d (cV L) (jV L)).loc cc0_scratch0)) (hfl : HoldsIn s0V (Sheet (F := F) (n := 40) (wid L) I.l1) fl) :
    iprop(Duo1 d L I X fl 0 ∗ owesP (V d (cV L) (jV L)) (default : HIx 1) O W ∗ Transfers.MayWaits (V d (cV L) (jV L)) (default : HIx 1) O)
      ⊢ iprop((iprop(Duo1 d L I X fl 20 ∗ owesP (V d (cV L) (jV L)) (default : HIx 1) O W) -∗ Q ⟨⟩)
        -∗ wp frame (wpE (defs₀ (F := F)) 𝒱₀ (V d (cV L) (jV L)) none) Set.univ
          (Scf.Loop.for k0_t1_loop k0_t1_ok ⟨⟩ (bodyT1 L)) Q) := by
  refine duo_loop (F := F) (R := 1000000) (n := 40) (M := 163840) countersEmb 𝒱₀ (V d (cV L) (jV L)) none (default : HIx 1) o0V s0V t3V bAV bBV cc0_scratch5.sem cc0_scratch7.sem cc0_scratch6.sem cc0_scratch8.sem
    bAV.view.dmaCredit bAV.view.dmaCredit (sh (wid L)) I.t3 I.t3 I.l1 (wid L) 20 X.o0 I.look.o0 (read_t3 I.t3) hI.l1 (wid_lt L) rfl (fun p => rfl)
    (hg := gathers_S1000000x128_S128x128) (hp := rfl) (hn := rfl) (htb := View.wordExact_bits rfl) (hb₀ := (Memref.isWhole_whole _).wordExact) (hb₁ := (Memref.isWhole_whole _).wordExact) (hr := by decide)
    (ho₀ := fun _ => View.wordExact_bits rfl) (ho₁ := fun _ => View.wordExact_bits rfl) (ho'₀ := fun _ _ => View.wordExact_bits rfl) (ho'₁ := fun _ _ => View.wordExact_bits rfl)
    (hsem₀ := fun _ => ⟨Or.inl rfl, trivial⟩) (hsem₁ := fun _ => ⟨Or.inl rfl, trivial⟩)
    (he := rfl) (hsp := Or.inl rfl) (hsq := squeezes_S1x128_S128)
    (offA₀ := fun t => k0_off3 L t 0#32) (offA₁ := fun t => k0_off3 L t 1#32) (offR₀ := k0_off5) (offR₁ := k0_off7)
    (inbA₀ := fun t => k0_off3_inb L t 0) (inbA₁ := fun t => k0_off3_inb L t 1)
    (cond₀ := fun t => k0_cond1 t = 1#1) (cond₁ := fun t => k0_cond2 t = 1#1)
    (inbR₀ := fun t h => k0_off5_inb t h) (inbR₁ := fun t h => k0_off7_inb t h)
    (out'₀ := fun t h => o0V.slice (Rect.unit (s := S163840x128) (k0_off4 L t) S128x128.size (k0_off4_inb L t h)) (fun _ => rfl))
    (out'₁ := fun t h => o0V.slice (Rect.unit (s := S163840x128) (k0_off6 L t) S128x128.size (k0_off6_inb L t h)) (fun _ => rfl))
    (hok := k0_t1_ok) (htr := by decide) (bodyT1 L) ?hbody ?hA₀ ?hA₁ ?hR₀ ?hR₁ ?hc₀ ?hc₁ rfl rfl ?hN₀ ?hN₁ (fun _ _ => rfl) (fun _ _ => rfl) (fun _ => rfl) (fun _ => rfl) (by decide) fl hfl
  case hbody =>
    intro t
    unfold bodyT1 k0_t1_body halfTrip
    by_cases h1 : k0_cond1 t = 1#1 <;> by_cases h2 : k0_cond2 t = 1#1 <;> simp only [h1, h2, ↓reduceDIte] <;> rfl
  case hA₀ =>
    intro t
    rw [show k0_off3 L t 0#32 = k0_off3 L t (BitVec.ofNat 32 (0 : Fin 2).val) from rfl, k0_off3_eq L t 0]
    exact congrArg (fun a : ℕ => ![a, 0]) (by show _ = ((2 * (L 1).val + (L 0).val) * 40 + (2 * t.val + 0)) * 128; simp only [Fin.val_zero]; omega)
  case hA₁ =>
    intro t
    rw [show k0_off3 L t 1#32 = k0_off3 L t (BitVec.ofNat 32 (1 : Fin 2).val) from rfl, k0_off3_eq L t 1]
    exact congrArg (fun a : ℕ => ![a, 0]) (by show _ = ((2 * (L 1).val + (L 0).val) * 40 + (2 * t.val + 1)) * 128; simp only [Fin.val_one]; omega)
  case hR₀ => exact fun t => (k0_off5_eq t).trans (congrArg (fun a : ℕ => ![a, 0]) (by omega))
  case hR₁ => exact fun t => (k0_off7_eq t).trans (congrArg (fun a : ℕ => ![a, 0]) (by omega))
  case hc₀ => decide +kernel
  case hc₁ => decide +kernel
  case hN₀ => exact credA_S1000000x128
  case hN₁ => exact credB_S1000000x128

/-- Stage 2's loop as the task runs it. -/
abbrev bodyT2 [FloatOps F] (v1 : BitVec 32) := k0_t2_body (F := F) L (Memref.whole main_arg3_scv) (Memref.isWhole_whole _) (Memref.whole main_arg4_scv) (Memref.isWhole_whole _) (Memref.whole main_v1_scv) (Memref.isWhole_whole _)
    (Memref.whole main_v4_scv) (Memref.isWhole_whole _) (Memref.whole main_v7_scv) (Memref.isWhole_whole _) (Memref.whole main_v8_0_scv) (Memref.isWhole_whole _)
    (Memref.whole main_v8_1_scv) (Memref.isWhole_whole _) (Memref.whole main_v8_2_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0 cc0_scoped1 cc0_scoped2 v1
/-- Both streams of stage 2 after `t` trips. -/
abbrev Duo2 (I : Ins F) (X : Outs F) (fl : Buf (Elt F) ((V d (cV L) (jV L)).loc cc0_scratch1)) (t : ℕ) : sProp 𝕄 :=
  Duo (F := F) (R := 1000000) (n := 4) (M := 16384) countersEmb (V d (cV L) (jV L)) (default : HIx 1) o1V s1V t3V bAV bBV cc0_scratch5.sem cc0_scratch7.sem cc0_scratch6.sem cc0_scratch8.sem
    bAV.view.dmaCredit bAV.view.dmaCredit (sh (wid L)) I.t3 I.t3 I.l4 (wid L) 2 X.o1 I.look.o1 fl t

theorem loop2 [FloatOps F] (v1 : BitVec 32) (I : Ins F) (hI : I.OK) (X : Outs F) {O : CellTallies nD τ sig (HIx 1)} {W : Waits sig (HIx 1)} {Q : PUnit → sProp 𝕄}
    (fl : Buf (Elt F) ((V d (cV L) (jV L)).loc cc0_scratch1)) (hfl : HoldsIn s1V (Sheet (F := F) (n := 4) (wid L) I.l4) fl) :
    iprop(Duo2 d L I X fl 0 ∗ owesP (V d (cV L) (jV L)) (default : HIx 1) O W ∗ Transfers.MayWaits (V d (cV L) (jV L)) (default : HIx 1) O)
      ⊢ iprop((iprop(Duo2 d L I X fl 2 ∗ owesP (V d (cV L) (jV L)) (default : HIx 1) O W) -∗ Q ⟨⟩)
        -∗ wp frame (wpE (defs₀ (F := F)) 𝒱₀ (V d (cV L) (jV L)) none) Set.univ
          (Scf.Loop.for k0_t2_loop k0_t2_ok ⟨⟩ (bodyT2 L v1)) Q) := by
  refine duo_loop (F := F) (R := 1000000) (n := 4) (M := 16384) countersEmb 𝒱₀ (V d (cV L) (jV L)) none (default : HIx 1) o1V s1V t3V bAV bBV cc0_scratch5.sem cc0_scratch7.sem cc0_scratch6.sem cc0_scratch8.sem
    bAV.view.dmaCredit bAV.view.dmaCredit (sh (wid L)) I.t3 I.t3 I.l4 (wid L) 2 X.o1 I.look.o1 (read_t3 I.t3) hI.l4 (wid_lt L) rfl (fun p => rfl)
    (hg := gathers_S1000000x128_S128x128) (hp := rfl) (hn := rfl) (htb := View.wordExact_bits rfl) (hb₀ := (Memref.isWhole_whole _).wordExact) (hb₁ := (Memref.isWhole_whole _).wordExact) (hr := by decide)
    (ho₀ := fun _ => View.wordExact_bits rfl) (ho₁ := fun _ => View.wordExact_bits rfl) (ho'₀ := fun _ _ => View.wordExact_bits rfl) (ho'₁ := fun _ _ => View.wordExact_bits rfl)
    (hsem₀ := fun _ => ⟨Or.inl rfl, trivial⟩) (hsem₁ := fun _ => ⟨Or.inl rfl, trivial⟩)
    (he := rfl) (hsp := Or.inl rfl) (hsq := squeezes_S1x128_S128)
    (offA₀ := fun t => k0_off11 L t 0#32) (offA₁ := fun t => k0_off11 L t 1#32) (offR₀ := k0_off13) (offR₁ := k0_off15)
    (inbA₀ := fun t => k0_off11_inb L t 0) (inbA₁ := fun t => k0_off11_inb L t 1)
    (cond₀ := fun t => k0_cond3 t = 1#1) (cond₁ := fun t => k0_cond4 t = 1#1)
    (inbR₀ := fun t h => k0_off13_inb t h) (inbR₁ := fun t h => k0_off15_inb t h)
    (out'₀ := fun t h => o1V.slice (Rect.unit (s := S16384x128) (k0_off12 L t) S128x128.size (k0_off12_inb L t h)) (fun _ => rfl))
    (out'₁ := fun t h => o1V.slice (Rect.unit (s := S16384x128) (k0_off14 L t) S128x128.size (k0_off14_inb L t h)) (fun _ => rfl))
    (hok := k0_t2_ok) (htr := by decide) (bodyT2 L v1) ?hbody ?hA₀ ?hA₁ ?hR₀ ?hR₁ ?hc₀ ?hc₁ rfl rfl ?hN₀ ?hN₁ (fun _ _ => rfl) (fun _ _ => rfl) (fun _ => rfl) (fun _ => rfl) (by decide) fl hfl
  case hbody =>
    intro t
    unfold bodyT2 k0_t2_body halfTrip
    by_cases h1 : k0_cond3 t = 1#1 <;> by_cases h2 : k0_cond4 t = 1#1 <;> simp only [h1, h2, ↓reduceDIte] <;> rfl
  case hA₀ =>
    intro t
    rw [show k0_off11 L t 0#32 = k0_off11 L t (BitVec.ofNat 32 (0 : Fin 2).val) from rfl, k0_off11_eq L t 0]
    exact congrArg (fun a : ℕ => ![a, 0]) (by show _ = ((2 * (L 1).val + (L 0).val) * 4 + (2 * t.val + 0)) * 128; simp only [Fin.val_zero]; omega)
  case hA₁ =>
    intro t
    rw [show k0_off11 L t 1#32 = k0_off11 L t (BitVec.ofNat 32 (1 : Fin 2).val) from rfl, k0_off11_eq L t 1]
    exact congrArg (fun a : ℕ => ![a, 0]) (by show _ = ((2 * (L 1).val + (L 0).val) * 4 + (2 * t.val + 1)) * 128; simp only [Fin.val_one]; omega)
  case hR₀ => exact fun t => (k0_off13_eq t).trans (congrArg (fun a : ℕ => ![a, 0]) (by omega))
  case hR₁ => exact fun t => (k0_off15_eq t).trans (congrArg (fun a : ℕ => ![a, 0]) (by omega))
  case hc₀ => decide +kernel
  case hc₁ => decide +kernel
  case hN₀ => exact credA_S1000000x128
  case hN₁ => exact credB_S1000000x128

/-- Stage 3's loop as the task runs it. -/
abbrev bodyT3 [FloatOps F] (v1 : BitVec 32) := k0_t3_body (F := F) L (Memref.whole main_arg3_scv) (Memref.isWhole_whole _) (Memref.whole main_arg4_scv) (Memref.isWhole_whole _) (Memref.whole main_v1_scv) (Memref.isWhole_whole _)
    (Memref.whole main_v4_scv) (Memref.isWhole_whole _) (Memref.whole main_v7_scv) (Memref.isWhole_whole _) (Memref.whole main_v8_0_scv) (Memref.isWhole_whole _)
    (Memref.whole main_v8_1_scv) (Memref.isWhole_whole _) (Memref.whole main_v8_2_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0 cc0_scoped1 cc0_scoped2 v1
/-- Both streams of stage 3 after `t` trips. -/
abbrev Duo3 (I : Ins F) (X : Outs F) (fl : Buf (Elt F) ((V d (cV L) (jV L)).loc cc0_scratch2)) (t : ℕ) : sProp 𝕄 :=
  Duo (F := F) (R := 500) (n := 4) (M := 16384) countersEmb (V d (cV L) (jV L)) (default : HIx 1) o2V s2V t4V bAV bBV cc0_scratch5.sem cc0_scratch7.sem cc0_scratch6.sem cc0_scratch8.sem
    bAV.view.dmaCredit bAV.view.dmaCredit (sh (wid L)) I.t4 I.t4 I.l7 (wid L) 2 X.o2 I.look.o2 fl t

theorem loop3 [FloatOps F] (v1 : BitVec 32) (I : Ins F) (hI : I.OK) (X : Outs F) {O : CellTallies nD τ sig (HIx 1)} {W : Waits sig (HIx 1)} {Q : PUnit → sProp 𝕄}
    (fl : Buf (Elt F) ((V d (cV L) (jV L)).loc cc0_scratch2)) (hfl : HoldsIn s2V (Sheet (F := F) (n := 4) (wid L) I.l7) fl) :
    iprop(Duo3 d L I X fl 0 ∗ owesP (V d (cV L) (jV L)) (default : HIx 1) O W ∗ Transfers.MayWaits (V d (cV L) (jV L)) (default : HIx 1) O)
      ⊢ iprop((iprop(Duo3 d L I X fl 2 ∗ owesP (V d (cV L) (jV L)) (default : HIx 1) O W) -∗ Q ⟨⟩)
        -∗ wp frame (wpE (defs₀ (F := F)) 𝒱₀ (V d (cV L) (jV L)) none) Set.univ
          (Scf.Loop.for k0_t3_loop k0_t3_ok ⟨⟩ (bodyT3 L v1)) Q) := by
  refine duo_loop (F := F) (R := 500) (n := 4) (M := 16384) countersEmb 𝒱₀ (V d (cV L) (jV L)) none (default : HIx 1) o2V s2V t4V bAV bBV cc0_scratch5.sem cc0_scratch7.sem cc0_scratch6.sem cc0_scratch8.sem
    bAV.view.dmaCredit bAV.view.dmaCredit (sh (wid L)) I.t4 I.t4 I.l7 (wid L) 2 X.o2 I.look.o2 (read_t4 I.t4) hI.l7 (wid_lt L) rfl (fun p => rfl)
    (hg := gathers_S500x128_S128x128) (hp := rfl) (hn := rfl) (htb := View.wordExact_bits rfl) (hb₀ := (Memref.isWhole_whole _).wordExact) (hb₁ := (Memref.isWhole_whole _).wordExact) (hr := by decide)
    (ho₀ := fun _ => View.wordExact_bits rfl) (ho₁ := fun _ => View.wordExact_bits rfl) (ho'₀ := fun _ _ => View.wordExact_bits rfl) (ho'₁ := fun _ _ => View.wordExact_bits rfl)
    (hsem₀ := fun _ => ⟨Or.inl rfl, trivial⟩) (hsem₁ := fun _ => ⟨Or.inl rfl, trivial⟩)
    (he := rfl) (hsp := Or.inl rfl) (hsq := squeezes_S1x128_S128)
    (offA₀ := fun t => k0_off18 L t 0#32) (offA₁ := fun t => k0_off18 L t 1#32) (offR₀ := k0_off20) (offR₁ := k0_off22)
    (inbA₀ := fun t => k0_off18_inb L t 0) (inbA₁ := fun t => k0_off18_inb L t 1)
    (cond₀ := fun t => k0_cond5 t = 1#1) (cond₁ := fun t => k0_cond6 t = 1#1)
    (inbR₀ := fun t h => k0_off20_inb t h) (inbR₁ := fun t h => k0_off22_inb t h)
    (out'₀ := fun t h => o2V.slice (Rect.unit (s := S16384x128) (k0_off19 L t) S128x128.size (k0_off19_inb L t h)) (fun _ => rfl))
    (out'₁ := fun t h => o2V.slice (Rect.unit (s := S16384x128) (k0_off21 L t) S128x128.size (k0_off21_inb L t h)) (fun _ => rfl))
    (hok := k0_t3_ok) (htr := by decide) (bodyT3 L v1) ?hbody ?hA₀ ?hA₁ ?hR₀ ?hR₁ ?hc₀ ?hc₁ rfl rfl ?hN₀ ?hN₁ (fun _ _ => rfl) (fun _ _ => rfl) (fun _ => rfl) (fun _ => rfl) (by decide) fl hfl
  case hbody =>
    intro t
    unfold bodyT3 k0_t3_body halfTrip
    by_cases h1 : k0_cond5 t = 1#1 <;> by_cases h2 : k0_cond6 t = 1#1 <;> simp only [h1, h2, ↓reduceDIte] <;> rfl
  case hA₀ =>
    intro t
    rw [show k0_off18 L t 0#32 = k0_off18 L t (BitVec.ofNat 32 (0 : Fin 2).val) from rfl, k0_off18_eq L t 0]
    exact congrArg (fun a : ℕ => ![a, 0]) (by show _ = ((2 * (L 1).val + (L 0).val) * 4 + (2 * t.val + 0)) * 128; simp only [Fin.val_zero]; omega)
  case hA₁ =>
    intro t
    rw [show k0_off18 L t 1#32 = k0_off18 L t (BitVec.ofNat 32 (1 : Fin 2).val) from rfl, k0_off18_eq L t 1]
    exact congrArg (fun a : ℕ => ![a, 0]) (by show _ = ((2 * (L 1).val + (L 0).val) * 4 + (2 * t.val + 1)) * 128; simp only [Fin.val_one]; omega)
  case hR₀ => exact fun t => (k0_off20_eq t).trans (congrArg (fun a : ℕ => ![a, 0]) (by omega))
  case hR₁ => exact fun t => (k0_off22_eq t).trans (congrArg (fun a : ℕ => ![a, 0]) (by omega))
  case hc₀ => decide +kernel
  case hc₁ => decide +kernel
  case hN₀ => exact credA_S500x128
  case hN₁ => exact credB_S500x128

end Facts

end Cert.Proof.OfKernelIdeal

end
-- ==== Proof.KernelIdeal.Tile.lean ====
/-
  One tile's task: three stages of gathers, each writing the tile's blocks of one output.
-/
module

public import proofs.«01_k».proof.Proof.KernelIdeal.Loops

@[expose] public section

noncomputable section

namespace Cert.Proof.OfKernelIdeal

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather Cert.Proof.Streams Cert.Proof.Stage

variable {F : FTy → Type}

local notation "𝕄" => MT nD τ sig (HIx 1) (Elt F) ℕ UU ℕ

/-- A scratch buffer of any contents. -/
theorem bufAny_s0 (d : Dev nD) (L : grid0.Coords) : (bufAny (V d (cV L) (jV L)) s0V : sProp 𝕄) = iprop(∃ f, (V d (cV L) (jV L)).loc cc0_scratch0 ↦{fullShare} f) := by
  unfold bufAny
  rfl
theorem bufAny_s1 (d : Dev nD) (L : grid0.Coords) : (bufAny (V d (cV L) (jV L)) s1V : sProp 𝕄) = iprop(∃ f, (V d (cV L) (jV L)).loc cc0_scratch1 ↦{fullShare} f) := by
  unfold bufAny
  rfl
theorem bufAny_s2 (d : Dev nD) (L : grid0.Coords) : (bufAny (V d (cV L) (jV L)) s2V : sProp 𝕄) = iprop(∃ f, (V d (cV L) (jV L)).loc cc0_scratch2 ↦{fullShare} f) := by
  unfold bufAny
  rfl
theorem bufAny_bA (d : Dev nD) (L : grid0.Coords) : (bufAny (V d (cV L) (jV L)) bAV : sProp 𝕄) = iprop(∃ f, (V d (cV L) (jV L)).loc cc0_scratch3 ↦{fullShare} f) := by
  unfold bufAny
  rfl
theorem bufAny_bB (d : Dev nD) (L : grid0.Coords) : (bufAny (V d (cV L) (jV L)) bBV : sProp 𝕄) = iprop(∃ f, (V d (cV L) (jV L)).loc cc0_scratch4 ↦{fullShare} f) := by
  unfold bufAny
  rfl

/-- The task's body at the tile's coordinates. -/
abbrev bodyL [FloatOps F] (L : grid0.Coords) := cc0__sc_gather_body (F := F) L (Memref.whole main_arg3_scv) (Memref.isWhole_whole _) (Memref.whole main_arg4_scv) (Memref.isWhole_whole _) (Memref.whole main_v1_scv) (Memref.isWhole_whole _)
    (Memref.whole main_v4_scv) (Memref.isWhole_whole _) (Memref.whole main_v7_scv) (Memref.isWhole_whole _) (Memref.whole main_v8_0_scv) (Memref.isWhole_whole _)
    (Memref.whole main_v8_1_scv) (Memref.isWhole_whole _) (Memref.whole main_v8_2_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0 cc0_scoped1 cc0_scoped2

set_option maxHeartbeats 1000000 in
/-- The task: from a tile's share of the inputs and its blocks of the outputs, its blocks at the gathers' values. -/
theorem tile_body [FloatOps F] (In : Dev nD → Ins F) (d : Dev nD) (hI : (In d).OK) (X : Outs F) (L : grid0.Coords) (hF : (K (F := F)).Facts)
    (O : CellTallies nD τ sig (HIx 1)) (W : Waits sig (HIx 1)) (hO : ∀ g, O g none = 0) :
    iprop(levAts (K (F := F)).L (K (F := F)).lev ∗ emp ∗ tileR In d X (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyL L)
        fun _ => (iprop(tileR In d (In d).look (L 0).val (L 1).val ∗ scopedBufs (V d (cV L) (jV L)) ∗ scopedSems0 (V d (cV L) (jV L))
          ∗ ∃ W', ⌜∀ p ∈ W', p ∈ W ∨ p.2 = none⌝ ∗ owes (V d (cV L) (jV L)) O W') : sProp 𝕄) := by
  unfold bodyL
  rw [cc0__sc_gather_body_eq_skeleton]
  unfold cc0__sc_gather_body_skel
  rw [k0_part1_eq_skeleton, k0_part2_eq_skeleton, k0_part3_eq_skeleton]
  unfold k0_part1_skel k0_part2_skel k0_part3_skel
  obtain ⟨RS, hS⟩ := ownSems0_tile (F := F) d L
  obtain ⟨RB, hB⟩ := ownBufs_tile (F := F) d L
  rw [(K (F := F)).scopedBufs_V hF d (cV L) (jV L), SparseCore.Cfg.scopedSems0_V (Val := Elt F) d (cV L) (jV L), hS, hB]
  unfold tileR inR outR
  rw [blocks_o0 d L X.o0, blocks_o1 d L X.o1, blocks_o2 d L X.o2, blocks_o0 d L (In d).look.o0, blocks_o1 d L (In d).look.o1, blocks_o2 d L (In d).look.o2]
  iintro ⟨#Hlv, Hemp, ⟨⟨Ht3, Ht4, Hl1, Hl4, Hl7⟩, ⟨Ho0, Ho0'⟩, ⟨Ho1, Ho1'⟩, Ho2, Ho2'⟩, ⟨⟨Hs0, Hs1, Hs2, HbA, HbB⟩, HRB⟩, ⟨⟨Hg0, Hg1, Hw0, Hw1, Hm0, Hm1, Hm2⟩, HRS⟩, HO⟩
  ihave #Hmw := (show levAts (K (F := F)).L (K (F := F)).lev ⊢ Transfers.MayWaits (V d (cV L) (jV L)) (default : HIx 1) O from (K (F := F)).mayWaits_none (thr := V d (cV L) (jV L)) hO) $$ Hlv
  ihave HO := (owesP_intro (V d (cV L) (jV L)) (default : HIx 1) O W) $$ HO
  ihave Hs0 := (Entails.of_eq (bufAny_s0 (F := F) d L).symm) $$ Hs0
  ihave Hs1 := (Entails.of_eq (bufAny_s1 (F := F) d L).symm) $$ Hs1
  ihave Hs2 := (Entails.of_eq (bufAny_s2 (F := F) d L).symm) $$ Hs2
  ihave HbA := (Entails.of_eq (bufAny_bA (F := F) d L).symm) $$ HbA
  ihave HbB := (Entails.of_eq (bufAny_bB (F := F) d L).symm) $$ HbB
  simp only [wp_bind]
  -- stage 1
  iapply (stage_wp (F := F) countersEmb 𝒱₀ (V d (cV L) (jV L)) none (default : HIx 1) t3V bAV bBV s0V cc0_scratch5.sem cc0_scratch7.sem cc0_scratch6.sem cc0_scratch8.sem
      bAV.view.dmaCredit bAV.view.dmaCredit (sh (wid L)) (In d).t3 (Sheet (F := F) (n := 40) (wid L) (In d).l1) 20
      (valB (In d).t3 (In d).l1 (wid L) 0) (valB (In d).t3 (In d).l1 (wid L) 1)
      (pieceB (V d (cV L) (jV L)) o0V (wid L) 40 X.o0 0) (pieceB (V d (cV L) (jV L)) o0V (wid L) 40 (In d).look.o0 0)
      (pieceB (V d (cV L) (jV L)) o0V (wid L) 40 X.o0 1) (pieceB (V d (cV L) (jV L)) o0V (wid L) 40 (In d).look.o0 1)
      (src := ((Memref.whole main_v1_scv).slice (Rect.unit (s := S32x40x128) (k0_off1 L) S1x40x128.size (k0_off1_inb L)) (fun _ => rfl)).squeeze S40x128 squeezes_S1x40x128_S40x128)
      (src' := ((Memref.whole main_v1_scv).slice (Rect.unit (s := S32x40x128) (k0_off1 L) S1x40x128.size (k0_off1_inb L)) (fun _ => rfl)).squeeze S40x128 squeezes_S1x40x128_S40x128)
      (sm := cc0_scoped0.sem) (row₀ := rowS (V d (cV L) (jV L)) s0V (off := ![0, 0]) inb_S40x128_S1x128_0_0 squeezes_S1x128_S128)
      (row₁ := rowS (V d (cV L) (jV L)) s0V (off := ![1, 0]) inb_S40x128_S1x128_1_0 squeezes_S1x128_S128) (Nl := s0V.view.dmaCredit) rfl rfl (by decide) (qa := sh (wid L)) (fs := (In d).l1) (sheet_l1 L (In d).l1) (hg := gathers_S1000000x128_S128x128) (hn := rfl) numel_pos credA_S1000000x128 credB_S1000000x128
      (row_start (V d (cV L) (jV L)) s0V t3V (j := 0) (wid_lt L) (by decide) rfl _ _ (read_t3 (In d).t3) hI.l1 _ _)
      (row_start (V d (cV L) (jV L)) s0V t3V (j := 1) (wid_lt L) (by decide) rfl _ _ (read_t3 (In d).t3) hI.l1 _ _)
      (by decide) (fun fl hfl => loop1 d L (In d) hI X fl hfl)) $$ [Hl1 Hs0 Hm0 Ht3 HbA Hg0 Hw0 HbB Hg1 Hw1 Ho0 Ho0' HO]
  · isplitl [Hl1]; · iexact Hl1
    isplitl [Hs0]; · iexact Hs0
    isplitl [Hm0]; · iexact Hm0
    isplitl [Ht3]; · iexact Ht3
    isplitl [HbA Hg0 Hw0]; · iframe HbA Hg0 Hw0
    isplitl [HbB Hg1 Hw1]; · iframe HbB Hg1 Hw1
    iframe Ho0 Ho0' HO Hmw
  iintro ⟨HB, Hl1, Hm0, HO⟩
  iapply (stage_end₀ (F := F) countersEmb 𝒱₀ (V d (cV L) (jV L)) none (default : HIx 1) t3V bAV bBV s0V cc0_scratch5.sem cc0_scratch7.sem cc0_scratch6.sem cc0_scratch8.sem
      bAV.view.dmaCredit bAV.view.dmaCredit (sh (wid L)) (In d).t3 20
      (valB (In d).t3 (In d).l1 (wid L) 0) (valB (In d).t3 (In d).l1 (wid L) 1)
      (pieceB (V d (cV L) (jV L)) o0V (wid L) 40 X.o0 0) (pieceB (V d (cV L) (jV L)) o0V (wid L) 40 (In d).look.o0 0)
      (pieceB (V d (cV L) (jV L)) o0V (wid L) 40 X.o0 1) (pieceB (V d (cV L) (jV L)) o0V (wid L) 40 (In d).look.o0 1) (hnt := by decide) (hN₀ := rfl)) $$ [HB HO]
  · iframe HB HO Hmw
  iintro ⟨HB, HO⟩
  simp only [wp_pure]
  imodintro
  iapply (stage_end₁ (F := F) countersEmb 𝒱₀ (V d (cV L) (jV L)) none (default : HIx 1) t3V bAV bBV s0V cc0_scratch5.sem cc0_scratch7.sem cc0_scratch6.sem cc0_scratch8.sem
      bAV.view.dmaCredit bAV.view.dmaCredit (sh (wid L)) (In d).t3 20
      (valB (In d).t3 (In d).l1 (wid L) 1)
      (pieceB (V d (cV L) (jV L)) o0V (wid L) 40 (In d).look.o0 0)
      (pieceB (V d (cV L) (jV L)) o0V (wid L) 40 X.o0 1) (pieceB (V d (cV L) (jV L)) o0V (wid L) 40 (In d).look.o0 1) (hnt := by decide) (hN₁ := rfl)) $$ [HB HO]
  · iframe HB HO Hmw
  iintro ⟨Ho0, Ho0', Hs0, Ht3, ⟨HbA, Hg0, Hw0⟩, ⟨HbB, Hg1, Hw1⟩, HO⟩
  -- stage 2
  iapply (stage_wp (F := F) countersEmb 𝒱₀ (V d (cV L) (jV L)) none (default : HIx 1) t3V bAV bBV s1V cc0_scratch5.sem cc0_scratch7.sem cc0_scratch6.sem cc0_scratch8.sem
      bAV.view.dmaCredit bAV.view.dmaCredit (sh (wid L)) (In d).t3 (Sheet (F := F) (n := 4) (wid L) (In d).l4) 2
      (valB (In d).t3 (In d).l4 (wid L) 0) (valB (In d).t3 (In d).l4 (wid L) 1)
      (pieceB (V d (cV L) (jV L)) o1V (wid L) 4 X.o1 0) (pieceB (V d (cV L) (jV L)) o1V (wid L) 4 (In d).look.o1 0)
      (pieceB (V d (cV L) (jV L)) o1V (wid L) 4 X.o1 1) (pieceB (V d (cV L) (jV L)) o1V (wid L) 4 (In d).look.o1 1)
      (src := ((Memref.whole main_v4_scv).slice (Rect.unit (s := S32x4x128) (k0_off9 L) S1x4x128.size (k0_off9_inb L)) (fun _ => rfl)).squeeze S4x128 squeezes_S1x4x128_S4x128)
      (src' := ((Memref.whole main_v4_scv).slice (Rect.unit (s := S32x4x128) (k0_off9 L) S1x4x128.size (k0_off9_inb L)) (fun _ => rfl)).squeeze S4x128 squeezes_S1x4x128_S4x128)
      (sm := cc0_scoped1.sem) (row₀ := rowS (V d (cV L) (jV L)) s1V (off := ![0, 0]) inb_S4x128_S1x128_0_0 squeezes_S1x128_S128)
      (row₁ := rowS (V d (cV L) (jV L)) s1V (off := ![1, 0]) inb_S4x128_S1x128_1_0 squeezes_S1x128_S128) (Nl := s1V.view.dmaCredit) rfl rfl (by decide) (qa := sh (wid L)) (fs := (In d).l4) (sheet_l4 L (In d).l4) (hg := gathers_S1000000x128_S128x128) (hn := rfl) numel_pos credA_S1000000x128 credB_S1000000x128
      (row_start (V d (cV L) (jV L)) s1V t3V (j := 0) (wid_lt L) (by decide) rfl _ _ (read_t3 (In d).t3) hI.l4 _ _)
      (row_start (V d (cV L) (jV L)) s1V t3V (j := 1) (wid_lt L) (by decide) rfl _ _ (read_t3 (In d).t3) hI.l4 _ _)
      (by decide) (fun fl hfl => loop2 d L _ (In d) hI X fl hfl)) $$ [Hl4 Hs1 Hm1 Ht3 HbA Hg0 Hw0 HbB Hg1 Hw1 Ho1 Ho1' HO]
  · isplitl [Hl4]; · iexact Hl4
    isplitl [Hs1]; · iexact Hs1
    isplitl [Hm1]; · iexact Hm1
    isplitl [Ht3]; · iexact Ht3
    isplitl [HbA Hg0 Hw0]; · iframe HbA Hg0 Hw0
    isplitl [HbB Hg1 Hw1]; · iframe HbB Hg1 Hw1
    iframe Ho1 Ho1' HO Hmw
  iintro ⟨HB, Hl4, Hm1, HO⟩
  iapply (stage_end₀ (F := F) countersEmb 𝒱₀ (V d (cV L) (jV L)) none (default : HIx 1) t3V bAV bBV s1V cc0_scratch5.sem cc0_scratch7.sem cc0_scratch6.sem cc0_scratch8.sem
      bAV.view.dmaCredit bAV.view.dmaCredit (sh (wid L)) (In d).t3 2
      (valB (In d).t3 (In d).l4 (wid L) 0) (valB (In d).t3 (In d).l4 (wid L) 1)
      (pieceB (V d (cV L) (jV L)) o1V (wid L) 4 X.o1 0) (pieceB (V d (cV L) (jV L)) o1V (wid L) 4 (In d).look.o1 0)
      (pieceB (V d (cV L) (jV L)) o1V (wid L) 4 X.o1 1) (pieceB (V d (cV L) (jV L)) o1V (wid L) 4 (In d).look.o1 1) (hnt := by decide) (hN₀ := rfl)) $$ [HB HO]
  · iframe HB HO Hmw
  iintro ⟨HB, HO⟩
  imodintro
  iapply (stage_end₁ (F := F) countersEmb 𝒱₀ (V d (cV L) (jV L)) none (default : HIx 1) t3V bAV bBV s1V cc0_scratch5.sem cc0_scratch7.sem cc0_scratch6.sem cc0_scratch8.sem
      bAV.view.dmaCredit bAV.view.dmaCredit (sh (wid L)) (In d).t3 2
      (valB (In d).t3 (In d).l4 (wid L) 1)
      (pieceB (V d (cV L) (jV L)) o1V (wid L) 4 (In d).look.o1 0)
      (pieceB (V d (cV L) (jV L)) o1V (wid L) 4 X.o1 1) (pieceB (V d (cV L) (jV L)) o1V (wid L) 4 (In d).look.o1 1) (hnt := by decide) (hN₁ := rfl)) $$ [HB HO]
  · iframe HB HO Hmw
  iintro ⟨Ho1, Ho1', Hs1, Ht3, ⟨HbA, Hg0, Hw0⟩, ⟨HbB, Hg1, Hw1⟩, HO⟩
  -- stage 3
  iapply (stage_wp (F := F) countersEmb 𝒱₀ (V d (cV L) (jV L)) none (default : HIx 1) t4V bAV bBV s2V cc0_scratch5.sem cc0_scratch7.sem cc0_scratch6.sem cc0_scratch8.sem
      bAV.view.dmaCredit bAV.view.dmaCredit (sh (wid L)) (In d).t4 (Sheet (F := F) (n := 4) (wid L) (In d).l7) 2
      (valB (In d).t4 (In d).l7 (wid L) 0) (valB (In d).t4 (In d).l7 (wid L) 1)
      (pieceB (V d (cV L) (jV L)) o2V (wid L) 4 X.o2 0) (pieceB (V d (cV L) (jV L)) o2V (wid L) 4 (In d).look.o2 0)
      (pieceB (V d (cV L) (jV L)) o2V (wid L) 4 X.o2 1) (pieceB (V d (cV L) (jV L)) o2V (wid L) 4 (In d).look.o2 1)
      (src := ((Memref.whole main_v7_scv).slice (Rect.unit (s := S32x4x128) (k0_off9 L) S1x4x128.size (k0_off9_inb L)) (fun _ => rfl)).squeeze S4x128 squeezes_S1x4x128_S4x128)
      (src' := ((Memref.whole main_v7_scv).slice (Rect.unit (s := S32x4x128) (k0_off9 L) S1x4x128.size (k0_off9_inb L)) (fun _ => rfl)).squeeze S4x128 squeezes_S1x4x128_S4x128)
      (sm := cc0_scoped2.sem) (row₀ := rowS (V d (cV L) (jV L)) s2V (off := ![0, 0]) inb_S4x128_S1x128_0_0 squeezes_S1x128_S128)
      (row₁ := rowS (V d (cV L) (jV L)) s2V (off := ![1, 0]) inb_S4x128_S1x128_1_0 squeezes_S1x128_S128) (Nl := s2V.view.dmaCredit) rfl rfl (by decide) (qa := sh (wid L)) (fs := (In d).l7) (sheet_l7 L (In d).l7) (hg := gathers_S500x128_S128x128) (hn := rfl) numel_pos credA_S500x128 credB_S500x128
      (row_start (V d (cV L) (jV L)) s2V t4V (j := 0) (wid_lt L) (by decide) rfl _ _ (read_t4 (In d).t4) hI.l7 _ _)
      (row_start (V d (cV L) (jV L)) s2V t4V (j := 1) (wid_lt L) (by decide) rfl _ _ (read_t4 (In d).t4) hI.l7 _ _)
      (by decide) (fun fl hfl => loop3 d L _ (In d) hI X fl hfl)) $$ [Hl7 Hs2 Hm2 Ht4 HbA Hg0 Hw0 HbB Hg1 Hw1 Ho2 Ho2' HO]
  · isplitl [Hl7]; · iexact Hl7
    isplitl [Hs2]; · iexact Hs2
    isplitl [Hm2]; · iexact Hm2
    isplitl [Ht4]; · iexact Ht4
    isplitl [HbA Hg0 Hw0]; · iframe HbA Hg0 Hw0
    isplitl [HbB Hg1 Hw1]; · iframe HbB Hg1 Hw1
    iframe Ho2 Ho2' HO Hmw
  iintro ⟨HB, Hl7, Hm2, HO⟩
  iapply (stage_end₀ (F := F) countersEmb 𝒱₀ (V d (cV L) (jV L)) none (default : HIx 1) t4V bAV bBV s2V cc0_scratch5.sem cc0_scratch7.sem cc0_scratch6.sem cc0_scratch8.sem
      bAV.view.dmaCredit bAV.view.dmaCredit (sh (wid L)) (In d).t4 2
      (valB (In d).t4 (In d).l7 (wid L) 0) (valB (In d).t4 (In d).l7 (wid L) 1)
      (pieceB (V d (cV L) (jV L)) o2V (wid L) 4 X.o2 0) (pieceB (V d (cV L) (jV L)) o2V (wid L) 4 (In d).look.o2 0)
      (pieceB (V d (cV L) (jV L)) o2V (wid L) 4 X.o2 1) (pieceB (V d (cV L) (jV L)) o2V (wid L) 4 (In d).look.o2 1) (hnt := by decide) (hN₀ := rfl)) $$ [HB HO]
  · iframe HB HO Hmw
  iintro ⟨HB, HO⟩
  imodintro
  iapply (stage_end₁ (F := F) countersEmb 𝒱₀ (V d (cV L) (jV L)) none (default : HIx 1) t4V bAV bBV s2V cc0_scratch5.sem cc0_scratch7.sem cc0_scratch6.sem cc0_scratch8.sem
      bAV.view.dmaCredit bAV.view.dmaCredit (sh (wid L)) (In d).t4 2
      (valB (In d).t4 (In d).l7 (wid L) 1)
      (pieceB (V d (cV L) (jV L)) o2V (wid L) 4 (In d).look.o2 0)
      (pieceB (V d (cV L) (jV L)) o2V (wid L) 4 X.o2 1) (pieceB (V d (cV L) (jV L)) o2V (wid L) 4 (In d).look.o2 1) (hnt := by decide) (hN₁ := rfl)) $$ [HB HO]
  · iframe HB HO Hmw
  iintro ⟨Ho2, Ho2', Hs2, Ht4, ⟨HbA, Hg0, Hw0⟩, ⟨HbB, Hg1, Hw1⟩, HO⟩
  imodintro
  unfold owesP
  icases HO with ⟨%W', %hW', HO⟩
  ihave Hs0 := (Entails.of_eq (bufAny_s0 (F := F) d L)) $$ Hs0
  ihave Hs1 := (Entails.of_eq (bufAny_s1 (F := F) d L)) $$ Hs1
  ihave Hs2 := (Entails.of_eq (bufAny_s2 (F := F) d L)) $$ Hs2
  ihave HbA := (Entails.of_eq (bufAny_bA (F := F) d L)) $$ HbA
  ihave HbB := (Entails.of_eq (bufAny_bB (F := F) d L)) $$ HbB
  isplitl [Ht3 Ht4 Hl1 Hl4 Hl7 Ho0 Ho0' Ho1 Ho1' Ho2 Ho2']
  · isplitl [Ht3 Ht4 Hl1 Hl4 Hl7]
    · isplitl [Ht3]; · iexact Ht3
      isplitl [Ht4]; · iexact Ht4
      isplitl [Hl1]; · iexact Hl1
      isplitl [Hl4]; · iexact Hl4
      iexact Hl7
    iframe Ho0 Ho0' Ho1 Ho1' Ho2 Ho2'
  isplitl [Hs0 Hs1 Hs2 HbA HbB HRB]
  · iframe Hs0 Hs1 Hs2 HbA HbB HRB
  isplitl [Hg0 Hg1 Hw0 Hw1 Hm0 Hm1 Hm2 HRS]
  · iframe Hg0 Hg1 Hw0 Hw1 Hm0 Hm1 Hm2 HRS
  iexists W'
  iframe HO
  ipureintro
  exact hW'

end Cert.Proof.OfKernelIdeal

end
-- ==== Proof.KernelIdeal.Point.lean ====
/-
  One grid point of the recurrence's TensorCore call: the body, run on any staging memrefs, leaves the state after the
  step this point takes, and at a batch block's first step the input's share of the gates in the scratch.
-/
module

public import proofs.«01_k».proof.Proof.KernelIdeal.Setup
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.Proof.OfKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The values -/

/-- Rows 0 to 127 of the input weights: what the entity's embedding meets. -/
def rowsA (w : Vec F S384x384 .f32) : Vec F S128x384 .f32 :=
  fun x => w ((Rect.unit (s := S384x384) ![0, 0] S128x384.size inb_S384x384_S128x384_0_0).emb x)
/-- Rows 128 to 255: what the relation's embedding meets. -/
def rowsB (w : Vec F S384x384 .f32) : Vec F S128x384 .f32 :=
  fun x => w ((Rect.unit (s := S384x384) ![128, 0] S128x384.size inb_S384x384_S128x384_128_0).emb x)
/-- Rows 256 to 383: what the step's own embedding meets. -/
def rowsC (w : Vec F S384x384 .f32) : Vec F S128x384 .f32 :=
  fun x => w ((Rect.unit (s := S384x384) ![256, 0] S128x384.size inb_S384x384_S128x384_256_0).emb x)

/-- The gates' share of the two embeddings that do not change over the steps, with the bias. -/
def gates₀ (x1 x2 : Vec F S1024x128 .f32) (x4 : Vec F S384x384 .f32) (x6 : Vec F S1x384 .f32) : Vec F S1024x384 .f32 :=
  k1_pay2 x1 x2 (rowsA x4) (rowsB x4) x6

/-- One step from state `h`, the gates' fixed share `g`, the step's rows `x0`: taken where the length exceeds the step's number. -/
def stepAt (n : ℕ) (h : Vec F S1024x128 .f32) (g : Vec F S1024x384 .f32) (x0 : Vec F S1x1024x128 .f32) (x3 : Vec F S1x1024x1 .i32)
    (x4 : Vec F S384x384 .f32) (x5 : Vec F S128x384 .f32) (x7 : Vec F S1x384 .f32) : Vec F S1024x128 .f32 :=
  k1_pay1 (BitVec.ofNat 32 n) (k1_pay4 h) (k1_pay5 h x0 g (rowsC x4) x5 x7) x3

/-! ## The body's one branch -/

/-- The point is a batch block's first. -/
abbrev isFirst (i : grid1.Coords) : Prop :=
  (Scalar.cmpi .ne (Scalar.extui (Scalar.cmpi .eq (BitVec.ofNat 32 (i 1).val) 0#32)) 0#32) = 1#1

theorem coords_one (t : Fin cfg1.N) : (grid1.coords t 1).val = t.val % 10 := by
  have e1 : (grid1.coords t 1).val = t.val / 1 % 10 := Pipeline.Grid.coords_val t 1 (by decide) rfl
  rw [e1, Nat.div_one]

theorem isFirst_iff (t : Fin cfg1.N) : isFirst (grid1.coords t) ↔ t.val % 10 = 0 := by
  have ht : t.val < 160 := Nat.lt_of_lt_of_eq t.isLt N_1
  have e1 := coords_one t
  simp only [isFirst, e1]
  word_cmp

/-! ## The body's run -/

section run
variable (c : Dev nD) (i : grid1.Coords) (arg2 : Memref sig .tc .vmem S1x1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1024x1 .i32) (harg5 : arg5.IsWhole) (arg6 : Memref sig .tc .vmem S384x384 .f32) (harg6 : arg6.IsWhole) (arg7 : Memref sig .tc .vmem S128x384 .f32) (harg7 : arg7.IsWhole) (arg8 : Memref sig .tc .vmem S1x384 .f32) (harg8 : arg8.IsWhole) (arg9 : Memref sig .tc .vmem S1x384 .f32) (harg9 : arg9.IsWhole) (arg10 : Memref sig .tc .vmem S1024x128 .f32) (harg10 : arg10.IsWhole) (arg11 : Memref sig .tc .vmem S1024x384 .f32) (harg11 : arg11.IsWhole)
    (x0 : Vec F S1x1024x128 .f32) (x1 : Vec F S1024x128 .f32) (x2 : Vec F S1024x128 .f32) (x3 : Vec F S1x1024x1 .i32) (x4 : Vec F S384x384 .f32) (x5 : Vec F S128x384 .f32) (x6 : Vec F S1x384 .f32) (x7 : Vec F S1x384 .f32)

/-- The eight inputs' staging buffers, each at its block. -/
def insOwned : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7)

set_option maxHeartbeats 800000 in
/-- A batch block's first point, from any state and any scratch: the scratch gets the gates' fixed share, the state the
    first step from zero. -/
theorem point_first (hc : isFirst i) (E : Set ℕ) (Q : PUnit → sProp 𝕄) :
    iprop(insOwned c arg2 arg3 arg4 arg5 arg6 arg7 arg8 arg9 x0 x1 x2 x3 x4 x5 x6 x7
        ∗ (∃ d, owns (c : Thread nD τ) arg10 fullShare d) ∗ (∃ d, owns (c : Thread nD τ) arg11 fullShare d)
        ∗ (iprop(insOwned c arg2 arg3 arg4 arg5 arg6 arg7 arg8 arg9 x0 x1 x2 x3 x4 x5 x6 x7
            ∗ owns (c : Thread nD τ) arg10 fullShare (stepAt (i 1).val (k1_pay3 (F := F)) (gates₀ x1 x2 x4 x6) x0 x3 x4 x5 x7)
            ∗ owns (c : Thread nD τ) arg11 fullShare (gates₀ x1 x2 x4 x6)) -∗ Q ⟨⟩))
      ⊢ wp frame (wpE (defs₀ (F := F)) 𝒱₀ c none) E (cc1__gru_body i arg2 harg2 arg3 harg3 arg4 harg4 arg5 harg5 arg6 harg6 arg7 harg7 arg8 harg8 arg9 harg9 arg10 harg10 arg11 harg11) Q := by
  simp only [cc1__gru_body_eq_skeleton]; unfold cc1__gru_body_skel
  simp only [k1_part1_eq_skeleton]
  unfold insOwned owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0 H1 H2 H3 H4 H5 H6 H7]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    iexists _; isplitr; · ipureintro; exact hf7
    iexact H7
  isplitl [H8]
  · iexists _; isplitr
    swap; · iexact H8
    ipureintro
    refine (View.read_writes_full _ _ _ _ _).trans ?_
    unfold point_first.sl.r point_first.sl.r_1
    have e3 : point_first.sl.v3 (F := F) c arg10 = k1_pay3 := by
      unfold point_first.sl.v3 point_first.sl.H8_1; exact View.readCov_full _ _ _ _ _
    have e7 : point_first.sl.v7 c arg3 harg3 arg4 harg4 arg6 harg6 arg8 harg8 arg11 x1 x2 x4 x6 = gates₀ x1 x2 x4 x6 := by
      unfold point_first.sl.v7 point_first.sl.HS0_1
      refine (View.readCov_full _ _ _ _ _).trans ?_
      unfold gates₀
      congr 1
      · exact (View.readAt_full _ _ _).trans hf1
      · exact (View.readAt_full _ _ _).trans hf2
      · exact congrArg rowsA hf4
      · exact congrArg rowsB hf4
      · exact (View.readAt_full _ _ _).trans hf6
    rw [e3, e7]
    unfold stepAt
    congr 1
    · congr 1
      · exact (View.readAt_full _ _ _).trans hf0
      · exact congrArg rowsC hf4
      · exact (View.readAt_full _ _ _).trans hf5
      · exact (View.readAt_full _ _ _).trans hf7
    · exact (View.readAt_full _ _ _).trans hf3
  · iexists _; isplitr
    swap; · iexact HS0
    ipureintro
    unfold point_first.sl.HS0_1
    refine (View.read_writes_full _ _ _ _ _).trans ?_
    unfold gates₀
    congr 1
    · exact (View.readAt_full _ _ _).trans hf1
    · exact (View.readAt_full _ _ _).trans hf2
    · exact congrArg rowsA hf4
    · exact congrArg rowsB hf4
    · exact (View.readAt_full _ _ _).trans hf6
/-- A later point of the block, from state `h` and the scratch at `g`: one step, and the scratch is kept. -/
theorem point_later (hc : ¬ isFirst i) (h : Vec F S1024x128 .f32) (g : Vec F S1024x384 .f32) (E : Set ℕ) (Q : PUnit → sProp 𝕄) :
    iprop(insOwned c arg2 arg3 arg4 arg5 arg6 arg7 arg8 arg9 x0 x1 x2 x3 x4 x5 x6 x7
        ∗ owns (c : Thread nD τ) arg10 fullShare h ∗ owns (c : Thread nD τ) arg11 fullShare g
        ∗ (iprop(insOwned c arg2 arg3 arg4 arg5 arg6 arg7 arg8 arg9 x0 x1 x2 x3 x4 x5 x6 x7
            ∗ owns (c : Thread nD τ) arg10 fullShare (stepAt (i 1).val h g x0 x3 x4 x5 x7)
            ∗ owns (c : Thread nD τ) arg11 fullShare g) -∗ Q ⟨⟩))
      ⊢ wp frame (wpE (defs₀ (F := F)) 𝒱₀ c none) E (cc1__gru_body i arg2 harg2 arg3 harg3 arg4 harg4 arg5 harg5 arg6 harg6 arg7 harg7 arg8 harg8 arg9 harg9 arg10 harg10 arg11 harg11) Q := by
  simp only [cc1__gru_body_eq_skeleton]; unfold cc1__gru_body_skel
  simp only [k1_part1_eq_skeleton]
  unfold insOwned owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%fs0, %hs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0 H1 H2 H3 H4 H5 H6 H7]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    iexists _; isplitr; · ipureintro; exact hf7
    iexact H7
  isplitl [H8]
  · iexists _; isplitr
    swap; · iexact H8
    ipureintro
    refine (View.read_writes_full _ _ _ _ _).trans ?_
    unfold point_later.sl.r point_later.sl.r_1
    rw [show View.readAt (Elt F) arg10.view (Rect.unit ![0, 0] S1024x128.size inb_S1024x128_S1024x128_0_0).toLoadRect f8 = h from
      (View.readAt_full _ _ _).trans hf8]
    unfold stepAt
    congr 1
    · congr 1
      · exact (View.readAt_full _ _ _).trans hf0
      · exact (View.readAt_full _ _ _).trans hs0
      · exact congrArg rowsC hf4
      · exact (View.readAt_full _ _ _).trans hf5
      · exact (View.readAt_full _ _ _).trans hf7
    · exact (View.readAt_full _ _ _).trans hf3
  · iexists _; isplitr
    swap; · iexact HS0
    ipureintro; exact hs0
end run

end Cert.Proof.OfKernelIdeal

end
-- ==== Proof.KernelIdeal.Region.lean ====
/-
  The recurrence's TensorCore call as a pipeline: what every window's buffer holds after each grid point, the body's
  obligation at a point, and the array the run leaves, block by block.
-/
module

public import proofs.«01_k».proof.Proof.KernelIdeal.Point
public import Idealize.ShloMosaic.Lib.Pipeline.ValueKit.Geometry

@[expose] public section

set_option maxRecDepth 16384

noncomputable section

namespace Cert.Proof.OfKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- What a TensorCore's buffers hold as the region finds them. -/
abbrev Bufs (F : FTy → Type) (c : Dev nD) : Type := (b : Ref sig .tc) → Buf (Elt F) ((c.tc : Thread nD τ).loc b)

variable (V : (c : Dev nD) → Bufs F c) (c : Dev nD)

/-! ## The blocks and the state -/

/-- Window `w`'s block at point `t`, read off its array as the region finds it. -/
def blkAt (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's points by number (batch blocks of ten steps, in order). -/
def pt (n : ℕ) : Fin cfg1.N := ⟨n % 160, lt_of_lt_of_eq (Nat.mod_lt _ (by decide)) N_1.symm⟩

theorem pt_val (t : Fin cfg1.N) : pt t.val = t :=
  Fin.ext (Nat.mod_eq_of_lt (lt_of_lt_of_eq t.isLt N_1))

/-- Batch block `b`'s fixed share of the gates. -/
def gatesB (b : ℕ) : Vec F S1024x384 .f32 :=
  gates₀ (blkAt V c 1 (pt (10 * b))) (blkAt V c 2 (pt (10 * b))) (blkAt V c 4 (pt (10 * b))) (blkAt V c 6 (pt (10 * b)))

/-- Step `k` of batch block `b`, from state `h`. -/
def stepB (b k : ℕ) (h : Vec F S1024x128 .f32) : Vec F S1024x128 .f32 :=
  stepAt k h (gatesB V c b) (blkAt V c 0 (pt (10 * b + k))) (blkAt V c 3 (pt (10 * b + k))) (blkAt V c 4 (pt (10 * b + k)))
    (blkAt V c 5 (pt (10 * b + k))) (blkAt V c 7 (pt (10 * b + k)))

/-- Batch block `b`'s state after step `k`, from zero. -/
def stateB (b : ℕ) : ℕ → Vec F S1024x128 .f32
  | 0 => stepB V c b 0 (k1_pay3 (F := F))
  | k + 1 => stepB V c b (k + 1) (stateB b k)

/-! ## The pipeline's proof data -/

/-- The scratch that carries the gates' fixed share between a block's points. -/
abbrev scM : Memref sig .tc .vmem S1024x384 .f32 := Memref.whole cc1_scratch0

/-- The buffers no window stages, and the generator register, at anything. -/
def PhiA : sProp 𝕄 := iprop(Pipeline.scopedRest spec1 c ∗ (∃ r, prngReg c r))

/-- Before the first point the scratch and the generator register at anything; afterwards the scratch at the block's fixed share. -/
def PhiS : (n : ℕ) → n ≤ cfg1.N → sProp 𝕄
  | 0, _ => PhiA c
  | n + 1, _ => iprop(owns (c : Thread nD τ) scM fullShare (gatesB V c (n / 10)) ∗ (∃ r, prngReg c r))

theorem PhiA_eq :
    (PhiA (F := F) c : sProp 𝕄) = iprop((∃ d, owns (c : Thread nD τ) scM fullShare d) ∗ (∃ r, prngReg c r)) := by
  unfold PhiA; rw [scopedRest1_eq]; simp only [scM, owns_whole]; try rfl

theorem PhiS_pos (n : ℕ) (h : n ≤ cfg1.N) (hz : n ≠ 0) :
    PhiS V c n h = iprop(owns (c : Thread nD τ) scM fullShare (gatesB V c ((n - 1) / 10)) ∗ (∃ r, prngReg c r)) := by
  cases n with
  | zero => exact absurd rfl hz
  | succ n => rfl

theorem phiS_any (n : ℕ) (h : n ≤ cfg1.N) :
    PhiS V c n h ⊢ iprop((∃ d, owns (c : Thread nD τ) scM fullShare d) ∗ (∃ r, prngReg c r)) := by
  cases n with
  | zero => exact Entails.of_eq (PhiA_eq c)
  | succ n =>
    unfold PhiS
    iintro ⟨H, Hg⟩
    isplitl [H]; · iexists _; iexact H
    iexact Hg

/-- The arrays as the region finds them; after each point the inputs' buffers at their blocks, the output's at the state. -/
def dats (_ : Fin 1) (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => stateB V c (t.val / 10) (t.val % 10)
  Φ t := PhiS V c t.val (Nat.le_of_lt_succ t.isLt)
  q _ := fullShare
  owed _ := 0
  recorded _ := { p | (K (F := F)).lev ((c.tc : Thread nD τ), p.1) p.2 ≤ 8 }

theorem A_eq (w : Fin cfg1.W) : (dats V 0 c).A w = V c (Pipeline.arrRef spec1 w) := by
  dsimp only [dats]

theorem Phi_castSucc (t : Fin cfg1.N) : (dats V 0 c).Φ t.castSucc = PhiS V c t.val (Nat.le_of_lt t.isLt) := by
  dsimp only [dats]; exact Pipeline.Dat.Φ_castSucc (PhiS V c) t

theorem after_0 (t : Fin cfg1.N) : (dats V 0 c).after 0 t = blkAt V c 0 t := by dsimp only [dats]
theorem after_1 (t : Fin cfg1.N) : (dats V 0 c).after 1 t = blkAt V c 1 t := by dsimp only [dats]
theorem after_2 (t : Fin cfg1.N) : (dats V 0 c).after 2 t = blkAt V c 2 t := by dsimp only [dats]
theorem after_3 (t : Fin cfg1.N) : (dats V 0 c).after 3 t = blkAt V c 3 t := by dsimp only [dats]
theorem after_4 (t : Fin cfg1.N) : (dats V 0 c).after 4 t = blkAt V c 4 t := by dsimp only [dats]
theorem after_5 (t : Fin cfg1.N) : (dats V 0 c).after 5 t = blkAt V c 5 t := by dsimp only [dats]
theorem after_6 (t : Fin cfg1.N) : (dats V 0 c).after 6 t = blkAt V c 6 t := by dsimp only [dats]
theorem after_7 (t : Fin cfg1.N) : (dats V 0 c).after 7 t = blkAt V c 7 t := by dsimp only [dats]
theorem after_8 (t : Fin cfg1.N) : (dats V 0 c).after 8 t = stateB V c (t.val / 10) (t.val % 10) := by dsimp only [dats]

/-! ## What each buffer holds at a point's start -/

section before
variable (t : Fin cfg1.N)
theorem before_0 (d) : (dats V 0 c).before 0 t d = blkAt V c 0 t :=
  ((dats V 0 c).before_in_eq_fetched 0 rfl (fun _ => rfl) (fun _ _ _ => rfl) (fun t => by rw [after_0]; unfold Dat.blockOf blkAt; rw [A_eq]; try rfl) t d).trans
    (by unfold Dat.fetched Dat.blockOf blkAt; rw [A_eq]; try rfl)
theorem before_1 (d) : (dats V 0 c).before 1 t d = blkAt V c 1 t :=
  ((dats V 0 c).before_in_eq_fetched 1 rfl (fun _ => rfl) (fun _ _ _ => rfl) (fun t => by rw [after_1]; unfold Dat.blockOf blkAt; rw [A_eq]; try rfl) t d).trans
    (by unfold Dat.fetched Dat.blockOf blkAt; rw [A_eq]; try rfl)
theorem before_2 (d) : (dats V 0 c).before 2 t d = blkAt V c 2 t :=
  ((dats V 0 c).before_in_eq_fetched 2 rfl (fun _ => rfl) (fun _ _ _ => rfl) (fun t => by rw [after_2]; unfold Dat.blockOf blkAt; rw [A_eq]; try rfl) t d).trans
    (by unfold Dat.fetched Dat.blockOf blkAt; rw [A_eq]; try rfl)
theorem before_3 (d) : (dats V 0 c).before 3 t d = blkAt V c 3 t :=
  ((dats V 0 c).before_in_eq_fetched 3 rfl (fun _ => rfl) (fun _ _ _ => rfl) (fun t => by rw [after_3]; unfold Dat.blockOf blkAt; rw [A_eq]; try rfl) t d).trans
    (by unfold Dat.fetched Dat.blockOf blkAt; rw [A_eq]; try rfl)
theorem before_4 (d) : (dats V 0 c).before 4 t d = blkAt V c 4 t :=
  ((dats V 0 c).before_in_eq_fetched 4 rfl (fun _ => rfl) (fun _ _ _ => rfl) (fun t => by rw [after_4]; unfold Dat.blockOf blkAt; rw [A_eq]; try rfl) t d).trans
    (by unfold Dat.fetched Dat.blockOf blkAt; rw [A_eq]; try rfl)
theorem before_5 (d) : (dats V 0 c).before 5 t d = blkAt V c 5 t :=
  ((dats V 0 c).before_in_eq_fetched 5 rfl (fun _ => rfl) (fun _ _ _ => rfl) (fun t => by rw [after_5]; unfold Dat.blockOf blkAt; rw [A_eq]; try rfl) t d).trans
    (by unfold Dat.fetched Dat.blockOf blkAt; rw [A_eq]; try rfl)
theorem before_6 (d) : (dats V 0 c).before 6 t d = blkAt V c 6 t :=
  ((dats V 0 c).before_in_eq_fetched 6 rfl (fun _ => rfl) (fun _ _ _ => rfl) (fun t => by rw [after_6]; unfold Dat.blockOf blkAt; rw [A_eq]; try rfl) t d).trans
    (by unfold Dat.fetched Dat.blockOf blkAt; rw [A_eq]; try rfl)
theorem before_7 (d) : (dats V 0 c).before 7 t d = blkAt V c 7 t :=
  ((dats V 0 c).before_in_eq_fetched 7 rfl (fun _ => rfl) (fun _ _ _ => rfl) (fun t => by rw [after_7]; unfold Dat.blockOf blkAt; rw [A_eq]; try rfl) t d).trans
    (by unfold Dat.fetched Dat.blockOf blkAt; rw [A_eq]; try rfl)
/-- At a point that is not its block's first the output's buffer holds the state the point before left. -/
theorem before_8 (h0 : ¬ t.val % 10 = 0) (d) : (dats V 0 c).before 8 t d = stateB V c (t.val / 10) (t.val % 10 - 1) := by
  have hN : t.val < 160 := lt_of_lt_of_eq t.isLt (show cfg1.N = 160 from N_1)
  rw [Dat.before_out_kept _ 8 rfl t (by omega) (Bool.eq_false_iff.mpr fun h => by have := (flush1_8 _).mp h; dsimp only at this; omega)
    (fun _ => rfl) (fun _ _ => rfl)]
  rw [after_8]
  congr 1
  · show (t.val - 1) / 10 = _; omega
  · show (t.val - 1) % 10 = _; omega
end before

/-! ## The body's obligation -/

/-- What the body is called with at point `t`, -/
def bodyPre (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d))
    ∗ (∃ d, owns (c : Thread nD τ) (st1_4 t) fullShare ((dats V 0 c).before 4 t d))
    ∗ (∃ d, owns (c : Thread nD τ) (st1_5 t) fullShare ((dats V 0 c).before 5 t d))
    ∗ (∃ d, owns (c : Thread nD τ) (st1_6 t) fullShare ((dats V 0 c).before 6 t d))
    ∗ (∃ d, owns (c : Thread nD τ) (st1_7 t) fullShare ((dats V 0 c).before 7 t d))
    ∗ (∃ d, owns (c : Thread nD τ) (st1_8 t) fullShare ((dats V 0 c).before 8 t d)))

/-- and what it returns. -/
def bodyPost (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t)
    ∗ owns (c : Thread nD τ) (st1_4 t) fullShare ((dats V 0 c).after 4 t)
    ∗ owns (c : Thread nD τ) (st1_5 t) fullShare ((dats V 0 c).after 5 t)
    ∗ owns (c : Thread nD τ) (st1_6 t) fullShare ((dats V 0 c).after 6 t)
    ∗ owns (c : Thread nD τ) (st1_7 t) fullShare ((dats V 0 c).after 7 t)
    ∗ owns (c : Thread nD τ) (st1_8 t) fullShare ((dats V 0 c).after 8 t))

set_option maxHeartbeats 1600000 in
/-- The body at any point takes one to the other. -/
theorem sound_body (t : Fin cfg1.N) :
    bodyPre V c t ⊢ wp frame (wpE (defs₀ (F := F)) 𝒱₀ c none) Set.univ (bodyAt1 t) (fun _ => bodyPost V c t) := by
  have hN : t.val < 160 := lt_of_lt_of_eq t.isLt (show cfg1.N = 160 from N_1)
  unfold bodyPre bodyPost bodyAt1
  simp only [before_0, before_1, before_2, before_3, before_4, before_5, before_6, before_7]
  rw [show (dats V 0 c).owesAt none t.succ = (dats V 0 c).owesAt none t.castSucc from rfl,
    after_0, after_1, after_2, after_3, after_4, after_5, after_6, after_7, after_8]
  rw [show (dats V 0 c).Φ t.succ = iprop(owns (c : Thread nD τ) scM fullShare (gatesB V c (t.val / 10)) ∗ (∃ r, prngReg c r)) from rfl,
    Phi_castSucc V c t]
  by_cases h0 : t.val % 10 = 0
  · have ept : pt (10 * (t.val / 10)) = t := by rw [show 10 * (t.val / 10) = t.val by omega, pt_val]
    have es : stateB V c (t.val / 10) (t.val % 10) = stepAt (grid1.coords t 1).val (k1_pay3 (F := F)) (gates₀ (blkAt V c 1 t) (blkAt V c 2 t) (blkAt V c 4 t) (blkAt V c 6 t)) (blkAt V c 0 t) (blkAt V c 3 t) (blkAt V c 4 t) (blkAt V c 5 t) (blkAt V c 7 t) := by
      rw [h0, coords_one, h0]; unfold stateB stepB gatesB; rw [Nat.add_zero, ept]
    have eg : gatesB V c (t.val / 10) = gates₀ (blkAt V c 1 t) (blkAt V c 2 t) (blkAt V c 4 t) (blkAt V c 6 t) := by
      unfold gatesB; rw [ept]
    rw [es, eg]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := (phiS_any V c t.val (Nat.le_of_lt t.isLt)) $$ HP
    icases HP with ⟨HS, Hg⟩
    iapply (point_first c (grid1.coords t) _ _ _ _ _ _ _ _ _ _ _ _ _ _ _ _ _ _ _ _ (blkAt V c 0 t) (blkAt V c 1 t) (blkAt V c 2 t) (blkAt V c 3 t) (blkAt V c 4 t) (blkAt V c 5 t) (blkAt V c 6 t) (blkAt V c 7 t) ((isFirst_iff t).mpr h0) Set.univ _)
    unfold insOwned
    isplitl [H0 H1 H2 H3 H4 H5 H6 H7]
    · iframe H0 H1 H2 H3 H4 H5 H6 H7
    isplitl [H8]; · iexists _; iexact H8
    isplitl [HS]; · iexact HS
    iintro ⟨⟨H0, H1, H2, H3, H4, H5, H6, H7⟩, H8, HS⟩
    isplitl [HS Hg]
    · isplitl [HS]; · iexact HS
      iexact Hg
    isplitl [Ho]; · iexact Ho
    iframe H0 H1 H2 H3 H4 H5 H6 H7
    iexact H8
  · have hz : t.val ≠ 0 := fun h => h0 (by rw [h])
    have ept : pt (10 * (t.val / 10) + t.val % 10) = t := by rw [show 10 * (t.val / 10) + t.val % 10 = t.val by omega, pt_val]
    have es : stateB V c (t.val / 10) (t.val % 10) = stepAt (grid1.coords t 1).val (stateB V c (t.val / 10) (t.val % 10 - 1)) (gatesB V c (t.val / 10)) (blkAt V c 0 t) (blkAt V c 3 t) (blkAt V c 4 t) (blkAt V c 5 t) (blkAt V c 7 t) := by
      rw [coords_one]
      obtain ⟨k, hk⟩ : ∃ k, t.val % 10 = k + 1 := ⟨t.val % 10 - 1, by omega⟩
      rw [hk] at ept ⊢
      rw [Nat.add_sub_cancel]
      conv_lhs => unfold stateB stepB
      rw [ept]
    rw [PhiS_pos V c _ _ hz, show (t.val - 1) / 10 = t.val / 10 by omega, es]
    simp only [before_8 V c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (point_later c (grid1.coords t) _ _ _ _ _ _ _ _ _ _ _ _ _ _ _ _ _ _ _ _ (blkAt V c 0 t) (blkAt V c 1 t) (blkAt V c 2 t) (blkAt V c 3 t) (blkAt V c 4 t) (blkAt V c 5 t) (blkAt V c 6 t) (blkAt V c 7 t) (fun h => h0 ((isFirst_iff t).mp h)) _ _ Set.univ _)
    unfold insOwned
    isplitl [H0 H1 H2 H3 H4 H5 H6 H7]
    · iframe H0 H1 H2 H3 H4 H5 H6 H7
    isplitl [H8]; · iexact H8
    isplitl [HS]; · iexact HS
    iintro ⟨⟨H0, H1, H2, H3, H4, H5, H6, H7⟩, H8, HS⟩
    isplitl [HS Hg]
    · isplitl [HS]; · iexact HS
      iexact Hg
    isplitl [Ho]; · iexact Ho
    iframe H0 H1 H2 H3 H4 H5 H6 H7
    iexact H8

theorem defs₀_row (t : Fin cfg1.N) :
    defs₀ (F := F) .tc cfg1.body (cfg1.bodyArgs t (cfg1.slots t)) = bodyAt1 t := rfl

theorem body_obligation : BodyObligation (dats (F := F) V 0 c) (defs₀ (F := F)) 𝒱₀ none Set.univ := fun t => by
  rw [bigSep_W1, bigSep_W1, defs₀_row]
  exact triple_restated (sound_body V c t) rfl .rfl fun _ => .rfl

/-! ## The invariant's two ends -/

theorem phi_in : PhiA c ⊢ (dats V 0 c).Φ 0 := by
  rw [show (dats V 0 c).Φ 0 = PhiA c from rfl]

theorem phi_out : (dats V 0 c).Φ (Fin.last cfg1.N) ⊢ PhiA c := by
  rw [show (dats V 0 c).Φ (Fin.last cfg1.N) = PhiS V c cfg1.N le_rfl from rfl,
    PhiS_pos V c _ _ (by rw [show cfg1.N = 160 from N_1]; decide), PhiA_eq]
  iintro ⟨HS, Hg⟩
  isplitl [HS]
  · iexists _; iexact HS
  iexact Hg

/-! ## The array the run leaves -/

/-- A row's place in its batch block. -/
def inBlock (i : S16384x128.Idx) : S1024x128.Idx
  | ⟨0, _⟩ => ⟨(i 0).val % 1024, Nat.mod_lt _ (by decide)⟩
  | ⟨1, _⟩ => ⟨(i 1).val, (i 1).isLt⟩

/-- The result: each batch block's state after its tenth step. -/
def result : Buf (Elt F) ((c.tc : Thread nD τ).loc main_v15) := fun i =>
  stateB V c ((i 0).val / 1024) 9 (inBlock i)

theorem final : (dats V 0 c).arrAt 8 cfg1.N = result V c := by
  refine (dats V 0 c).arrAt_eq_of_covers 8 (result V c) (by decide +kernel) (fun t hf y => ?_)
  have hm : t.val % 10 = 9 := (flush1_8 t).mp hf
  have hN : t.val < 160 := lt_of_lt_of_eq t.isLt (show cfg1.N = 160 from N_1)
  have hidx : ∀ t : Fin grid1.N, win1_8.index t (0 : Fin 2) = t.val / 10 ∧ win1_8.index t (1 : Fin 2) = 0 := by decide +kernel
  obtain ⟨e0, e1⟩ := hidx t
  have hy0 : (y 0).val < 1024 := (y 0).isLt
  have hb0 : (((cfg1.win 8).blk t).view.emb y 0).val = win1_8.index t (0 : Fin 2) * 1024 + 1 * (y 0).val := rfl
  have hb1 : (((cfg1.win 8).blk t).view.emb y 1).val = win1_8.index t (1 : Fin 2) * 128 + 1 * (y 1).val := rfl
  rw [after_8, hm]
  show stateB V c (t.val / 10) 9 _ = stateB V c ((((cfg1.win 8).blk t).view.emb y 0).val / 1024) 9 (inBlock (((cfg1.win 8).blk t).view.emb y))
  rw [show (((cfg1.win 8).blk t).view.emb y 0).val / 1024 = t.val / 10 by rw [hb0, e0]; omega]
  congr 1
  funext a; apply Fin.ext
  match a with
  | ⟨0, _⟩ => show (y 0).val = (((cfg1.win 8).blk t).view.emb y 0).val % 1024; rw [hb0, e0]; omega
  | ⟨1, _⟩ => show (y 1).val = (((cfg1.win 8).blk t).view.emb y 1).val; rw [hb1, e1]; omega

end Cert.Proof.OfKernelIdeal

end
-- ==== Proof.KernelIdeal.Host.lean ====
/-
  The contents of the TensorCore's buffers through @main: at launch, after the host lays the lists out, after the SparseCore
  call, and as the grid kernel finds them.
-/
module

public import proofs.«01_k».proof.Proof.KernelIdeal.Whole
public import proofs.«01_k».proof.Proof.KernelIdeal.Tile
public import proofs.«01_k».proof.Proof.KernelIdeal.Region

@[expose] public section

noncomputable section

namespace Cert.Proof.OfKernelIdeal

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## @main's host operations -/

/-- The host's lists: the table's row numbers laid out per tile. -/
def opsA : List (HloOp τ sig (Elt F)) :=
  [ StableHlo.unary main_arg1 main_v0 ((transpose S10x16384 [1, 0] · transposes_S16384x10_S10x16384_1_0) : (⟨S16384x10, .i32⟩ : BufTy).Contents (Elt F) → (⟨S10x16384, .i32⟩ : BufTy).Contents (Elt F))
  , StableHlo.reshape main_v0 main_v1 (rfl : (.i32 : EltTy) = .i32) shapeCasts_S10x16384_S32x40x128
  , StableHlo.unary main_arg0 main_v2 ((extractStridedSlice S16384x1 ![0, 0] · slices_S16384x3_S16384x1_0_0) : (⟨S16384x3, .i32⟩ : BufTy).Contents (Elt F) → (⟨S16384x1, .i32⟩ : BufTy).Contents (Elt F))
  , StableHlo.reshape main_v2 main_v3 (rfl : (.i32 : EltTy) = .i32) shapeCasts_S16384x1_S16384
  , StableHlo.reshape main_v3 main_v4 (rfl : (.i32 : EltTy) = .i32) shapeCasts_S16384_S32x4x128
  , StableHlo.unary main_arg0 main_v5 ((extractStridedSlice S16384x1 ![0, 1] · slices_S16384x3_S16384x1_0_1) : (⟨S16384x3, .i32⟩ : BufTy).Contents (Elt F) → (⟨S16384x1, .i32⟩ : BufTy).Contents (Elt F))
  , StableHlo.reshape main_v5 main_v6 (rfl : (.i32 : EltTy) = .i32) shapeCasts_S16384x1_S16384
  , StableHlo.reshape main_v6 main_v7 (rfl : (.i32 : EltTy) = .i32) shapeCasts_S16384_S32x4x128 ]

/-- The host's layouts between the two calls. -/
def opsB : List (HloOp τ sig (Elt F)) :=
  [ StableHlo.reshape main_v8_0 main_v9 (rfl : (.f32 : EltTy) = .f32) shapeCasts_S163840x128_S10x16384x128
  , StableHlo.unary main_arg5 main_v10 ((transpose S384x384 [1, 0] · transposes_S384x384_S384x384_1_0) : (⟨S384x384, .f32⟩ : BufTy).Contents (Elt F) → (⟨S384x384, .f32⟩ : BufTy).Contents (Elt F))
  , StableHlo.unary main_arg6 main_v11 ((transpose S128x384 [1, 0] · transposes_S384x128_S128x384_1_0) : (⟨S384x128, .f32⟩ : BufTy).Contents (Elt F) → (⟨S128x384, .f32⟩ : BufTy).Contents (Elt F))
  , StableHlo.reshape main_arg7 main_v12 (rfl : (.f32 : EltTy) = .f32) shapeCasts_S384_S1x384
  , StableHlo.reshape main_arg8 main_v13 (rfl : (.f32 : EltTy) = .f32) shapeCasts_S384_S1x384
  , StableHlo.reshape main_arg2 main_v14 (rfl : (.i32 : EltTy) = .i32) shapeCasts_S16384_S16x1024x1 ]

/-- @main: the lists, the SparseCore call, the layouts, the grid kernel. -/
theorem main_eq (d : Dev nD) : main (F := F) d
    = StableHlo.seq opsA >>= fun _ => (K (F := F)).run d 0 >>= fun _ => StableHlo.seq opsB >>= fun _ =>
      SparseCore.liftProg (.op (.customCall (Pipeline.entry 0) ()) .ret) >>= fun _ => pure ⟨⟩ := rfl

theorem opsA_sub : ∀ op ∈ opsA (F := F), op.bufs ⊆ Pipeline.ucRefs τ sig := by
  intro op h
  refine Pipeline.sub_ucRefs op ?_
  unfold opsA at h
  simp only [List.mem_cons, List.not_mem_nil, or_false] at h
  rcases h with rfl | rfl | rfl | rfl | rfl | rfl | rfl | rfl <;> first | exact StableHlo.unary_bufs_sub .. | exact StableHlo.reshape_bufs_sub ..

theorem opsB_sub : ∀ op ∈ opsB (F := F), op.bufs ⊆ Pipeline.ucRefs τ sig := by
  intro op h
  refine Pipeline.sub_ucRefs op ?_
  unfold opsB at h
  simp only [List.mem_cons, List.not_mem_nil, or_false] at h
  rcases h with rfl | rfl | rfl | rfl | rfl | rfl <;> first | exact StableHlo.unary_bufs_sub .. | exact StableHlo.reshape_bufs_sub ..

theorem opsA_fresh : ∀ op ∈ opsA (F := F), op.fresh = ∅ := by
  intro op h
  unfold opsA at h
  simp only [List.mem_cons, List.not_mem_nil, or_false] at h
  rcases h with rfl | rfl | rfl | rfl | rfl | rfl | rfl | rfl <;> rfl

theorem opsB_fresh : ∀ op ∈ opsB (F := F), op.fresh = ∅ := by
  intro op h
  unfold opsB at h
  simp only [List.mem_cons, List.not_mem_nil, or_false] at h
  rcases h with rfl | rfl | rfl | rfl | rfl | rfl <;> rfl

/-- The first list writes its eight arrays alone, -/
theorem opsA_keep (b : Ref sig .tc) (hb : b ∉ [main_v0, main_v1, main_v2, main_v3, main_v4, main_v5, main_v6, main_v7]) :
    ∀ op ∈ opsA (F := F), Proc.devRef .tc b ∉ op.writes := by
  simp only [List.mem_cons, List.not_mem_nil, or_false, not_or] at hb
  obtain ⟨h0, h1, h2, h3, h4, h5, h6, h7⟩ := hb
  intro op h
  unfold opsA at h
  simp only [List.mem_cons, List.not_mem_nil, or_false] at h
  rcases h with rfl | rfl | rfl | rfl | rfl | rfl | rfl | rfl <;>
    simp only [StableHlo.unary_writes, StableHlo.reshape_writes, Finset.mem_singleton] <;>
    exact StableHlo.devRef_ne_of_ne ‹_›

/-- and the second its six. -/
theorem opsB_keep (b : Ref sig .tc) (hb : b ∉ [main_v9, main_v10, main_v11, main_v12, main_v13, main_v14]) :
    ∀ op ∈ opsB (F := F), Proc.devRef .tc b ∉ op.writes := by
  simp only [List.mem_cons, List.not_mem_nil, or_false, not_or] at hb
  obtain ⟨h0, h1, h2, h3, h4, h5⟩ := hb
  intro op h
  unfold opsB at h
  simp only [List.mem_cons, List.not_mem_nil, or_false] at h
  rcases h with rfl | rfl | rfl | rfl | rfl | rfl <;>
    simp only [StableHlo.unary_writes, StableHlo.reshape_writes, Finset.mem_singleton] <;>
    exact StableHlo.devRef_ne_of_ne ‹_›

/-! ## The contents, in order -/

variable (m : (ℓ : Loc nD τ sig) → Buf (Elt F) ℓ)

/-- At launch; -/
def vals₀ (d : Dev nD) : Valuation τ sig (Elt F) := fun b => m (d, b)
/-- after the lists; -/
def vals₁ (d : Dev nD) : Valuation τ sig (Elt F) := StableHlo.after opsA (vals₀ m d)

/-- what the SparseCore call reads; -/
def ins (d : Dev nD) : Ins F :=
  ⟨vals₁ m d (Proc.devRef .tc main_arg3), vals₁ m d (Proc.devRef .tc main_arg4), vals₁ m d (Proc.devRef .tc main_v1), vals₁ m d (Proc.devRef .tc main_v4), vals₁ m d (Proc.devRef .tc main_v7)⟩

/-- after the SparseCore call; -/
def vals₂ (d : Dev nD) : Valuation τ sig (Elt F) :=
  Function.update (Function.update (Function.update (vals₁ m d) (Proc.devRef .tc main_v8_0) (ins m d).look.o0)
    (Proc.devRef .tc main_v8_1) (ins m d).look.o1) (Proc.devRef .tc main_v8_2) (ins m d).look.o2
/-- as the grid kernel finds them. -/
def vals₃ (d : Dev nD) : Valuation τ sig (Elt F) := StableHlo.after opsB (vals₂ m d)
def bufs₃ (d : Dev nD) : Bufs F d := fun b => vals₃ m d (Proc.devRef .tc b)

theorem vals₁_keep (d : Dev nD) (b : Ref sig .tc) (hb : b ∉ [main_v0, main_v1, main_v2, main_v3, main_v4, main_v5, main_v6, main_v7]) :
    vals₁ m d (Proc.devRef .tc b) = m (d, Proc.devRef .tc b) :=
  StableHlo.after_of_forall_not_mem (b := Proc.devRef .tc b) opsA (vals₀ m d) (opsA_keep b hb)

theorem vals₂_keep (d : Dev nD) (b : Ref sig .tc) (hb : b ∉ [main_v8_0, main_v8_1, main_v8_2]) :
    vals₂ m d (Proc.devRef .tc b) = vals₁ m d (Proc.devRef .tc b) := by
  simp only [List.mem_cons, List.not_mem_nil, or_false, not_or] at hb
  unfold vals₂
  rw [Function.update_of_ne (StableHlo.devRef_ne_of_ne hb.2.2), Function.update_of_ne (StableHlo.devRef_ne_of_ne hb.2.1),
    Function.update_of_ne (StableHlo.devRef_ne_of_ne hb.1)]

theorem vals₃_keep (d : Dev nD) (b : Ref sig .tc) (hb : b ∉ [main_v9, main_v10, main_v11, main_v12, main_v13, main_v14]) :
    vals₃ m d (Proc.devRef .tc b) = vals₂ m d (Proc.devRef .tc b) :=
  StableHlo.after_of_forall_not_mem (b := Proc.devRef .tc b) opsB (vals₂ m d) (opsB_keep b hb)

/-- What nothing before the grid kernel writes is as at launch. -/
theorem bufs₃_keep (d : Dev nD) (b : Ref sig .tc) (hA : b ∉ [main_v0, main_v1, main_v2, main_v3, main_v4, main_v5, main_v6, main_v7])
    (h2 : b ∉ [main_v8_0, main_v8_1, main_v8_2]) (hB : b ∉ [main_v9, main_v10, main_v11, main_v12, main_v13, main_v14]) :
    bufs₃ m d b = m ((d.tc : Thread nD τ).loc b) :=
  (vals₃_keep m d b hB).trans ((vals₂_keep m d b h2).trans (vals₁_keep m d b hA))

theorem vals₂_0 (d : Dev nD) : vals₂ m d (Proc.devRef .tc main_v8_0) = (ins m d).look.o0 := by
  unfold vals₂
  rw [Function.update_of_ne (StableHlo.devRef_ne_of_ne (by decide)), Function.update_of_ne (StableHlo.devRef_ne_of_ne (by decide)), Function.update_self]
theorem vals₂_1 (d : Dev nD) : vals₂ m d (Proc.devRef .tc main_v8_1) = (ins m d).look.o1 := by
  unfold vals₂
  rw [Function.update_of_ne (StableHlo.devRef_ne_of_ne (by decide)), Function.update_self]
theorem vals₂_2 (d : Dev nD) : vals₂ m d (Proc.devRef .tc main_v8_2) = (ins m d).look.o2 := by
  unfold vals₂
  rw [Function.update_self]

/-! ## The SparseCore call's arrays among the buffers -/

/-- The call's arrays. -/
def callRefs : Finset (DevRef τ sig) :=
  {Proc.devRef .tc main_arg3, Proc.devRef .tc main_arg4, Proc.devRef .tc main_v1, Proc.devRef .tc main_v4, Proc.devRef .tc main_v7,
    Proc.devRef .tc main_v8_0, Proc.devRef .tc main_v8_1, Proc.devRef .tc main_v8_2}

theorem callRefs_sub : callRefs ⊆ Pipeline.ucRefs τ sig := by decide

omit [FloatOps F] in
theorem regroup (P₁ P₂ P₃ P₄ P₅ P₆ P₇ P₈ : sProp 𝕄) :
    iprop((P₁ ∗ P₂ ∗ P₃ ∗ P₄ ∗ P₅) ∗ P₆ ∗ P₇ ∗ P₈) = iprop(P₁ ∗ P₂ ∗ P₃ ∗ P₄ ∗ P₅ ∗ P₆ ∗ P₇ ∗ P₈) := by
  have assoc : ∀ P Q R : sProp 𝕄, iprop((P ∗ Q) ∗ R) = iprop(P ∗ Q ∗ R) := fun P Q R => equiv_iff.mp ⟨BI.sep_assoc, BI.sep_assoc'⟩
  simp only [assoc]

theorem held_call (d : Dev nD) (W : Valuation τ sig (Elt F)) : (StableHlo.held (d.tc : Thread nD τ) callRefs W : sProp 𝕄)
    = iprop(inW d ⟨W (Proc.devRef .tc main_arg3), W (Proc.devRef .tc main_arg4), W (Proc.devRef .tc main_v1), W (Proc.devRef .tc main_v4), W (Proc.devRef .tc main_v7)⟩
        ∗ outW d ⟨W (Proc.devRef .tc main_v8_0), W (Proc.devRef .tc main_v8_1), W (Proc.devRef .tc main_v8_2)⟩) := by
  unfold StableHlo.held inW outW
  rw [bigSep_eq_bigSepL_of_eq [Proc.devRef .tc main_arg3, Proc.devRef .tc main_arg4, Proc.devRef .tc main_v1, Proc.devRef .tc main_v4, Proc.devRef .tc main_v7,
    Proc.devRef .tc main_v8_0, Proc.devRef .tc main_v8_1, Proc.devRef .tc main_v8_2] (by decide) (by decide)]
  exact (regroup _ _ _ _ _ _ _ _).symm

/-- Before the call: its arrays whole, and the rest. -/
theorem held_before (d : Dev nD) : (StableHlo.held (d.tc : Thread nD τ) (Pipeline.ucRefs τ sig) (vals₁ m d) : sProp 𝕄)
    = iprop((inW d (ins m d) ∗ outW d (outs₀ m d)) ∗ StableHlo.held (d.tc : Thread nD τ) (Pipeline.ucRefs τ sig \ callRefs) (vals₁ m d)) := by
  rw [StableHlo.held_sub_split _ callRefs_sub, held_call, vals₁_keep m d main_v8_0 (by decide), vals₁_keep m d main_v8_1 (by decide), vals₁_keep m d main_v8_2 (by decide)]
  rfl

/-- After it: the same, the outputs at the gathers. -/
theorem held_after (d : Dev nD) : (StableHlo.held (d.tc : Thread nD τ) (Pipeline.ucRefs τ sig) (vals₂ m d) : sProp 𝕄)
    = iprop((inW d (ins m d) ∗ outW d (ins m d).look) ∗ StableHlo.held (d.tc : Thread nD τ) (Pipeline.ucRefs τ sig \ callRefs) (vals₁ m d)) := by
  rw [StableHlo.held_sub_split _ callRefs_sub, held_call, vals₂_0, vals₂_1, vals₂_2, vals₂_keep m d main_arg3 (by decide), vals₂_keep m d main_arg4 (by decide),
    vals₂_keep m d main_v1 (by decide), vals₂_keep m d main_v4 (by decide), vals₂_keep m d main_v7 (by decide),
    StableHlo.held_congr (V := vals₂ m d) (V' := vals₁ m d) _ fun b hb => ?_]
  · rfl
  · have hb' := (Finset.mem_sdiff.mp hb).2
    unfold callRefs at hb'
    simp only [Finset.mem_insert, Finset.mem_singleton, not_or] at hb'
    unfold vals₂
    rw [Function.update_of_ne hb'.2.2.2.2.2.2.2, Function.update_of_ne hb'.2.2.2.2.2.2.1, Function.update_of_ne hb'.2.2.2.2.2.1]

end Cert.Proof.OfKernelIdeal

end
-- ==== Proof.KernelIdeal.Lists.lean ====
/-
  The lists of row numbers the SparseCore call reads are the arguments' words, laid out per tile; under the precondition
  they name rows of their tables.
-/
module

public import proofs.«01_k».proof.Proof.KernelIdeal.Host
public import proofs.«01_k».proof.Proof.Range

@[expose] public section

noncomputable section

namespace Cert.Proof.OfKernelIdeal

open Cert.KernelIdeal Cert.KernelIdeal.Gen

open Idealize.ShloMosaic
open Idealize.ShloMosaic.StableHlo

variable {F : FTy → Type} [FloatOps F] (m : (ℓ : Loc nD τ sig) → Buf (Elt F) ℓ) (d : Dev nD)

/-- The history, step by step, laid out as 40 rows of 128 words per tile. -/
theorem ins_l1 : (ins m d).l1 = shapeCast S32x40x128 (transpose S10x16384 [1, 0] (m ((d.tc : Thread nD τ).loc main_arg1)) transposes_S16384x10_S10x16384_1_0)
    shapeCasts_S10x16384_S32x40x128 := by
  unfold ins vals₁ opsA
  dsimp only
  after_results_simp
  rfl

/-- The triples' first column, laid out as 4 rows of 128 words per tile. -/
theorem ins_l4 : (ins m d).l4 = shapeCast S32x4x128 (shapeCast S16384 (extractStridedSlice S16384x1 ![0, 0] (m ((d.tc : Thread nD τ).loc main_arg0)) slices_S16384x3_S16384x1_0_0)
    shapeCasts_S16384x1_S16384) shapeCasts_S16384_S32x4x128 := by
  unfold ins vals₁ opsA
  dsimp only
  after_results_simp
  rfl

/-- The triples' second column, likewise. -/
theorem ins_l7 : (ins m d).l7 = shapeCast S32x4x128 (shapeCast S16384 (extractStridedSlice S16384x1 ![0, 1] (m ((d.tc : Thread nD τ).loc main_arg0)) slices_S16384x3_S16384x1_0_1)
    shapeCasts_S16384x1_S16384) shapeCasts_S16384_S32x4x128 := by
  unfold ins vals₁ opsA
  dsimp only
  after_results_simp
  rfl

theorem ins_t3 : (ins m d).t3 = m ((d.tc : Thread nD τ).loc main_arg3) := vals₁_keep m d main_arg3 (by decide)
theorem ins_t4 : (ins m d).t4 = m ((d.tc : Thread nD τ).loc main_arg4) := vals₁_keep m d main_arg4 (by decide)

/-- Words in range, so the lists name rows. -/
theorem ins_ok (h0 : ∀ i : S16384x3.Idx, (m ((d.tc : Thread nD τ).loc main_arg0) i : BitVec 32).toNat < 500)
    (h1 : ∀ i : S16384x10.Idx, (m ((d.tc : Thread nD τ).loc main_arg1) i : BitVec 32).toNat < 1000000) : (ins m d).OK where
  l1 x := by rw [ins_l1]; exact h1 _
  l4 x := by rw [ins_l4]; exact lt_trans (h0 _) (by decide)
  l7 x := by rw [ins_l7]; exact h0 _

end Cert.Proof.OfKernelIdeal

end
-- ==== Proof.KernelIdeal.Run.lean ====
/-
  The launch: every thread runs to its end, the arguments are as they were, and the result is each batch block's state
  after its tenth step.
-/
module

public import proofs.«01_k».proof.Proof.KernelIdeal.Host
public import Idealize.ShloMosaic.Lib.SparseCore.Quiescent
public import Idealize.ShloMosaic.Lib.Pipeline.Regions

@[expose] public section

noncomputable section

namespace Cert.Proof.OfKernelIdeal

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig (HIx 1) (Elt F) ℕ UU ℕ

/-! ## The tiles' obligation -/

section Tile
variable (m : (ℓ : Loc nD τ sig) → Buf (Elt F) ℓ)

/-- A task's grid coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyL (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d, (ins m d).OK) : (K (F := F)).TileObl (D (F := F)) 𝒱 (P m (ins m)) v₀ 0 := by
  intro d c i O W hO _ _
  simp only [show (P m (ins m)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (ins m) d (hI d) (outs₀ m d) (coordsV ⟨_, hci.1⟩ ⟨_, hci.2⟩) facts O W hO).trans (wp_mono frame _ _ fun _ => obl_post)

end Tile

/-! ## The grid kernel's region -/

section Region
variable (V : (c : Dev nD) → Bufs F c)

abbrev adm : (p : Fin 1) → (pcfgs (F := F) p).Adm := fun p => (cfgs p).toPCfg_adm

/-- The kernel has no semaphores of its own. -/
def osem : Fin 0 → SemLoc sig := fun k => k.elim0

theorem ownSemFacts : Pipeline.OwnSemFacts spec1 osem := by decide

/-- The TensorCore owes nothing, its waits at the handshakes' levels or below. -/
abbrev quiet (c : Dev nD) : sProp 𝕄 :=
  iprop(∃ W : Waits sig (HIx 1), ⌜(K (F := F)).WBelow (c.tc : Thread nD τ) W 8⌝ ∗ owes (c.tc : Thread nD τ) (0 : CellTallies nD τ sig (HIx 1)) W)

set_option backward.isDefEq.respectTransparency.types false in
/-- From the unscoped buffers at `V` to the windows' arrays at what the run leaves, the rest as it was. -/
def reg : Pipeline.RegionSeg (pcfgs (F := F)) adm (dats V) none defs₀ 𝒱₀ (K (F := F)).L (K (F := F)).lev 0 where
  win := launch1.win.to₀
  block_pos := launch1.block_pos
  stage_whole := launch1.stage_whole
  K := Fin 0
  osem := osem
  ho := ownSemFacts
  hbody c := (body_obligation V c).loose
  hwaits := Pipeline.hwaits_of_owed_zero _ _ _ _ (K (F := F)).L (K (F := F)).lev 0 fun _ _ => rfl
  pre c := iprop(unscopedBufs c (V c) ∗ quiet c ∗ ∃ r, prngReg c r)
  post c := iprop((dats V 0 c).arrays ((dats V 0 c).arrAt · cfg1.N) ∗ Pipeline.unscopedRest spec1 c (V c) ∗ quiet c)
  X c := iprop(∃ r, prngReg c r)
  Y c := iprop(∃ r, prngReg c r)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) (A_eq V c)
    iintro ⟨⟨Hub, ⟨%W, %hW, HO⟩, Hp⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl [Hp]; · iexact Hp
    iexact Hr
  hin c := by
    rw [show (dats V 0 c).Φ 0 = PhiA c from rfl]
    unfold PhiA
    iintro ⟨Hp, -, Hr⟩
    isplitl [Hr]; · iexact Hr
    iexact Hp
  hout c := by
    refine (phi_out V c).trans ?_
    unfold PhiA
    rw [show (Pipeline.ownSems0 osem c : sProp 𝕄) = iprop(emp) from BI.bigSep_empty]
    iintro ⟨Hr, Hp⟩
    isplitl [Hp]; · iexact Hp
    isplitr; · iempintro
    iexact Hr
  hexit c := by
    unfold Pipeline.Dat.owesAt Pipeline.owesWithin
    iintro ⟨Ha, ⟨%W, %hW, HO⟩, -, HZ⟩
    imodintro
    isplitl [Ha]; · iexact Ha
    isplitl [HZ]; · iexact HZ
    iexists W; isplitr
    · ipureintro
      intro p hp
      rcases hW hp with h | ⟨_, _, rfl⟩
      · exact h
      · exact Nat.zero_le 8
    iexact HO

theorem reg_pre (c : Dev nD) : (reg V).pre c = iprop(unscopedBufs c (V c) ∗ quiet c ∗ ∃ r, prngReg c r) := rfl
theorem reg_post (c : Dev nD) : (reg V).post c
    = iprop((dats V 0 c).arrays ((dats V 0 c).arrAt · cfg1.N) ∗ Pipeline.unscopedRest spec1 c (V c) ∗ quiet c) := rfl

end Region

/-! ## The launch's ghost state -/

abbrev EH : Emb UH 𝕄 := (Emb.inl : Emb UH (UH × UP)).trans embL
abbrev EP : Emb UP 𝕄 := (Emb.inr : Emb UP (UH × UP)).trans embL

/-- The handshakes' rounds, the pipeline's, and no counter yet. -/
def u₀ : UU :=
  ((initOf (K (F := F)).hsCells (K (F := F)).hsToks, initOf (Pipeline.cells cfgs cellOf_inj) (Pipeline.launchToks cfgs cellOf_inj)), 1)

/-- What a TensorCore keeps for the grid kernel. -/
abbrev G (d : Dev nD) : sProp 𝕄 :=
  iprop(Pipeline.cellsGhost cfgs (EP (F := F)) 0 d ∗ Pipeline.toksInit cfgs (EP (F := F)) 0 d)

section Main
variable (m : (ℓ : Loc nD τ sig) → Buf (Elt F) ℓ) (ρ : Dev nD → PrngReg)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (ins m)).x q thr) := by
  unfold u₀
  iintro Hu
  ihave H := (ownU_pair (initOf (K (F := F)).hsCells (K (F := F)).hsToks, initOf (Pipeline.cells cfgs cellOf_inj) (Pipeline.launchToks cfgs cellOf_inj)) (1 : Counters)) $$ Hu
  icases H with ⟨H, -⟩
  ihave H := (own_pair_emb embL (initOf (K (F := F)).hsCells (K (F := F)).hsToks) (initOf (Pipeline.cells cfgs cellOf_inj) (Pipeline.launchToks cfgs cellOf_inj))) $$ H
  icases H with ⟨HH, HP⟩
  imod (Pipeline.fund_ghost cfgs (EP (F := F)) cellOf_inj) $$ HP with ⟨HC, HT⟩
  imodintro
  isplitl [HH]; · iexact HH
  isplitl [HC HT]
  · rw [bigSep_sep']
    isplitl [HC]
    · iapply (Entails.of_eq (bigSep_congr fun (d : Dev nD) _ => bigSep_univ_of_subsingleton (0 : Fin 1) (Φ := fun p => Pipeline.cellsGhost cfgs (EP (F := F)) p d)))
      iexact HC
    · iapply (Entails.of_eq (bigSep_congr fun (d : Dev nD) _ => bigSep_univ_of_subsingleton (0 : Fin 1) (Φ := fun p => Pipeline.toksInit cfgs (EP (F := F)) p d)))
      iexact HT
  rw [show (bigSep Finset.univ fun thr : Thread nD τ => bigSep Finset.univ fun q : Fin 1 => (P m (ins m)).x q thr) = bigSep Finset.univ fun _ => (iprop(emp) : sProp 𝕄) from
    bigSep_congr fun _ _ => bigSep_univ_of_subsingleton (0 : Fin 1), bigSep_emp']
  iempintro

/-! ## @main -/

theorem st0_eq (d : Dev nD) : (bigSep Finset.univ fun c : Fin ((K (F := F)).nCore 0) => (P m (ins m)).st 0 d c)
    = iprop(inW d (ins m d) ∗ outW d (outs₀ m d)) := whole d (ins m) (outs₀ m d)
theorem dn0_eq (d : Dev nD) : (bigSep Finset.univ fun c : Fin ((K (F := F)).nCore 0) => (P m (ins m)).dn 0 d c)
    = iprop(inW d (ins m d) ∗ outW d (ins m d).look) := whole d (ins m) (ins m d).look

/-- What the end is read from: the windows' arrays, and every other buffer. -/
abbrev FIN (d : Dev nD) : sProp 𝕄 :=
  iprop((dats (bufs₃ m) 0 d).arrays ((dats (bufs₃ m) 0 d).arrAt · cfg1.N) ∗ Pipeline.unscopedRest spec1 d (bufs₃ m d))

theorem Otc_one (d : Dev nD) : (K (F := F)).Otc d 1 = 0 := by
  unfold SparseCore.Cfg.Otc
  exact Finset.sum_eq_zero fun q _ => if_neg (by omega)

set_option backward.isDefEq.respectTransparency.types false in
/-- @main on a TensorCore. -/
theorem hmain (κ : GSem nD τ sig → ℕ) (d : Dev nD) :
    iprop((K (F := F)).ctx EH (P m (ins m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = StableHlo.held (d.tc : Thread nD τ) (Pipeline.ucRefs τ sig) (vals₀ m d) from Pipeline.unscopedBufs_held d (vals₀ m d)]
  rw [main_eq]
  iintro ⟨#Hctx, Hst, ⟨Hb, Hh, Hts, Hp⟩, ⟨HC, HT⟩⟩
  iapply (StableHlo.wp_seq 𝒱 none Set.univ d (Pipeline.ucRefs τ sig) _ opsA opsA_sub opsA_fresh (vals₀ m d)) $$ [Hb Hh]
  · isplitl [Hb] <;> iassumption
  iintro ⟨Hb, Hh⟩
  ihave Hh := (Entails.of_eq (show (StableHlo.held (d.tc : Thread nD τ) (Pipeline.ucRefs τ sig) (StableHlo.after opsA (vals₀ m d)) : sProp 𝕄) = _ from held_before m d)) $$ Hh
  icases Hh with ⟨Hcall, Hrest⟩
  rw [wp_bind]
  iapply ((K (F := F)).wp_run (D (F := F)) 𝒱 (EH := EH) (P := P m (ins m)) κ d 0)
  isplitr; · iexact Hctx
  isplitl [Hst]; · iexact Hst
  isplitl [Hcall]; · rw [st0_eq]; iexact Hcall
  iintro ⟨Hst, Hdn⟩
  ihave Hdn := (Entails.of_eq (dn0_eq m d)) $$ Hdn
  ihave Hh := (Entails.of_eq (held_after m d).symm) $$ [Hdn Hrest]
  · isplitl [Hdn] <;> iassumption
  iapply (StableHlo.wp_seq 𝒱 none Set.univ d (Pipeline.ucRefs τ sig) _ opsB opsB_sub opsB_fresh (vals₂ m d)) $$ [Hb Hh]
  · isplitl [Hb] <;> iassumption
  iintro ⟨Hb, Hh⟩
  ihave Hh := (Entails.of_eq (show (StableHlo.held (d.tc : Thread nD τ) (Pipeline.ucRefs τ sig) (StableHlo.after opsB (vals₂ m d)) : sProp 𝕄) = unscopedBufs d (bufs₃ m d)
    from (Pipeline.unscopedBufs_held d (vals₃ m d)).symm)) $$ Hh
  ihave Hlev := (SparseCore.Cfg.ctx_levAts κ) $$ Hctx
  unfold SparseCore.Cfg.tcSt
  rw [show ((0 : Fin 1).val + 1) = 1 from rfl, Otc_one]
  icases Hst with ⟨HO, Hst⟩
  rw [wp_bind]
  iapply ((K (F := F)).wp_liftProg (D (F := F)) 𝒱 (SparseCore.T d) Set.univ none)
  iapply (Pipeline.RegionSeg.wp (pcfgs (F := F)) adm (dats (bufs₃ m)) none cellOf_inj (EP (F := F)) defs₀ 𝒱₀ (K (F := F)).L (K (F := F)).lev (reg (bufs₃ m)) d none (fun _ h => nomatch h))
  isplitl [Hst Hts]
  · iintro ⟨Hb, Hpost⟩
    ihave Hpost := (Entails.of_eq (reg_post (bufs₃ m) d)) $$ Hpost
    icases Hpost with ⟨Ha, Hr, HO⟩
    simp only [wp_pure, wp_ret]
    imodintro
    imodintro
    isplitl [HO Hst]
    · isplitl [HO]; · iexact HO
      iexact Hst
    isplitl [Ha Hr]
    · isplitl [Ha]; · iexact Ha
      iexact Hr
    isplitl [Hb]; · iexact Hb
    iexact Hts
  isplitl [Hb]; · iexact Hb
  isplitl [Hh HO Hp]
  · iapply (Entails.of_eq (reg_pre (bufs₃ m) d).symm)
    isplitl [Hh]; · iexact Hh
    isplitl [HO]; · iexact HO
    iexists _; iexact Hp
  isplitl [Hlev]; · iexact Hlev
  isplitl [HC]; · iexact HC
  iexact HT

/-! ## The final states -/

/-- The result at the blocks' last states, the arguments as launched. -/
def fq (d : Dev nD) (s' : MemSt nD τ sig (Elt F)) : Prop :=
  s'.mem ((d.tc : Thread nD τ).loc main_v15) = result (bufs₃ m) d
    ∧ s'.mem ((d.tc : Thread nD τ).loc main_arg0) = m ((d.tc : Thread nD τ).loc main_arg0)
    ∧ s'.mem ((d.tc : Thread nD τ).loc main_arg1) = m ((d.tc : Thread nD τ).loc main_arg1)
    ∧ s'.mem ((d.tc : Thread nD τ).loc main_arg2) = m ((d.tc : Thread nD τ).loc main_arg2)
    ∧ s'.mem ((d.tc : Thread nD τ).loc main_arg3) = m ((d.tc : Thread nD τ).loc main_arg3)
    ∧ s'.mem ((d.tc : Thread nD τ).loc main_arg4) = m ((d.tc : Thread nD τ).loc main_arg4)
    ∧ s'.mem ((d.tc : Thread nD τ).loc main_arg5) = m ((d.tc : Thread nD τ).loc main_arg5)
    ∧ s'.mem ((d.tc : Thread nD τ).loc main_arg6) = m ((d.tc : Thread nD τ).loc main_arg6)
    ∧ s'.mem ((d.tc : Thread nD τ).loc main_arg7) = m ((d.tc : Thread nD τ).loc main_arg7)
    ∧ s'.mem ((d.tc : Thread nD τ).loc main_arg8) = m ((d.tc : Thread nD τ).loc main_arg8)

/-- An array held whole is what the memory has there. -/
theorem read_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

set_option backward.isDefEq.respectTransparency.types false in
theorem hfin (d : Dev nD) (s' : Phys nD τ sig (Elt F)) : iprop(FIN m d ∗ SI s') ⊢ (⌜fq m d s'.mem⌝ : sProp 𝕄) := by
  iintro ⟨⟨Ha, Hr⟩, HSI⟩
  ihave Hr := (Entails.of_eq (unscopedRest1_eq d (bufs₃ m d))) $$ Hr
  icases Hr with ⟨H0, H1, H2, H3, H4, H5, H6, H7, H8, -⟩
  ihave H := (Pipeline.arrays_read (pcfgs (F := F)) adm (dats (bufs₃ m)) launch1.arr_whole d ((dats (bufs₃ m) 0 d).share_full fun _ => rfl) _ s') $$ [Ha HSI]
  · isplitl [Ha] <;> iassumption
  icases H with ⟨%hv, HSI⟩
  ihave H := (read_whole _ s') $$ [H0 HSI]
  · isplitl [H0] <;> iassumption
  icases H with ⟨%h0, HSI⟩
  ihave H := (read_whole _ s') $$ [H1 HSI]
  · isplitl [H1] <;> iassumption
  icases H with ⟨%h1, HSI⟩
  ihave H := (read_whole _ s') $$ [H2 HSI]
  · isplitl [H2] <;> iassumption
  icases H with ⟨%h2, HSI⟩
  ihave H := (read_whole _ s') $$ [H3 HSI]
  · isplitl [H3] <;> iassumption
  icases H with ⟨%h3, HSI⟩
  ihave H := (read_whole _ s') $$ [H4 HSI]
  · isplitl [H4] <;> iassumption
  icases H with ⟨%h4, HSI⟩
  ihave H := (read_whole _ s') $$ [H5 HSI]
  · isplitl [H5] <;> iassumption
  icases H with ⟨%h5, HSI⟩
  ihave H := (read_whole _ s') $$ [H6 HSI]
  · isplitl [H6] <;> iassumption
  icases H with ⟨%h6, HSI⟩
  ihave H := (read_whole _ s') $$ [H7 HSI]
  · isplitl [H7] <;> iassumption
  icases H with ⟨%h7, HSI⟩
  ihave H := (read_whole _ s') $$ [H8 HSI]
  · isplitl [H8] <;> iassumption
  icases H with ⟨%h8, HSI⟩
  ipureintro
  refine ⟨(hv 8).trans (final (bufs₃ m) d), h0.trans (bufs₃_keep m d _ (by decide) (by decide) (by decide)), h1.trans (bufs₃_keep m d _ (by decide) (by decide) (by decide)), h2.trans (bufs₃_keep m d _ (by decide) (by decide) (by decide)), h3.trans (bufs₃_keep m d _ (by decide) (by decide) (by decide)), h4.trans (bufs₃_keep m d _ (by decide) (by decide) (by decide)), h5.trans (bufs₃_keep m d _ (by decide) (by decide) (by decide)), h6.trans (bufs₃_keep m d _ (by decide) (by decide) (by decide)), h7.trans (bufs₃_keep m d _ (by decide) (by decide) (by decide)), h8.trans (bufs₃_keep m d _ (by decide) (by decide) (by decide))⟩

/-- Every execution ends, with the arguments unchanged, the result at the blocks' last states, and every counter at zero. -/
theorem run_main [∀ e, Nonempty (Elt F e)] (hI : ∀ d, (ins m d).OK) :
    θ_run (defs (F := F)) (threads (F := F)) ⟨m, fun _ => 0, ρ⟩ (fun r => (∀ d : Dev nD, fq m d r.2) ∧ r.2.sem = fun _ => 0) :=
  SparseCore.Cfg.θ_run_sc_quiescent (K := K (F := F)) (D := D (F := F)) (𝒱 := 𝒱) (EH := EH) (P := P m (ins m)) (A := ∅) facts v₀
    (fun q hq => match q with | 0 => nomatch hq)
    (fun q _ => match q with | 0 => tileObl m hI)
    (fun q _ => match q with | 0 => SparseCore.Cfg.VecSplit.of_plain (vecSplit m (ins m)))
    m ρ main (fun d => G d) (FIN m) (u₀ (F := F)) (sep_elim_left.trans (hu₀ m)) (hmain m ρ) (fun d s' => fq m d s'.mem) (hfin m)
    (fun r => (∀ d : Dev nD, fq m d r.2) ∧ r.2.sem = fun _ => 0) (fun _ h hz => ⟨h, hz⟩)

end Main

end Cert.Proof.OfKernelIdeal

end
-- ==== Proof.Spec.lean ====
/-
  The recurrence on one row, over the extended reals and without either program: a row's input at a step is its entity's
  embedding, its relation's embedding and the step's own embedding joined; the cell has a reset gate, an update gate and
  a candidate; the row's state changes at a step only while the step's number is below the row's length. Also the one law
  of sums in which the two programs differ: the product over the joined input is the sum of three products.
-/
module

public import Idealize.ShloMosaic.PureOps.Ideal
public import Idealize.ShloMosaic.Lib.Pointwise.Index
public import Mathlib.Algebra.BigOperators.Fin

@[expose] public section

noncomputable section

namespace Cert.Proof.Spec

open Idealize.ShloMosaic

/-- The recurrence's parameters: the weights of the input and of the state, with a bias each, for three gates of 128. -/
structure Par where
  wi : Fin 384 → Fin 384 → EReal
  wh : Fin 384 → Fin 128 → EReal
  bi : Fin 384 → EReal
  bh : Fin 384 → EReal

/-- One row's data: its entity's and relation's embeddings, each step's own embedding, and the length. -/
structure Row where
  s : Fin 128 → EReal
  r : Fin 128 → EReal
  tl : ℕ → Fin 128 → EReal
  len : BitVec 32

/-- Column `y` of gate `g` among the 384. -/
def col (g : Fin 3) (y : Fin 128) : Fin 384 := ⟨128 * g.val + y.val, by omega⟩

/-- The row's input at step `t`: the three embeddings joined. -/
def joined (R : Row) (t : ℕ) (k : Fin 384) : EReal :=
  if h : k.val < 128 then R.s ⟨k.val, h⟩
  else if h' : k.val < 256 then R.r ⟨k.val - 128, by omega⟩
  else R.tl t ⟨k.val - 256, by omega⟩

/-- The input's share of the gates: the product with the joined input, and the bias. -/
def gi (P : Par) (R : Row) (t : ℕ) (j : Fin 384) : EReal := (∑ k, joined R t k * P.wi j k) + P.bi j

/-- The state's share of the gates. -/
def gh (P : Par) (h : Fin 128 → EReal) (j : Fin 384) : EReal := (∑ k, h k * P.wh j k) + P.bh j

/-- The cell, from the two shares of its gates and the state before: reset gate, update gate, candidate, and the mixture. -/
def cell (a b : Fin 384 → EReal) (h : Fin 128 → EReal) (y : Fin 128) : EReal :=
  (1 - Ideal.logistic (a (col 1 y) + b (col 1 y)))
      * Ideal.tanh (a (col 2 y) + Ideal.logistic (a (col 0 y) + b (col 0 y)) * b (col 2 y))
    + Ideal.logistic (a (col 1 y) + b (col 1 y)) * h y

/-- One step: the cell's value while the step's number is below the length, else the state before. -/
def step (P : Par) (R : Row) (t : ℕ) (h : Fin 128 → EReal) (y : Fin 128) : EReal :=
  if (BitVec.ofNat 32 t).slt R.len then cell (gi P R t) (gh P h) h y else h y

/-- The row's state before step `t`, from zero. -/
def state (P : Par) (R : Row) : ℕ → Fin 128 → EReal
  | 0 => fun _ => 0
  | t + 1 => step P R t (state P R t)

/-- Row `i`'s data: the rows of the two tables that its triple's first two words name, the entity table's rows that its
    history names, and its length. -/
def rowOf (a0 : (⟨2, ![16384, 3]⟩ : Shape).Idx → BitVec 32) (a1 : (⟨2, ![16384, 10]⟩ : Shape).Idx → BitVec 32)
    (a2 : (⟨1, ![16384]⟩ : Shape).Idx → BitVec 32) (E : (⟨2, ![1000000, 128]⟩ : Shape).Idx → EReal)
    (R : (⟨2, ![500, 128]⟩ : Shape).Idx → EReal) (i : Fin 16384) : Row where
  s y := E (ix2 (Fin.ofNat 1000000 (a0 (ix2 i 0)).toNat) y)
  r y := R (ix2 (Fin.ofNat 500 (a0 (ix2 i 1)).toNat) y)
  tl t y := E (ix2 (Fin.ofNat 1000000 (a1 (ix2 i (Fin.ofNat 10 t))).toNat) y)
  len := a2 (ix1 i)

/-- The parameters, from their arrays. -/
def parOf (wi : (⟨2, ![384, 384]⟩ : Shape).Idx → EReal) (wh : (⟨2, ![384, 128]⟩ : Shape).Idx → EReal)
    (bi bh : (⟨1, ![384]⟩ : Shape).Idx → EReal) : Par where
  wi j k := wi (ix2 j k)
  wh j k := wh (ix2 j k)
  bi j := bi (ix1 j)
  bh j := bh (ix1 j)

/-- A sum over 384 is the sum over its three thirds. -/
theorem sum_thirds (f : Fin 384 → EReal) :
    (∑ k, f k) = (∑ k, f (col 0 k)) + (∑ k, f (col 1 k)) + ∑ k, f (col 2 k) := by
  have h1 : (∑ k, f k) = (∑ k : Fin 256, f (Fin.castAdd 128 k)) + ∑ k : Fin 128, f (Fin.natAdd 256 k) :=
    Fin.sum_univ_add (a := 256) (b := 128) f
  have h2 : (∑ k : Fin 256, f (Fin.castAdd 128 k))
      = (∑ k : Fin 128, f (Fin.castAdd 128 (Fin.castAdd 128 k))) + ∑ k : Fin 128, f (Fin.castAdd 128 (Fin.natAdd 128 k)) :=
    Fin.sum_univ_add (a := 128) (b := 128) fun k => f (Fin.castAdd 128 k)
  have h3 : (∑ k : Fin 128, f (Fin.castAdd 128 (Fin.castAdd 128 k))) = ∑ k, f (col 0 k) :=
    Finset.sum_congr rfl fun k _ => congrArg f (Fin.ext (by show k.val = 128 * 0 + k.val; omega))
  have h4 : (∑ k : Fin 128, f (Fin.castAdd 128 (Fin.natAdd 128 k))) = ∑ k, f (col 1 k) :=
    Finset.sum_congr rfl fun k _ => congrArg f (Fin.ext (by show 128 + k.val = 128 * 1 + k.val; omega))
  have h5 : (∑ k : Fin 128, f (Fin.natAdd 256 k)) = ∑ k, f (col 2 k) :=
    Finset.sum_congr rfl fun k _ => congrArg f (Fin.ext (by show 256 + k.val = 128 * 2 + k.val; omega))
  rw [h1, h2, h3, h4, h5]

/-- The joined input in its first third is the entity's embedding, -/
theorem joined_0 (R : Row) (t : ℕ) (k : Fin 128) : joined R t (col 0 k) = R.s k := by
  have h : (col 0 k).val = k.val := by show 128 * 0 + k.val = k.val; omega
  have h0 : (col 0 k).val < 128 := h ▸ k.isLt
  rw [joined, dif_pos h0]
  exact congrArg R.s (Fin.ext h)

/-- in its second the relation's, -/
theorem joined_1 (R : Row) (t : ℕ) (k : Fin 128) : joined R t (col 1 k) = R.r k := by
  have h : (col 1 k).val = 128 + k.val := by show 128 * 1 + k.val = 128 + k.val; omega
  have hk := k.isLt
  rw [joined, dif_neg (by omega), dif_pos (by omega)]
  exact congrArg R.r (Fin.ext (by show (col 1 k).val - 128 = k.val; omega))

/-- in its last the step's own. -/
theorem joined_2 (R : Row) (t : ℕ) (k : Fin 128) : joined R t (col 2 k) = R.tl t k := by
  have h : (col 2 k).val = 256 + k.val := by show 128 * 2 + k.val = 256 + k.val; omega
  rw [joined, dif_neg (by omega), dif_neg (by omega)]
  exact congrArg (R.tl t) (Fin.ext (by show (col 2 k).val - 256 = k.val; omega))

/-- The input's share of the gates, the fixed two thirds and the bias first: the order in which a program sums it that
    forms the fixed part once. -/
theorem gi_eq (P : Par) (R : Row) (t : ℕ) (j : Fin 384) :
    gi P R t j = ((∑ k, R.s k * P.wi j (col 0 k)) + (∑ k, R.r k * P.wi j (col 1 k)) + P.bi j)
      + ∑ k, R.tl t k * P.wi j (col 2 k) := by
  rw [gi, sum_thirds]
  simp only [joined_0, joined_1, joined_2]
  exact add_right_comm _ _ _

/-- A mask of 0 or 1 mixes two values into one of them. -/
theorem mix (p : Prop) [Decidable p] (x h : EReal) :
    (if p then (1 : EReal) else 0) * x + (1 - if p then (1 : EReal) else 0) * h = if p then x else h := by
  by_cases hp : p
  · have e : (1 : EReal) - 1 = 0 := by
      have := EReal.coe_sub 1 1; simpa using this.symm
    rw [if_pos hp, if_pos hp, e, one_mul, zero_mul, add_zero]
  · rw [if_neg hp, if_neg hp, zero_mul, sub_zero, one_mul, zero_add]

end Cert.Proof.Spec
-- ==== Proof.KernelIdeal.Cells.lean ====
/-
  The grid kernel's arithmetic at one row over the extended reals: its matrix products as sums, its cell as the
  recurrence's cell, its blocks as rows of the arrays they come from; and so its state after each step, row by row.
-/
module

public import proofs.«01_k».proof.Proof.KernelIdeal.Region
public import proofs.«01_k».proof.Proof.Spec
public import Idealize.ShloMosaic.Lib.Pointwise.Tactic
public import Idealize.ShloMosaic.Lib.Pointwise.Contract
public import Idealize.ShloMosaic.Lib.Pointwise.Reshape
public import Idealize.ShloMosaic.Lib.Pointwise.Select

@[expose] public section

noncomputable section

namespace Cert.Proof.OfKernelIdeal

open Cert.KernelIdeal Cert.KernelIdeal.Gen

open Idealize.ShloMosaic

/-- The fixed share of the gates, at row `r`: two sums and the bias. -/
theorem gates_apply (x1 x2 : Vec Ideal S1024x128 .f32) (w1 w2 : Vec Ideal S128x384 .f32) (x6 : Vec Ideal S1x384 .f32) (r : Fin 1024) (j : Fin 384) :
    k1_pay2 x1 x2 w1 w2 x6 (ix2 r j)
      = (∑ k, x1 (ix2 r k) * w1 (ix2 k j)) + (∑ k, x2 (ix2 r k) * w2 (ix2 k j)) + x6 (ix2 0 j) := by
  unfold k1_pay2
  pointwise

/-- The state starts at zero. -/
theorem zero_apply (i : S1024x128.Idx) : (k1_pay3 (F := Ideal)) i = 0 := by
  unfold k1_pay3
  pointwise

/-- The cell at row `r`, from the row's share of the gates and the row's state. -/
theorem cell_apply (h : Vec Ideal S1024x128 .f32) (x0 : Vec Ideal S1x1024x128 .f32) (g : Vec Ideal S1024x384 .f32) (w : Vec Ideal S128x384 .f32) (x5 : Vec Ideal S128x384 .f32) (x7 : Vec Ideal S1x384 .f32) (r : Fin 1024) (y : Fin 128) :
    k1_pay5 h x0 g w x5 x7 (ix2 r y)
      = Spec.cell (fun j => g (ix2 r j) + ∑ k, x0 (ix3 0 r k) * w (ix2 k j))
          (fun j => (∑ k, h (ix2 r k) * x5 (ix2 k j)) + x7 (ix2 0 j)) (fun k => h (ix2 r k)) y := by
  have e0 : (⟨y.val, by omega⟩ : Fin 384) = Spec.col 0 y := Fin.ext (by show y.val = 128 * 0 + y.val; omega)
  have e1 : (⟨128 + y.val, by omega⟩ : Fin 384) = Spec.col 1 y := Fin.ext (by show 128 + y.val = 128 * 1 + y.val; omega)
  have e2 : (⟨256 + y.val, by omega⟩ : Fin 384) = Spec.col 2 y := Fin.ext (by show 256 + y.val = 128 * 2 + y.val; omega)
  unfold k1_pay5 k1_pay4 Spec.cell
  pointwise
  simp only [e0, e1, e2]

/-- The step is taken where its number is below the length. -/
theorem select_apply (n : ℕ) (h h' : Vec Ideal S1024x128 .f32) (x3 : Vec Ideal S1x1024x1 .i32) (r : Fin 1024) (y : Fin 128) :
    k1_pay1 (BitVec.ofNat 32 n) h h' x3 (ix2 r y)
      = if (BitVec.ofNat 32 n).slt (x3 (ix3 0 r 0)) then h' (ix2 r y) else h (ix2 r y) := by
  unfold k1_pay1
  pointwise
  show (if BitVec.ofBool ((BitVec.ofNat 32 n).slt (x3 (ix3 0 r 0))) = 1#1 then _ else _) = _
  cases (BitVec.ofNat 32 n).slt (x3 (ix3 0 r 0)) <;> rfl

section blocks
variable (V : (c : Dev nD) → Bufs Ideal c) (c : Dev nD)

/-- The input weights' three thirds. -/
theorem rowsA_apply (w : Vec Ideal S384x384 .f32) (k : Fin 128) (j : Fin 384) : rowsA w (ix2 k j) = w (ix2 (Spec.col 0 k) j) := by
  unfold rowsA
  refine congrArg w (funext fun a => Fin.ext ?_)
  match a with
  | ⟨0, _⟩ => show 0 + 1 * k.val = 128 * 0 + k.val; omega
  | ⟨1, _⟩ => show 0 + 1 * j.val = j.val; omega

theorem rowsB_apply (w : Vec Ideal S384x384 .f32) (k : Fin 128) (j : Fin 384) : rowsB w (ix2 k j) = w (ix2 (Spec.col 1 k) j) := by
  unfold rowsB
  refine congrArg w (funext fun a => Fin.ext ?_)
  match a with
  | ⟨0, _⟩ => show 128 + 1 * k.val = 128 * 1 + k.val; omega
  | ⟨1, _⟩ => show 0 + 1 * j.val = j.val; omega

theorem rowsC_apply (w : Vec Ideal S384x384 .f32) (k : Fin 128) (j : Fin 384) : rowsC w (ix2 k j) = w (ix2 (Spec.col 2 k) j) := by
  unfold rowsC
  refine congrArg w (funext fun a => Fin.ext ?_)
  match a with
  | ⟨0, _⟩ => show 256 + 1 * k.val = 128 * 2 + k.val; omega
  | ⟨1, _⟩ => show 0 + 1 * j.val = j.val; omega

/-- The grid's point of batch block `b` and step `k`. -/
theorem pt_mk (b k : ℕ) (hb : b < 16) (hk : k < 10) : (pt (10 * b + k)).val = 10 * b + k :=
  Nat.mod_eq_of_lt (by omega)

/-- The step's own embeddings: rows `1024 b` on of sheet `k`. -/
theorem blk0_apply (b : Fin 16) (k : Fin 10) (r : Fin 1024) (y : Fin 128) :
    blkAt V c 0 (pt (10 * b.val + k.val)) (ix3 0 r y) = V c main_v9 (ix3 k ⟨1024 * b.val + r.val, by omega⟩ y) := by
  have e : ∀ t : Fin grid1.N, win1_0.index t (0 : Fin 3) = t.val % 10 ∧ win1_0.index t (1 : Fin 3) = t.val / 10 ∧ win1_0.index t (2 : Fin 3) = 0 := by
    decide +kernel
  obtain ⟨e0, e1, e2⟩ := e (pt (10 * b.val + k.val))
  have hp := pt_mk b.val k.val b.isLt k.isLt
  have hk := k.isLt
  refine congrArg (V c main_v9) (funext fun a => Fin.ext ?_)
  match a with
  | ⟨0, _⟩ => show win1_0.index (pt (10 * b.val + k.val)) (0 : Fin 3) * 1 + 1 * 0 = k.val; rw [e0, hp]; omega
  | ⟨1, _⟩ => show win1_0.index (pt (10 * b.val + k.val)) (1 : Fin 3) * 1024 + 1 * r.val = 1024 * b.val + r.val; rw [e1, hp]; omega
  | ⟨2, _⟩ => show win1_0.index (pt (10 * b.val + k.val)) (2 : Fin 3) * 128 + 1 * y.val = y.val; rw [e2]; omega

/-- The entities' embeddings, -/
theorem blk1_apply (b : Fin 16) (n : ℕ) (hn : n < 10) (r : Fin 1024) (y : Fin 128) :
    blkAt V c 1 (pt (10 * b.val + n)) (ix2 r y) = V c main_v8_1 (ix2 ⟨1024 * b.val + r.val, by omega⟩ y) := by
  have e : ∀ t : Fin grid1.N, win1_1.index t (0 : Fin 2) = t.val / 10 ∧ win1_1.index t (1 : Fin 2) = 0 := by decide +kernel
  obtain ⟨e0, e1⟩ := e (pt (10 * b.val + n))
  have hp := pt_mk b.val n b.isLt hn
  refine congrArg (V c main_v8_1) (funext fun a => Fin.ext ?_)
  match a with
  | ⟨0, _⟩ => show win1_1.index (pt (10 * b.val + n)) (0 : Fin 2) * 1024 + 1 * r.val = 1024 * b.val + r.val; rw [e0, hp]; omega
  | ⟨1, _⟩ => show win1_1.index (pt (10 * b.val + n)) (1 : Fin 2) * 128 + 1 * y.val = y.val; rw [e1]; omega

/-- the relations', -/
theorem blk2_apply (b : Fin 16) (n : ℕ) (hn : n < 10) (r : Fin 1024) (y : Fin 128) :
    blkAt V c 2 (pt (10 * b.val + n)) (ix2 r y) = V c main_v8_2 (ix2 ⟨1024 * b.val + r.val, by omega⟩ y) := by
  have e : ∀ t : Fin grid1.N, win1_2.index t (0 : Fin 2) = t.val / 10 ∧ win1_2.index t (1 : Fin 2) = 0 := by decide +kernel
  obtain ⟨e0, e1⟩ := e (pt (10 * b.val + n))
  have hp := pt_mk b.val n b.isLt hn
  refine congrArg (V c main_v8_2) (funext fun a => Fin.ext ?_)
  match a with
  | ⟨0, _⟩ => show win1_2.index (pt (10 * b.val + n)) (0 : Fin 2) * 1024 + 1 * r.val = 1024 * b.val + r.val; rw [e0, hp]; omega
  | ⟨1, _⟩ => show win1_2.index (pt (10 * b.val + n)) (1 : Fin 2) * 128 + 1 * y.val = y.val; rw [e1]; omega

/-- the lengths, -/
theorem blk3_apply (b : Fin 16) (n : ℕ) (hn : n < 10) (r : Fin 1024) :
    blkAt V c 3 (pt (10 * b.val + n)) (ix3 0 r 0) = V c main_v14 (ix3 b r 0) := by
  have e : ∀ t : Fin grid1.N, win1_3.index t (0 : Fin 3) = t.val / 10 ∧ win1_3.index t (1 : Fin 3) = 0 ∧ win1_3.index t (2 : Fin 3) = 0 := by
    decide +kernel
  obtain ⟨e0, e1, e2⟩ := e (pt (10 * b.val + n))
  have hp := pt_mk b.val n b.isLt hn
  refine congrArg (V c main_v14) (funext fun a => Fin.ext ?_)
  match a with
  | ⟨0, _⟩ => show win1_3.index (pt (10 * b.val + n)) (0 : Fin 3) * 1 + 1 * 0 = b.val; rw [e0, hp]; omega
  | ⟨1, _⟩ => show win1_3.index (pt (10 * b.val + n)) (1 : Fin 3) * 1024 + 1 * r.val = r.val; rw [e1]; omega
  | ⟨2, _⟩ => show win1_3.index (pt (10 * b.val + n)) (2 : Fin 3) * 1 + 1 * 0 = 0; rw [e2]

/-- and the parameters whole: the input weights, -/
theorem blk4_apply (t : Fin cfg1.N) (k : Fin 384) (j : Fin 384) : blkAt V c 4 t (ix2 k j) = V c main_v10 (ix2 k j) := by
  have e : ∀ t : Fin grid1.N, win1_4.index t (0 : Fin 2) = 0 ∧ win1_4.index t (1 : Fin 2) = 0 := by decide +kernel
  obtain ⟨e0, e1⟩ := e t
  refine congrArg (V c main_v10) (funext fun a => Fin.ext ?_)
  match a with
  | ⟨0, _⟩ => show win1_4.index t (0 : Fin 2) * 384 + 1 * k.val = k.val; rw [e0]; omega
  | ⟨1, _⟩ => show win1_4.index t (1 : Fin 2) * 384 + 1 * j.val = j.val; rw [e1]; omega

/-- the state weights, -/
theorem blk5_apply (t : Fin cfg1.N) (k : Fin 128) (j : Fin 384) : blkAt V c 5 t (ix2 k j) = V c main_v11 (ix2 k j) := by
  have e : ∀ t : Fin grid1.N, win1_5.index t (0 : Fin 2) = 0 ∧ win1_5.index t (1 : Fin 2) = 0 := by decide +kernel
  obtain ⟨e0, e1⟩ := e t
  refine congrArg (V c main_v11) (funext fun a => Fin.ext ?_)
  match a with
  | ⟨0, _⟩ => show win1_5.index t (0 : Fin 2) * 128 + 1 * k.val = k.val; rw [e0]; omega
  | ⟨1, _⟩ => show win1_5.index t (1 : Fin 2) * 384 + 1 * j.val = j.val; rw [e1]; omega

/-- the input bias, -/
theorem blk6_apply (t : Fin cfg1.N) (k : Fin 1) (j : Fin 384) : blkAt V c 6 t (ix2 k j) = V c main_v12 (ix2 k j) := by
  have e : ∀ t : Fin grid1.N, win1_6.index t (0 : Fin 2) = 0 ∧ win1_6.index t (1 : Fin 2) = 0 := by decide +kernel
  obtain ⟨e0, e1⟩ := e t
  refine congrArg (V c main_v12) (funext fun a => Fin.ext ?_)
  match a with
  | ⟨0, _⟩ => show win1_6.index t (0 : Fin 2) * 1 + 1 * k.val = k.val; rw [e0]; omega
  | ⟨1, _⟩ => show win1_6.index t (1 : Fin 2) * 384 + 1 * j.val = j.val; rw [e1]; omega

/-- the state bias. -/
theorem blk7_apply (t : Fin cfg1.N) (k : Fin 1) (j : Fin 384) : blkAt V c 7 t (ix2 k j) = V c main_v13 (ix2 k j) := by
  have e : ∀ t : Fin grid1.N, win1_7.index t (0 : Fin 2) = 0 ∧ win1_7.index t (1 : Fin 2) = 0 := by decide +kernel
  obtain ⟨e0, e1⟩ := e t
  refine congrArg (V c main_v13) (funext fun a => Fin.ext ?_)
  match a with
  | ⟨0, _⟩ => show win1_7.index t (0 : Fin 2) * 1 + 1 * k.val = k.val; rw [e0]; omega
  | ⟨1, _⟩ => show win1_7.index t (1 : Fin 2) * 384 + 1 * j.val = j.val; rw [e1]; omega

end blocks

/-! ## The state, row by row -/

section rows
variable (V : (c : Dev nD) → Bufs Ideal c) (c : Dev nD)

/-- The parameters as the kernel finds them: its weights are transposed, its biases one row. -/
def parV : Spec.Par where
  wi j k := (V c main_v10 : Vec Ideal S384x384 .f32) (ix2 k j)
  wh j k := (V c main_v11 : Vec Ideal S128x384 .f32) (ix2 k j)
  bi j := (V c main_v12 : Vec Ideal S1x384 .f32) (ix2 0 j)
  bh j := (V c main_v13 : Vec Ideal S1x384 .f32) (ix2 0 j)

/-- Row `1024 b + r`'s data as the kernel finds it. -/
def rowV (b : Fin 16) (r : Fin 1024) : Spec.Row where
  s y := (V c main_v8_1 : Vec Ideal S16384x128 .f32) (ix2 ⟨1024 * b.val + r.val, by omega⟩ y)
  r y := (V c main_v8_2 : Vec Ideal S16384x128 .f32) (ix2 ⟨1024 * b.val + r.val, by omega⟩ y)
  tl t y := (V c main_v9 : Vec Ideal S10x16384x128 .f32) (ix3 (Fin.ofNat 10 t) ⟨1024 * b.val + r.val, by omega⟩ y)
  len := (V c main_v14 : Vec Ideal S16x1024x1 .i32) (ix3 b r 0)

/-- The fixed share of the gates at a row. -/
theorem gatesB_apply (b : Fin 16) (r : Fin 1024) (j : Fin 384) :
    gatesB V c b.val (ix2 r j)
      = (∑ k, (rowV V c b r).s k * (parV V c).wi j (Spec.col 0 k)) + (∑ k, (rowV V c b r).r k * (parV V c).wi j (Spec.col 1 k)) + (parV V c).bi j := by
  unfold gatesB gates₀
  rw [gates_apply]
  simp only [rowsA_apply, rowsB_apply]
  have h1 := fun k => blk1_apply V c b 0 (by decide) r k
  have h2 := fun k => blk2_apply V c b 0 (by decide) r k
  simp only [Nat.add_zero] at h1 h2
  simp only [h1, h2, blk4_apply, blk6_apply]
  rfl

/-- One step at a row, from any blocks that hold the row's data and the parameters. -/
theorem stepAt_apply (P : Spec.Par) (R : Spec.Row) (k : ℕ) (r : Fin 1024) (h : Vec Ideal S1024x128 .f32) (g : Vec Ideal S1024x384 .f32)
    (x0 : Vec Ideal S1x1024x128 .f32) (x3 : Vec Ideal S1x1024x1 .i32) (x4 : Vec Ideal S384x384 .f32) (x5 : Vec Ideal S128x384 .f32)
    (x7 : Vec Ideal S1x384 .f32)
    (hg : ∀ j, g (ix2 r j) = (∑ z, R.s z * P.wi j (Spec.col 0 z)) + (∑ z, R.r z * P.wi j (Spec.col 1 z)) + P.bi j)
    (h0 : ∀ y, x0 (ix3 0 r y) = R.tl k y) (h3 : x3 (ix3 0 r 0) = R.len) (h4 : ∀ z j, x4 (ix2 z j) = P.wi j z)
    (h5 : ∀ z j, x5 (ix2 z j) = P.wh j z) (h7 : ∀ j, x7 (ix2 0 j) = P.bh j) (y : Fin 128) :
    stepAt k h g x0 x3 x4 x5 x7 (ix2 r y) = Spec.step P R k (fun z => h (ix2 r z)) y := by
  have eg : (fun j => g (ix2 r j) + ∑ z, x0 (ix3 0 r z) * rowsC x4 (ix2 z j)) = Spec.gi P R k := by
    funext j
    rw [Spec.gi_eq, hg]
    simp only [rowsC_apply, h0, h4]
  have eh : (fun j => (∑ z, h (ix2 r z) * x5 (ix2 z j)) + x7 (ix2 0 j)) = Spec.gh P fun z => h (ix2 r z) := by
    funext j
    simp only [h5, h7]
    rfl
  unfold stepAt k1_pay4
  rw [select_apply, cell_apply, shapeCast_id, h3, eg, eh]
  rfl

/-- One step of batch block `b` at a row. -/
theorem stepB_apply (b : Fin 16) (k : Fin 10) (r : Fin 1024) (h : Vec Ideal S1024x128 .f32) (y : Fin 128) :
    stepB V c b.val k.val h (ix2 r y) = Spec.step (parV V c) (rowV V c b r) k.val (fun z => h (ix2 r z)) y := by
  have hk : Fin.ofNat 10 k.val = k := Fin.ext (Nat.mod_eq_of_lt k.isLt)
  unfold stepB
  refine stepAt_apply (parV V c) (rowV V c b r) k.val r h _ _ _ _ _ _ (gatesB_apply V c b r) (fun y => ?_) ?_ (fun z j => ?_) (fun z j => ?_) (fun j => ?_) y
  · refine (blk0_apply V c b k r y).trans ?_
    simp only [rowV, hk]
  · exact blk3_apply V c b k.val k.isLt r
  · exact blk4_apply V c _ z j
  · exact blk5_apply V c _ z j
  · exact blk7_apply V c _ 0 j

/-- The state after step `k` at a row. -/
theorem stateB_apply (b : Fin 16) (r : Fin 1024) : ∀ (k : ℕ) (_ : k < 10) (y : Fin 128),
    stateB V c b.val k (ix2 r y) = Spec.state (parV V c) (rowV V c b r) (k + 1) y
  | 0, _, y => by
    have e := stepB_apply V c b 0 r (k1_pay3 (F := Ideal)) y
    simp only [zero_apply] at e
    exact e
  | k + 1, hk, y => by
    have e := stepB_apply V c b ⟨k + 1, hk⟩ r (stateB V c b.val k) y
    simp only [stateB_apply b r k (by omega)] at e
    exact e

/-- The result at row `1024 b + r`. -/
theorem result_apply (b : Fin 16) (r : Fin 1024) (y : Fin 128) :
    (result V c : Vec Ideal S16384x128 .f32) (ix2 ⟨1024 * b.val + r.val, by omega⟩ y) = Spec.state (parV V c) (rowV V c b r) 10 y := by
  rw [← stateB_apply V c b r 9 (by decide) y]
  have e1 : (1024 * b.val + r.val) / 1024 = b.val := by omega
  have e2 : inBlock (ix2 (n0 := 16384) (n1 := 128) ⟨1024 * b.val + r.val, by omega⟩ y) = ix2 r y := by
    funext a; apply Fin.ext
    match a with
    | ⟨0, _⟩ => show (1024 * b.val + r.val) % 1024 = r.val; omega
    | ⟨1, _⟩ => rfl
  show stateB V c ((1024 * b.val + r.val) / 1024) 9 (inBlock _) = _
  rw [e1, e2]

end rows

end Cert.Proof.OfKernelIdeal
-- ==== Proof.KernelIdeal.Rows.lean ====
/-
  The grid kernel's arrays in terms of the arguments, at an index, over the extended reals: its weights are the
  arguments' transposes, its rows of embeddings are the tables' rows that the arguments' words name; and so the kernel's
  result is the recurrence's tenth state of the arguments' rows.
-/
module

public import proofs.«01_k».proof.Proof.KernelIdeal.Cells
public import proofs.«01_k».proof.Proof.KernelIdeal.Lists

@[expose] public section

noncomputable section

namespace Cert.Proof.OfKernelIdeal

open Cert.KernelIdeal Cert.KernelIdeal.Gen

open Idealize.ShloMosaic
open Idealize.ShloMosaic.StableHlo

variable (m : (ℓ : Loc nD τ sig) → Buf (Elt Ideal) ℓ) (d : Dev nD)

/-- The history's words as the lists hold them: number `16384 t + i` is row `i`'s word of step `t`. -/
theorem l1_apply (t : Fin 10) (i : Fin 16384) :
    (ins m d).l1 (Gather.tri 40 ((16384 * t.val + i.val) / 128 / 40) ((16384 * t.val + i.val) / 128 % 40) ((16384 * t.val + i.val) % 128))
      = (m ((d.tc : Thread nD τ).loc main_arg1) : Vec Ideal S16384x10 .i32) (ix2 i t) := by
  have ht := t.isLt
  have e : Gather.tri 40 ((16384 * t.val + i.val) / 128 / 40) ((16384 * t.val + i.val) / 128 % 40) ((16384 * t.val + i.val) % 128)
      = ix3 ⟨(16384 * t.val + i.val) / 128 / 40, by omega⟩ ⟨(16384 * t.val + i.val) / 128 % 40, by omega⟩ ⟨(16384 * t.val + i.val) % 128, by omega⟩ := by
    funext a; apply Fin.ext
    match a with
    | 0 => exact Nat.mod_eq_of_lt (by omega)
    | 1 => exact Nat.mod_eq_of_lt (by omega)
    | 2 => exact Nat.mod_eq_of_lt (by omega)
  rw [ins_l1, e]
  pointwise

/-- The triples' first words, likewise. -/
theorem l4_apply (i : Fin 16384) :
    (ins m d).l4 (Gather.tri 4 (i.val / 128 / 4) (i.val / 128 % 4) (i.val % 128))
      = (m ((d.tc : Thread nD τ).loc main_arg0) : Vec Ideal S16384x3 .i32) (ix2 i 0) := by
  have e : Gather.tri 4 (i.val / 128 / 4) (i.val / 128 % 4) (i.val % 128)
      = ix3 ⟨i.val / 128 / 4, by omega⟩ ⟨i.val / 128 % 4, by omega⟩ ⟨i.val % 128, by omega⟩ := by
    funext a; apply Fin.ext
    match a with
    | 0 => exact Nat.mod_eq_of_lt (by omega)
    | 1 => exact Nat.mod_eq_of_lt (by omega)
    | 2 => exact Nat.mod_eq_of_lt (by omega)
  rw [ins_l4, e]
  pointwise

/-- The triples' second words, likewise. -/
theorem l7_apply (i : Fin 16384) :
    (ins m d).l7 (Gather.tri 4 (i.val / 128 / 4) (i.val / 128 % 4) (i.val % 128))
      = (m ((d.tc : Thread nD τ).loc main_arg0) : Vec Ideal S16384x3 .i32) (ix2 i 1) := by
  have e : Gather.tri 4 (i.val / 128 / 4) (i.val / 128 % 4) (i.val % 128)
      = ix3 ⟨i.val / 128 / 4, by omega⟩ ⟨i.val / 128 % 4, by omega⟩ ⟨i.val % 128, by omega⟩ := by
    funext a; apply Fin.ext
    match a with
    | 0 => exact Nat.mod_eq_of_lt (by omega)
    | 1 => exact Nat.mod_eq_of_lt (by omega)
    | 2 => exact Nat.mod_eq_of_lt (by omega)
  rw [ins_l7, e]
  pointwise

/-- An index pair is a matrix index. -/
theorem pair_eq {M : ℕ} (a : Fin M) (y : Fin 128) : Shape.pair (d := ![M, 128]) a y = ix2 a y := by
  funext b; apply Fin.ext
  match b with
  | ⟨0, _⟩ => rfl
  | ⟨1, _⟩ => rfl

/-- 163840 rows seen as ten sheets of 16384. -/
theorem sheet_apply (x : Vec Ideal S163840x128 .f32) (t : Fin 10) (i : Fin 16384) (y : Fin 128) :
    shapeCast S10x16384x128 x shapeCasts_S163840x128_S10x16384x128 (ix3 t i y) = x (ix2 ⟨16384 * t.val + i.val, by omega⟩ y) := by
  pointwise
  refine congrArg x (funext fun a => Fin.ext ?_)
  match a with
  | ⟨0, _⟩ => dsimp [ix2]; omega
  | ⟨1, _⟩ => rfl

/-! ## The arrays the grid kernel finds -/

theorem bufs_v8_1 : bufs₃ m d main_v8_1 = (ins m d).look.o1 :=
  (vals₃_keep m d main_v8_1 (by decide)).trans (vals₂_1 m d)

theorem bufs_v8_2 : bufs₃ m d main_v8_2 = (ins m d).look.o2 :=
  (vals₃_keep m d main_v8_2 (by decide)).trans (vals₂_2 m d)

theorem bufs_v9 : bufs₃ m d main_v9 = shapeCast S10x16384x128 (ins m d).look.o0 shapeCasts_S163840x128_S10x16384x128 := by
  rw [← vals₂_0]
  unfold bufs₃ vals₃ opsB
  after_results_simp
  rfl

theorem bufs_v10 : bufs₃ m d main_v10 = transpose S384x384 [1, 0] (m ((d.tc : Thread nD τ).loc main_arg5)) transposes_S384x384_S384x384_1_0 := by
  rw [← show vals₂ m d (Proc.devRef .tc main_arg5) = m ((d.tc : Thread nD τ).loc main_arg5) from (vals₂_keep m d main_arg5 (by decide)).trans (vals₁_keep m d main_arg5 (by decide))]
  unfold bufs₃ vals₃ opsB
  after_results_simp

theorem bufs_v11 : bufs₃ m d main_v11 = transpose S128x384 [1, 0] (m ((d.tc : Thread nD τ).loc main_arg6)) transposes_S384x128_S128x384_1_0 := by
  rw [← show vals₂ m d (Proc.devRef .tc main_arg6) = m ((d.tc : Thread nD τ).loc main_arg6) from (vals₂_keep m d main_arg6 (by decide)).trans (vals₁_keep m d main_arg6 (by decide))]
  unfold bufs₃ vals₃ opsB
  after_results_simp

theorem bufs_v12 : bufs₃ m d main_v12 = shapeCast S1x384 (m ((d.tc : Thread nD τ).loc main_arg7)) shapeCasts_S384_S1x384 := by
  rw [← show vals₂ m d (Proc.devRef .tc main_arg7) = m ((d.tc : Thread nD τ).loc main_arg7) from (vals₂_keep m d main_arg7 (by decide)).trans (vals₁_keep m d main_arg7 (by decide))]
  unfold bufs₃ vals₃ opsB
  after_results_simp
  rfl

theorem bufs_v13 : bufs₃ m d main_v13 = shapeCast S1x384 (m ((d.tc : Thread nD τ).loc main_arg8)) shapeCasts_S384_S1x384 := by
  rw [← show vals₂ m d (Proc.devRef .tc main_arg8) = m ((d.tc : Thread nD τ).loc main_arg8) from (vals₂_keep m d main_arg8 (by decide)).trans (vals₁_keep m d main_arg8 (by decide))]
  unfold bufs₃ vals₃ opsB
  after_results_simp
  rfl

theorem bufs_v14 : bufs₃ m d main_v14 = shapeCast S16x1024x1 (m ((d.tc : Thread nD τ).loc main_arg2)) shapeCasts_S16384_S16x1024x1 := by
  rw [← show vals₂ m d (Proc.devRef .tc main_arg2) = m ((d.tc : Thread nD τ).loc main_arg2) from (vals₂_keep m d main_arg2 (by decide)).trans (vals₁_keep m d main_arg2 (by decide))]
  unfold bufs₃ vals₃ opsB
  after_results_simp
  rfl

/-! ## Parameters, rows, result -/

/-- The parameters are the arguments'. -/
theorem par_eq (c : Dev nD) : parV (bufs₃ m) c = Spec.parOf (m ((c.tc : Thread nD τ).loc main_arg5)) (m ((c.tc : Thread nD τ).loc main_arg6))
    (m ((c.tc : Thread nD τ).loc main_arg7)) (m ((c.tc : Thread nD τ).loc main_arg8)) := by
  unfold parV Spec.parOf
  rw [bufs_v10, bufs_v11, bufs_v12, bufs_v13]
  congr 1
  · funext j k; pointwise
  · funext j k; pointwise
  · funext j; pointwise
  · funext j; pointwise

/-- The rows are the arguments'. -/
theorem row_eq (c : Dev nD) (b : Fin 16) (r : Fin 1024) : rowV (bufs₃ m) c b r
    = Spec.rowOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) ⟨1024 * b.val + r.val, by omega⟩ := by
  have hi : 1024 * b.val + r.val < 16384 := by omega
  unfold rowV Spec.rowOf
  rw [bufs_v8_1, bufs_v8_2, bufs_v9, bufs_v14]
  congr 1
  · funext y
    show Gather.lookN (ins m c).t3 (ins m c).l4 (1024 * b.val + r.val) y = _
    unfold Gather.lookN
    rw [l4_apply m c ⟨1024 * b.val + r.val, hi⟩, ins_t3, pair_eq]
  · funext y
    show Gather.lookN (ins m c).t4 (ins m c).l7 (1024 * b.val + r.val) y = _
    unfold Gather.lookN
    rw [l7_apply m c ⟨1024 * b.val + r.val, hi⟩, ins_t4, pair_eq]
  · funext t y
    have e : shapeCast S10x16384x128 (ins m c).look.o0 shapeCasts_S163840x128_S10x16384x128 (ix3 (Fin.ofNat 10 t) ⟨1024 * b.val + r.val, hi⟩ y)
        = Gather.lookN (ins m c).t3 (ins m c).l1 (16384 * (Fin.ofNat 10 t).val + (1024 * b.val + r.val)) y :=
      sheet_apply (ins m c).look.o0 (Fin.ofNat 10 t) ⟨1024 * b.val + r.val, hi⟩ y
    rw [e]
    unfold Gather.lookN
    rw [l1_apply m c (Fin.ofNat 10 t) ⟨1024 * b.val + r.val, hi⟩, ins_t3, pair_eq]
  · pointwise
    refine congrArg (m ((c.tc : Thread nD τ).loc main_arg2)) (funext fun a => Fin.ext ?_)
    match a with
    | ⟨0, _⟩ => dsimp [ix1]; omega

/-- The kernel's result at row `i`: the recurrence's state after ten steps. -/
theorem result_row (c : Dev nD) (i : Fin 16384) (y : Fin 128) :
    (result (bufs₃ m) c : Vec Ideal S16384x128 .f32) (ix2 i y)
      = Spec.state (Spec.parOf (m ((c.tc : Thread nD τ).loc main_arg5)) (m ((c.tc : Thread nD τ).loc main_arg6))
            (m ((c.tc : Thread nD τ).loc main_arg7)) (m ((c.tc : Thread nD τ).loc main_arg8)))
          (Spec.rowOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) i) 10 y := by
  have hi : 1024 * (i.val / 1024) + i.val % 1024 = i.val := by omega
  have h := result_apply (bufs₃ m) c ⟨i.val / 1024, by omega⟩ ⟨i.val % 1024, by omega⟩ y
  rw [par_eq, row_eq] at h
  simp only [hi] at h
  exact h

end Cert.Proof.OfKernelIdeal

end
-- ==== Proof.RefStep.lean ====
/-
  The reference's step at one row over the extended reals: its two shares of the gates as sums, its cell as the
  recurrence's cell, and its mixture by a mask of 0 or 1.
-/
module

public import proofs.«01_k».proof.Proof.Gen.ReferenceIdeal.Run
public import proofs.«01_k».proof.Proof.Spec
public import Idealize.ShloMosaic.Lib.DynamicIndex
public import Idealize.ShloMosaic.Lib.Pointwise.Tactic
public import Idealize.ShloMosaic.Lib.Pointwise.Contract
public import Idealize.ShloMosaic.Lib.Pointwise.Reshape
public import Idealize.ShloMosaic.Lib.Pointwise.Select

@[expose] public section

noncomputable section

namespace Cert.Proof.OfReference

open Cert.ReferenceIdeal Cert.ReferenceIdeal.Gen Cert.ReferenceIdeal.Value

open Idealize.ShloMosaic

/-- The input's share of the gates, of sheet `n` of the inputs. -/
def giv (x : FVec Ideal S10x16384x384 .f32) (wi : FVec Ideal S384x384 .f32) (bi : FVec Ideal S384 .f32) (n : IVec S_ 32) : FVec Ideal S16384x384 .f32 :=
  addf (Host.dotGeneral dot_S16384x384_S384x384_S16384x384_1_0_0_1_n_n none
      (shapeCast S16384x384 (Host.dynamicSlice S1x16384x384 x
        (fun k => ((![n, constantI S_ 32 0#32, constantI S_ 32 0#32] : Fin 3 → IVec S_ 32) k (Shape.Idx.first h_S_)).toInt)
        sliceFits_S10x16384x384_S1x16384x384) shapeCasts_S1x16384x384_S16384x384)
      (transpose S384x384 [1, 0] wi transposes_S384x384_S384x384_1_0))
    (broadcastInDim S16384x384 ![0, 1] bcast_S1x384_S16384x384_0_1 (broadcastInDim S1x384 ![1] bcast_S384_S1x384_1 bi))

/-- The state's share. -/
def ghv (wh : FVec Ideal S384x128 .f32) (bh : FVec Ideal S384 .f32) (h : FVec Ideal S16384x128 .f32) : FVec Ideal S16384x384 .f32 :=
  addf (Host.dotGeneral dot_S16384x128_S128x384_S16384x384_1_0_0_1_n_n none h
      (transpose S128x384 [1, 0] wh transposes_S384x128_S128x384_1_0))
    (broadcastInDim S16384x384 ![0, 1] bcast_S1x384_S16384x384_0_1 (broadcastInDim S1x384 ![1] bcast_S384_S1x384_1 bh))

/-- Row `n` of the mask. -/
def maskv (mk : FVec Ideal S10x16384 .f32) (n : IVec S_ 32) : FVec Ideal S16384 .f32 :=
  shapeCast S16384 (Host.dynamicSlice S1x16384 mk
    (fun k => ((![n, constantI S_ 32 0#32] : Fin 2 → IVec S_ 32) k (Shape.Idx.first h_S_)).toInt) sliceFits_S10x16384_S1x16384) shapeCasts_S1x16384_S16384

/-- The input's share at a row and a column. -/
theorem giv_apply (x : FVec Ideal S10x16384x384 .f32) (wi : FVec Ideal S384x384 .f32) (bi : FVec Ideal S384 .f32) (n : IVec S_ 32) (t : Fin 10)
    (hn : ∀ i, n i = BitVec.ofNat 32 t.val) (i : Fin 16384) (j : Fin 384) :
    giv x wi bi n (ix2 i j) = (∑ k, x (ix3 t i k) * wi (ix2 j k)) + bi (ix1 j) := by
  have hs : S10x16384x384.Slices ![t.val, 0, 0] S1x16384x384 := ⟨rfl, fun a => by
    match a with
    | ⟨0, _⟩ => show t.val + 1 ≤ 10; omega
    | ⟨1, _⟩ => exact le_rfl
    | ⟨2, _⟩ => exact le_rfl⟩
  unfold giv
  rw [Host.dynamicSlice_eq_extractStridedSlice S1x16384x384 x _ ![t.val, 0, 0] _ hs (fun a => by
    match a with
    | ⟨0, _⟩ => exact (congrArg BitVec.toInt (hn _)).trans (toInt_ofNat_of_lt (by omega))
    | ⟨1, _⟩ => rfl
    | ⟨2, _⟩ => rfl)]
  pointwise

/-- The state's share at a row and a column. -/
theorem ghv_apply (wh : FVec Ideal S384x128 .f32) (bh : FVec Ideal S384 .f32) (h : FVec Ideal S16384x128 .f32) (i : Fin 16384) (j : Fin 384) :
    ghv wh bh h (ix2 i j) = (∑ k, h (ix2 i k) * wh (ix2 j k)) + bh (ix1 j) := by
  unfold ghv
  pointwise

/-- The mask's row at a column. -/
theorem maskv_apply (mk : FVec Ideal S10x16384 .f32) (n : IVec S_ 32) (t : Fin 10)
    (hn : ∀ i, n i = BitVec.ofNat 32 t.val) (i : Fin 16384) : maskv mk n (ix1 i) = mk (ix2 t i) := by
  have hs : S10x16384.Slices ![t.val, 0] S1x16384 := ⟨rfl, fun a => by
    match a with
    | ⟨0, _⟩ => show t.val + 1 ≤ 10; omega
    | ⟨1, _⟩ => exact le_rfl⟩
  unfold maskv
  rw [Host.dynamicSlice_eq_extractStridedSlice S1x16384 mk _ ![t.val, 0] _ hs (fun a => by
    match a with
    | ⟨0, _⟩ => exact (congrArg BitVec.toInt (hn _)).trans (toInt_ofNat_of_lt (by omega))
    | ⟨1, _⟩ => rfl)]
  pointwise

/-- The update gate: the second third of the two shares' sum, through the logistic function. -/
def upd (a b : FVec Ideal S16384x384 .f32) : FVec Ideal S16384x128 .f32 :=
  Host.divf (broadcastInDim S16384x128 ![] bcast_S_S16384x128 (constant S_ .f32 0x3F800000#32))
    (addf (broadcastInDim S16384x128 ![] bcast_S_S16384x128 (constant S_ .f32 0x3F800000#32))
      (Host.exp (Host.negf (addf (extractStridedSlice S16384x128 ![0, 128] a slices_S16384x384_S16384x128_0_128)
        (extractStridedSlice S16384x128 ![0, 128] b slices_S16384x384_S16384x128_0_128)))))

/-- The next state before the mask. -/
def cellv (a b : FVec Ideal S16384x384 .f32) (h : FVec Ideal S16384x128 .f32) : FVec Ideal S16384x128 .f32 :=
  addf (mulf (subf (broadcastInDim S16384x128 ![] bcast_S_S16384x128 (constant S_ .f32 0x3F800000#32)) (upd a b))
    (Host.tanh (addf (extractStridedSlice S16384x128 ![0, 256] a slices_S16384x384_S16384x128_0_256)
      (mulf (Host.divf (broadcastInDim S16384x128 ![] bcast_S_S16384x128 (constant S_ .f32 0x3F800000#32))
          (addf (broadcastInDim S16384x128 ![] bcast_S_S16384x128 (constant S_ .f32 0x3F800000#32))
            (Host.exp (Host.negf (addf (extractStridedSlice S16384x128 ![0, 0] a slices_S16384x384_S16384x128_0_0)
              (extractStridedSlice S16384x128 ![0, 0] b slices_S16384x384_S16384x128_0_0))))))
        (extractStridedSlice S16384x128 ![0, 256] b slices_S16384x384_S16384x128_0_256)))))
    (mulf (upd a b) h)

/-- The mixture of a new state and the old one. -/
def mixv (k : FVec Ideal S16384 .f32) (c h : FVec Ideal S16384x128 .f32) : FVec Ideal S16384x128 .f32 :=
  addf (mulf (broadcastInDim S16384x128 ![0, 1] bcast_S16384x1_S16384x128_0_1 (broadcastInDim S16384x1 ![0] bcast_S16384_S16384x1_0 k)) c)
    (mulf (broadcastInDim S16384x128 ![0, 1] bcast_S16384x1_S16384x128_0_1
      (subf (broadcastInDim S16384x1 ![] bcast_S_S16384x1 (constant S_ .f32 0x3F800000#32)) (broadcastInDim S16384x1 ![0] bcast_S16384_S16384x1_0 k))) h)

/-- What a trip leaves in the state is the mixture of the cell's result and the state before. -/
theorem step_state (V : Valuation τ sig (Elt Ideal)) :
    step_main_v22_7 V = mixv (maskv (V (Proc.devRef .tc main_v22_1)) (V (Proc.devRef .tc main_v22_6)))
      (cellv (giv (V (Proc.devRef .tc main_v22_0)) (V (Proc.devRef .tc main_v22_2)) (V (Proc.devRef .tc main_v22_3)) (V (Proc.devRef .tc main_v22_6)))
        (ghv (V (Proc.devRef .tc main_v22_4)) (V (Proc.devRef .tc main_v22_5)) (V (Proc.devRef .tc main_v22_7)))
        (V (Proc.devRef .tc main_v22_7))) (V (Proc.devRef .tc main_v22_7)) := rfl

/-- The mixture at a row and a column. -/
theorem mixv_apply (k : FVec Ideal S16384 .f32) (c h : FVec Ideal S16384x128 .f32) (i : Fin 16384) (y : Fin 128) :
    mixv k c h (ix2 i y) = k (ix1 i) * c (ix2 i y) + (1 - k (ix1 i)) * h (ix2 i y) := by
  unfold mixv
  pointwise

/-- The cell at a row and a column. -/
theorem cellv_apply (a b : FVec Ideal S16384x384 .f32) (h : FVec Ideal S16384x128 .f32) (i : Fin 16384) (y : Fin 128) :
    cellv a b h (ix2 i y) = Spec.cell (fun j => a (ix2 i j)) (fun j => b (ix2 i j)) (fun k => h (ix2 i k)) y := by
  have e0 : Spec.col 0 y = ⟨y.val, by omega⟩ := Fin.ext (by show 128 * 0 + y.val = y.val; omega)
  have e1 : Spec.col 1 y = ⟨128 + y.val, by omega⟩ := Fin.ext (by show 128 * 1 + y.val = 128 + y.val; omega)
  have e2 : Spec.col 2 y = ⟨256 + y.val, by omega⟩ := Fin.ext (by show 128 * 2 + y.val = 256 + y.val; omega)
  unfold cellv upd Spec.cell Ideal.logistic
  rw [e0, e1, e2]
  pointwise

end Cert.Proof.OfReference

end
-- ==== Proof.RefTake.lean ====
/-
  The reference's three reads of a table by rows, at an index: a table's row by a list of words, with a word wrapped where it
  is negative and the result filled where it is out of range. Where every word is in range neither happens, and the value is
  the row that the word names.
-/
module

public import proofs.«01_k».proof.Proof.Gen.ReferenceIdeal.Run
public import proofs.«01_k».proof.Proof.Spec
public import Idealize.ShloMosaic.Lib.DynamicIndex
public import Idealize.ShloMosaic.Lib.ReduceAll
public import Idealize.ShloMosaic.Lib.Routing.Ops
public import Idealize.ShloMosaic.Lib.Routing.OpsPair
public import Idealize.ShloMosaic.Lib.Pointwise.Tactic
public import Idealize.ShloMosaic.Lib.Pointwise.Contract
public import Idealize.ShloMosaic.Lib.Pointwise.Reshape
public import Idealize.ShloMosaic.Lib.Pointwise.Select

@[expose] public section

noncomputable section

namespace Cert.Proof.OfReference

open Cert.ReferenceIdeal Cert.ReferenceIdeal.Gen Cert.ReferenceIdeal.Value

open Idealize.ShloMosaic

/-- A word below `N` passes the two tests of the range: not below zero, and not above `N - 1`. -/
theorem in_range (N : ℕ) (h0 : 0 < N) (hN : N < 2 ^ 31) (w : BitVec 32) (h : w.toNat < N) :
    IntOp.andi (IntOp.cmpi .sge w 0#32) (IntOp.cmpi .sle w (BitVec.ofNat 32 (N - 1))) = 1#1 := by
  have e : w.toInt = w.toNat := BitVec.toInt_eq_toNat_of_lt (by omega)
  refine IntOp.andi_eq_one.2 ⟨IntOp.cmpi_sge.2 ?_, IntOp.cmpi_sle.2 ?_⟩
  · rw [e]; exact Int.natCast_nonneg _
  · rw [e, toInt_ofNat_of_lt (by omega)]; omega

/-- A choice by a bit that is 1 is its first value. -/
theorem select_one {s : Shape} (c : IVec s 1) (a b : s.Idx → EReal) (j : s.Idx) (h : c j = 1#1) : select c a b j = a j := by
  show Scalar.select (c j) (a j) (b j) = a j
  rw [h]
  rfl

/-- A list of words, each wrapped by `p` where it is negative. -/
def wrapped {s : Shape} (hb : S_.BroadcastsInDim s (![] : Fin 0 → Fin s.rank)) (p : BitVec 32) (idx : IVec s 32) : IVec s 32 :=
  select (cmpi .slt idx (broadcastInDim s ![] hb (constantI S_ 32 0#32))) (addi idx (broadcastInDim s ![] hb (constantI S_ 32 p))) idx

/-- Words below `2 ^ 31` are not wrapped. -/
theorem wrapped_eq {s : Shape} (hb : S_.BroadcastsInDim s (![] : Fin 0 → Fin s.rank)) (p : BitVec 32) (idx : IVec s 32)
    (h : ∀ i, (idx i).toNat < 2 ^ 31) : wrapped hb p idx = idx :=
  funext fun i => Routing.wrap_of_lt (idx i) _ (h i)

/-- A table's rows by 16384 words. -/
def rows2 {N : ℕ} (d : GatherDims (Routing.shape2 N 128) S16384x1 S16384x128) (p q : BitVec 32)
    (x : FVec Ideal (Routing.shape2 N 128) .f32) (idx : IVec S16384 32) : FVec Ideal S16384x128 .f32 :=
  select (broadcastInDim S16384x128 ![0] bcast_S16384_S16384x128_0
      (Host.reduce IntOp.andi
        (andi (cmpi .sge (broadcastInDim S16384x1 ![0] bcast_S16384_S16384x1_0 (wrapped bcast_S_S16384 p idx)) (broadcastInDim S16384x1 ![] bcast_S_S16384x1 (constantI S_ 32 0#32)))
          (cmpi .sle (broadcastInDim S16384x1 ![0] bcast_S16384_S16384x1_0 (wrapped bcast_S_S16384 p idx))
            (broadcastInDim S16384x1 ![0, 1] bcast_S1x1_S16384x1_0_1 (broadcastInDim S1x1 ![1] bcast_S1_S1x1_1 (constantI S1 32 q)))))
        (constantI S_ 1 1#1) reducesTo_S16384x1_S16384_d1 h_S_))
    (Host.gather d x (broadcastInDim S16384x1 ![0] bcast_S16384_S16384x1_0 (wrapped bcast_S_S16384 p idx)))
    (broadcastInDim S16384x128 ![] bcast_S_S16384x128 (constant S_ .f32 0x7FC00000#32))

/-- A table's rows by 16384 histories of ten words. -/
def rows3 (x : FVec Ideal S1000000x128 .f32) (idx : IVec S16384x10 32) : FVec Ideal S16384x10x128 .f32 :=
  select (broadcastInDim S16384x10x128 ![0, 1] bcast_S16384x10_S16384x10x128_0_1
      (Host.reduce IntOp.andi
        (andi (cmpi .sge (broadcastInDim S16384x10x1 ![0, 1] bcast_S16384x10_S16384x10x1_0_1 (wrapped bcast_S_S16384x10 1000000#32 idx)) (broadcastInDim S16384x10x1 ![] bcast_S_S16384x10x1 (constantI S_ 32 0#32)))
          (cmpi .sle (broadcastInDim S16384x10x1 ![0, 1] bcast_S16384x10_S16384x10x1_0_1 (wrapped bcast_S_S16384x10 1000000#32 idx))
            (broadcastInDim S16384x10x1 ![0, 1, 2] bcast_S1x1x1_S16384x10x1_0_1_2 (broadcastInDim S1x1x1 ![2] bcast_S1_S1x1x1_2 (constantI S1 32 999999#32)))))
        (constantI S_ 1 1#1) reducesTo_S16384x10x1_S16384x10_d2 h_S_))
    (Host.gather gather_S1000000x128_S16384x10x1_S16384x10x128_2_0_n_n_0_2_1128 x (broadcastInDim S16384x10x1 ![0, 1] bcast_S16384x10_S16384x10x1_0_1 (wrapped bcast_S_S16384x10 1000000#32 idx)))
    (broadcastInDim S16384x10x128 ![] bcast_S_S16384x10x128 (constant S_ .f32 0x7FC00000#32))

/-- A gather of rows by histories, where the word of history `i` at step `t` is the row number `b`. -/
theorem gather3 (x : FVec Ideal S1000000x128 .f32) (idx : IVec S16384x10x1 32) (i : Fin 16384) (t : Fin 10) (y : Fin 128) (b : Fin 1000000)
    (hb : idx (ix3 i t 0) = BitVec.ofNat 32 b.val) :
    Host.gather gather_S1000000x128_S16384x10x1_S16384x10x128_2_0_n_n_0_2_1128 x idx (ix3 i t y) = x (ix2 b y) := by
  refine congrArg x (funext fun a => Fin.ext ?_)
  have hw : (idx (ix3 i t 0)).toInt.toNat = b.val := by rw [hb, toInt_ofNat_of_lt (by omega)]; rfl
  match a with
  | ⟨0, _⟩ =>
    have hs : GatherDims.siIdx gather_S1000000x128_S16384x10x1_S16384x10x128_2_0_n_n_0_2_1128 (ix3 i t y) ⟨0, Nat.one_pos⟩ = ix3 i t 0 :=
      funext fun e => Fin.ext (by
        match e with
        | ⟨0, _⟩ => rfl
        | ⟨1, _⟩ => rfl
        | ⟨2, _⟩ => rfl)
    show min (idx (GatherDims.siIdx gather_S1000000x128_S16384x10x1_S16384x10x128_2_0_n_n_0_2_1128 (ix3 i t y) ⟨0, Nat.one_pos⟩)).toInt.toNat 999999 + 0 + 0 = b.val
    rw [hs, hw]
    omega
  | ⟨1, _⟩ =>
    show 0 + 0 + y.val = y.val
    omega

/-- Where every word is below the table's `N` rows, a read of the table is the row that the word names. -/
theorem rows2_apply {N : ℕ} (h0 : 0 < N) (hN : N < 2 ^ 31) (d : GatherDims (Routing.shape2 N 128) S16384x1 S16384x128) (hoff : d.offsetDims = [1])
    (hcoll : d.collapsedSliceDims = [0]) (hob : d.operandBatchingDims = [])
    (hsim : d.startIndexMap = [0]) (hivd : d.indexVectorDim = 1) (p : BitVec 32)
    (x : FVec Ideal (Routing.shape2 N 128) .f32) (idx : IVec S16384 32) (h : ∀ i, (idx i).toNat < N) (i : Fin 16384) (y : Fin 128) :
    rows2 d p (BitVec.ofNat 32 (N - 1)) x idx (ix2 i y) = x (ix2 ⟨(idx (ix1 i)).toNat, h _⟩ y) := by
  unfold rows2
  rw [wrapped_eq _ _ _ fun i => (h i).trans (by omega)]
  have e : ∀ j, Host.reduce IntOp.andi
        (andi (cmpi .sge (broadcastInDim S16384x1 ![0] bcast_S16384_S16384x1_0 idx) (broadcastInDim S16384x1 ![] bcast_S_S16384x1 (constantI S_ 32 0#32)))
          (cmpi .sle (broadcastInDim S16384x1 ![0] bcast_S16384_S16384x1_0 idx)
            (broadcastInDim S16384x1 ![0, 1] bcast_S1x1_S16384x1_0_1 (broadcastInDim S1x1 ![1] bcast_S1_S1x1_1 (constantI S1 32 (BitVec.ofNat 32 (N - 1)))))))
        (constantI S_ 1 1#1) reducesTo_S16384x1_S16384_d1 h_S_ j = 1#1 := fun j =>
    Host.reduce_andi_one _ _ _ _ j rfl fun k => in_range N h0 hN _ (h _)
  generalize Host.reduce IntOp.andi _ _ _ _ = m at e ⊢
  refine (select_one _ _ _ _ (by exact e _)).trans ?_
  refine Routing.gather_row d hoff hcoll hob hsim hivd x _ i y _ ?_ hN
  pointwise
  exact BitVec.eq_of_toNat_eq (by rw [BitVec.toNat_ofNat, Nat.mod_eq_of_lt (by omega)])

/-- The same of the histories. -/
theorem rows3_apply (x : FVec Ideal S1000000x128 .f32) (idx : IVec S16384x10 32) (h : ∀ i, (idx i).toNat < 1000000)
    (i : Fin 16384) (t : Fin 10) (y : Fin 128) :
    rows3 x idx (ix3 i t y) = x (ix2 ⟨(idx (ix2 i t)).toNat, h _⟩ y) := by
  unfold rows3
  rw [wrapped_eq _ _ _ fun i => (h i).trans (by omega)]
  have e : ∀ j, Host.reduce IntOp.andi
        (andi (cmpi .sge (broadcastInDim S16384x10x1 ![0, 1] bcast_S16384x10_S16384x10x1_0_1 idx) (broadcastInDim S16384x10x1 ![] bcast_S_S16384x10x1 (constantI S_ 32 0#32)))
          (cmpi .sle (broadcastInDim S16384x10x1 ![0, 1] bcast_S16384x10_S16384x10x1_0_1 idx)
            (broadcastInDim S16384x10x1 ![0, 1, 2] bcast_S1x1x1_S16384x10x1_0_1_2 (broadcastInDim S1x1x1 ![2] bcast_S1_S1x1x1_2 (constantI S1 32 999999#32)))))
        (constantI S_ 1 1#1) reducesTo_S16384x10x1_S16384x10_d2 h_S_ j = 1#1 := fun j =>
    Host.reduce_andi_one _ _ _ _ j rfl fun k => in_range 1000000 (by omega) (by omega) _ (h _)
  generalize Host.reduce IntOp.andi _ _ _ _ = m at e ⊢
  refine (select_one _ _ _ _ (by exact e _)).trans ?_
  refine gather3 x _ i t y _ ?_
  pointwise
  exact BitVec.eq_of_toNat_eq (by rw [BitVec.toNat_ofNat, Nat.mod_eq_of_lt (by have := h (ix2 i t); omega)])

end Cert.Proof.OfReference

end
-- ==== Proof.RefEntry.lean ====
/-
  What the reference's loop starts from, row by row: the joined inputs of every step, the mask of every step, the parameters
  and a zero state.
-/
module

public import proofs.«01_k».proof.Proof.RefTake

@[expose] public section

noncomputable section

namespace Cert.Proof.OfReference

open Cert.ReferenceIdeal Cert.ReferenceIdeal.Gen Cert.ReferenceIdeal.Value

open Idealize.ShloMosaic Idealize.ShloMosaic.StableHlo

/-- Column `0` of the triples. -/
def col0 (a : IVec S16384x3 32) : IVec S16384 32 := shapeCast S16384 (extractStridedSlice S16384x1 ![0, 0] a slices_S16384x3_S16384x1_0_0) shapeCasts_S16384x1_S16384

/-- Column `1`. -/
def col1 (a : IVec S16384x3 32) : IVec S16384 32 := shapeCast S16384 (extractStridedSlice S16384x1 ![0, 1] a slices_S16384x3_S16384x1_0_1) shapeCasts_S16384x1_S16384

/-- The inputs of every step, step first: the two fixed thirds beside the history's. -/
def inputs (s r : FVec Ideal S16384x128 .f32) (tl : FVec Ideal S16384x10x128 .f32) : FVec Ideal S10x16384x384 .f32 :=
  transpose S10x16384x384 [1, 0, 2]
    (concatenate S16384x10x384 2
      [⟨S16384x10x128, broadcastInDim S16384x10x128 ![0, 1, 2] bcast_S16384x1x128_S16384x10x128_0_1_2 (broadcastInDim S16384x1x128 ![0, 2] bcast_S16384x128_S16384x1x128_0_2 s)⟩,
        ⟨S16384x10x128, broadcastInDim S16384x10x128 ![0, 1, 2] bcast_S16384x1x128_S16384x10x128_0_1_2 (broadcastInDim S16384x1x128 ![0, 2] bcast_S16384x128_S16384x1x128_0_2 r)⟩,
        ⟨S16384x10x128, tl⟩] concatenates_S16384x10x128_S16384x10x128_S16384x10x128_S16384x10x384_d2)
    transposes_S16384x10x384_S10x16384x384_1_0_2

/-- The mask of every step, step first: 1 while the step's number is below the row's length. -/
def masks (l : IVec S16384 32) : FVec Ideal S10x16384 .f32 :=
  transpose S10x16384 [1, 0]
    (uitofp .f32 (cmpi .slt (broadcastInDim S16384x10 ![0, 1] bcast_S1x10_S16384x10_0_1 (broadcastInDim S1x10 ![1] bcast_S10_S1x10_1 (iotaInDim S10 32 0)))
      (broadcastInDim S16384x10 ![0, 1] bcast_S16384x1_S16384x10_0_1 (broadcastInDim S16384x1 ![0] bcast_S16384_S16384x1_0 l))))
    transposes_S16384x10_S10x16384_1_0

/-- The state at the start. -/
def zeros : FVec Ideal S16384x128 .f32 := broadcastInDim S16384x128 ![] bcast_S_S16384x128 (constant S_ .f32 0x00000000#32)

/-- It is zero at every row and column. -/
theorem zeros_apply (i : Fin 16384) (y : Fin 128) : zeros (ix2 i y) = 0 := by
  unfold zeros
  pointwise

/-- The inputs at a step, a row and a column. -/
theorem inputs_apply (s r : FVec Ideal S16384x128 .f32) (tl : FVec Ideal S16384x10x128 .f32) (R : Spec.Row) (t : Fin 10) (i : Fin 16384)
    (hs : ∀ y, s (ix2 i y) = R.s y) (hr : ∀ y, r (ix2 i y) = R.r y) (ht : ∀ y, tl (ix3 i t y) = R.tl t.val y) (k : Fin 384) :
    inputs s r tl (ix3 t i k) = Spec.joined R t.val k := by
  unfold inputs Spec.joined
  pointwise
  simp only [hs, hr, ht]
  by_cases h0 : k.val < 128
  · rw [dif_pos h0, dif_pos h0]
  · rw [dif_neg h0, dif_neg h0]
    by_cases h1 : k.val < 256
    · rw [dif_pos (show k.val - 128 < 128 by omega), dif_pos h1]
    · rw [dif_neg (show ¬ k.val - 128 < 128 by omega), dif_neg h1]
      exact congrArg (R.tl t.val) (Fin.ext (by show k.val - 128 - 128 = k.val - 256; omega))

/-- The mask at a step and a row. -/
theorem masks_apply (l : IVec S16384 32) (t : Fin 10) (i : Fin 16384) :
    masks l (ix2 t i) = if (BitVec.ofNat 32 t.val).slt (l (ix1 i)) then (1 : EReal) else 0 := by
  unfold masks
  pointwise
  show ((IntOp.cmpi .slt (BitVec.ofNat 32 t.val) (l (ix1 i))).toNat : EReal) = _
  show ((BitVec.ofBool ((BitVec.ofNat 32 t.val).slt (l (ix1 i)))).toNat : EReal) = _
  cases (BitVec.ofNat 32 t.val).slt (l (ix1 i)) <;> simp

/-- Column `0` at a row. -/
theorem col0_apply (a : IVec S16384x3 32) (i : Fin 16384) : col0 a (ix1 i) = a (ix2 i 0) := by
  unfold col0
  pointwise

/-- Column `1` at a row. -/
theorem col1_apply (a : IVec S16384x3 32) (i : Fin 16384) : col1 a (ix1 i) = a (ix2 i 1) := by
  unfold col1
  pointwise

/-- A column's words are the triples' words, so a bound on these bounds those. -/
theorem col0_lt (a : IVec S16384x3 32) (n : ℕ) (h : ∀ i, (a i).toNat < n) (j : S16384.Idx) : (col0 a j).toNat < n := h _

/-- The same of column `1`. -/
theorem col1_lt (a : IVec S16384x3 32) (n : ℕ) (h : ∀ i, (a i).toNat < n) (j : S16384.Idx) : (col1 a j).toNat < n := h _

/-- The two columns, of the contents before. -/
theorem after_v1 (V : Valuation τ sig (Elt Ideal)) : after hostOps0 V (Proc.devRef .tc main_v1) = col0 (V (Proc.devRef .tc main_arg0)) := by
  after_reads_simp
  rfl

/-- The second of the two. -/
theorem after_v3 (V : Valuation τ sig (Elt Ideal)) : after hostOps0 V (Proc.devRef .tc main_v3) = col1 (V (Proc.devRef .tc main_arg0)) := by
  after_reads_simp
  rfl

/-- The entity's rows. -/
theorem after_v4 (V : Valuation τ sig (Elt Ideal)) : after hostOps0_1 V (Proc.devRef .tc main_v4)
    = rows2 (N := 1000000) gather_S1000000x128_S16384x1_S16384x128_1_0_n_n_0_1_1128 1000000#32 (BitVec.ofNat 32 (1000000 - 1))
        (V (Proc.devRef .tc main_arg3)) (V (Proc.devRef .tc main_v1)) := by
  after_reads_simp
  simp only [TRef.ofBuf_toBuf]
  simp only [TRef.ofBuf, TRef.toBuf, cast_eq]
  unfold rows2 wrapped
  rfl

/-- The relation's rows. -/
theorem after_v5 (V : Valuation τ sig (Elt Ideal)) : after hostOps0_2 V (Proc.devRef .tc main_v5)
    = rows2 (N := 500) gather_S500x128_S16384x1_S16384x128_1_0_n_n_0_1_1128 500#32 (BitVec.ofNat 32 (500 - 1))
        (V (Proc.devRef .tc main_arg4)) (V (Proc.devRef .tc main_v3)) := by
  after_reads_simp
  simp only [TRef.ofBuf_toBuf]
  simp only [TRef.ofBuf, TRef.toBuf, cast_eq]
  unfold rows2 wrapped
  rfl

/-- The history's rows. -/
theorem after_v6 (V : Valuation τ sig (Elt Ideal)) : after hostOps0_3 V (Proc.devRef .tc main_v6)
    = rows3 (V (Proc.devRef .tc main_arg3)) (V (Proc.devRef .tc main_arg1)) := by
  after_reads_simp
  simp only [TRef.ofBuf_toBuf]
  simp only [TRef.ofBuf, TRef.toBuf, cast_eq]
  unfold rows3 wrapped
  rfl

/-- The loop's inputs, of the three reads. -/
theorem after_x (V : Valuation τ sig (Elt Ideal)) : after hostOps0_4 V (Proc.devRef .tc main_v22_0)
    = inputs (V (Proc.devRef .tc main_v4)) (V (Proc.devRef .tc main_v5)) (V (Proc.devRef .tc main_v6)) := by
  after_results_simp
  rfl

/-- The loop's masks, of the lengths. -/
theorem after_mask (V : Valuation τ sig (Elt Ideal)) : after hostOps0_4 V (Proc.devRef .tc main_v22_1) = masks (V (Proc.devRef .tc main_arg2)) := by
  after_results_simp
  rfl

/-- The parameters are the arguments, the trip's number is zero and the state is zero. -/
theorem after_params {V : Valuation τ sig (Elt Ideal)} :
    after hostOps0_4 V (Proc.devRef .tc main_v22_2) = V (Proc.devRef .tc main_arg5)
      ∧ after hostOps0_4 V (Proc.devRef .tc main_v22_3) = V (Proc.devRef .tc main_arg7)
      ∧ after hostOps0_4 V (Proc.devRef .tc main_v22_4) = V (Proc.devRef .tc main_arg6)
      ∧ after hostOps0_4 V (Proc.devRef .tc main_v22_5) = V (Proc.devRef .tc main_arg8)
      ∧ after hostOps0_4 V (Proc.devRef .tc main_v22_6) = constantI S_ 32 0#32
      ∧ after hostOps0_4 V (Proc.devRef .tc main_v22_7) = zeros := by
  refine ⟨?_, ?_, ?_, ?_, ?_, ?_⟩ <;> after_results_simp <;> rfl

end Cert.Proof.OfReference

end
-- ==== Proof.RefState.lean ====
/-
  The reference's result, row by row: what its loop carries before each trip is the recurrence's state of every row, so the
  result after ten trips is the recurrence's state before step ten.
-/
module

public import proofs.«01_k».proof.Proof.RefStep
public import proofs.«01_k».proof.Proof.RefEntry

@[expose] public section

noncomputable section

namespace Cert.Proof.OfReference

open Cert.ReferenceIdeal Cert.ReferenceIdeal.Gen Cert.ReferenceIdeal.Value

open Idealize.ShloMosaic Idealize.ShloMosaic.TcCoe Idealize.ShloMosaic.StableHlo

/-- What the loop carries before trip `t`: the inputs and the masks of every step, the parameters, the trip's number, and every
    row's state. -/
structure Carried (P : Spec.Par) (R : Fin 16384 → Spec.Row) (t : ℕ) (x : FVec Ideal S10x16384x384 .f32) (mk : FVec Ideal S10x16384 .f32)
    (wi : FVec Ideal S384x384 .f32) (bi : FVec Ideal S384 .f32) (wh : FVec Ideal S384x128 .f32) (bh : FVec Ideal S384 .f32)
    (n : IVec S_ 32) (h : FVec Ideal S16384x128 .f32) : Prop where
  inputs : ∀ (u : Fin 10) i k, x (ix3 u i k) = Spec.joined (R i) u.val k
  mask : ∀ (u : Fin 10) i, mk (ix2 u i) = if (BitVec.ofNat 32 u.val).slt (R i).len then (1 : EReal) else 0
  wi : ∀ j k, wi (ix2 j k) = P.wi j k
  bi : ∀ j, bi (ix1 j) = P.bi j
  wh : ∀ j k, wh (ix2 j k) = P.wh j k
  bh : ∀ j, bh (ix1 j) = P.bh j
  trip : ∀ i, n i = BitVec.ofNat 32 t
  state : ∀ i y, h (ix2 i y) = Spec.state P (R i) t y

/-- `Carried`, of the loop's buffers. -/
def Holds (P : Spec.Par) (R : Fin 16384 → Spec.Row) (t : ℕ) (V : Valuation τ sig (Elt Ideal)) : Prop :=
  Carried P R t (V (Proc.devRef .tc main_v22_0)) (V (Proc.devRef .tc main_v22_1)) (V (Proc.devRef .tc main_v22_2))
    (V (Proc.devRef .tc main_v22_3)) (V (Proc.devRef .tc main_v22_4)) (V (Proc.devRef .tc main_v22_5)) (V (Proc.devRef .tc main_v22_6))
    (V (Proc.devRef .tc main_v22_7))

/-- A trip takes every row's state one step on. -/
theorem carried_step {P : Spec.Par} {R : Fin 16384 → Spec.Row} (t : Fin 10) {x : FVec Ideal S10x16384x384 .f32} {mk : FVec Ideal S10x16384 .f32}
    {wi : FVec Ideal S384x384 .f32} {bi : FVec Ideal S384 .f32} {wh : FVec Ideal S384x128 .f32} {bh : FVec Ideal S384 .f32}
    {n : IVec S_ 32} {h : FVec Ideal S16384x128 .f32} (H : Carried P R t.val x mk wi bi wh bh n h) (i : Fin 16384) (y : Fin 128) :
    mixv (maskv mk n) (cellv (giv x wi bi n) (ghv wh bh h) h) h (ix2 i y) = Spec.state P (R i) (t.val + 1) y := by
  have hg : (fun j => giv x wi bi n (ix2 i j)) = Spec.gi P (R i) t.val := funext fun j => by
    rw [giv_apply x wi bi n t H.trip, H.bi]
    simp only [H.inputs, H.wi]
    rfl
  have hh : (fun k => h (ix2 i k)) = Spec.state P (R i) t.val := funext fun k => H.state i k
  have hg' : (fun j => ghv wh bh h (ix2 i j)) = Spec.gh P (Spec.state P (R i) t.val) := funext fun j => by
    rw [ghv_apply, H.bh]
    simp only [H.state, H.wh]
    rfl
  rw [mixv_apply, maskv_apply mk n t H.trip, cellv_apply, hg, hg', hh, H.mask, H.state, Spec.mix]
  rfl

/-- One trip. -/
theorem holds_step {P : Spec.Par} {R : Fin 16384 → Spec.Row} (t : Fin 10) {V : Valuation τ sig (Elt Ideal)} (H : Holds P R t.val V) :
    Holds P R (t.val + 1) (STEP V) := by
  unfold Holds
  rw [STEP_main_v22_0, STEP_main_v22_1, STEP_main_v22_2, STEP_main_v22_3, STEP_main_v22_4, STEP_main_v22_5, STEP_main_v22_6, STEP_main_v22_7]
  refine ⟨H.inputs, H.mask, H.wi, H.bi, H.wh, H.bh, fun i => ?_, fun i y => ?_⟩
  · rw [BitVec.ofNat_add]
    exact congrArg (· + 1#32) (H.trip i)
  · rw [step_state]
    exact carried_step t H i y

/-- Every trip up to the tenth. -/
theorem holds_iter {P : Spec.Par} {R : Fin 16384 → Spec.Row} {V : Valuation τ sig (Elt Ideal)} (H : Holds P R 0 V) :
    ∀ t : ℕ, t ≤ 10 → Holds P R t (STEP^[t] V)
  | 0, _ => H
  | t + 1, ht => by
    rw [Function.iterate_succ_apply']
    exact holds_step ⟨t, ht⟩ (holds_iter H t (by omega))

/-- The loop's entry, of the contents before the program. -/
theorem holds_entry (V : Valuation τ sig (Elt Ideal))
    (h0 : ∀ i, ((V (Proc.devRef .tc main_arg0) : IVec S16384x3 32) i).toNat < 500)
    (h1 : ∀ i, ((V (Proc.devRef .tc main_arg1) : IVec S16384x10 32) i).toNat < 1000000) :
    Holds (Spec.parOf (V (Proc.devRef .tc main_arg5)) (V (Proc.devRef .tc main_arg6)) (V (Proc.devRef .tc main_arg7)) (V (Proc.devRef .tc main_arg8)))
      (Spec.rowOf (V (Proc.devRef .tc main_arg0)) (V (Proc.devRef .tc main_arg1)) (V (Proc.devRef .tc main_arg2)) (V (Proc.devRef .tc main_arg3)) (V (Proc.devRef .tc main_arg4)))
      0 (after hostOps0_4 (after hostOps0_3 (after hostOps0_2 (after hostOps0_1 (after hostOps0 V))))) := by
  have e0 : ∀ W : Valuation τ sig (Elt Ideal), after hostOps0_3 W (Proc.devRef .tc main_v4) = W (Proc.devRef .tc main_v4) := fun W =>
    after_of_writes_sub hostOps0_3 W hostOps0_3_writes (by decide +kernel)
  have e1 : ∀ W : Valuation τ sig (Elt Ideal), after hostOps0_2 W (Proc.devRef .tc main_v4) = W (Proc.devRef .tc main_v4) := fun W =>
    after_of_writes_sub hostOps0_2 W hostOps0_2_writes (by decide +kernel)
  have e2 : ∀ W : Valuation τ sig (Elt Ideal), after hostOps0_3 W (Proc.devRef .tc main_v5) = W (Proc.devRef .tc main_v5) := fun W =>
    after_of_writes_sub hostOps0_3 W hostOps0_3_writes (by decide +kernel)
  have e3 : ∀ W : Valuation τ sig (Elt Ideal), after hostOps0_1 W (Proc.devRef .tc main_v3) = W (Proc.devRef .tc main_v3) := fun W =>
    after_of_writes_sub hostOps0_1 W hostOps0_1_writes (by decide +kernel)
  have hs : after hostOps0_3 (after hostOps0_2 (after hostOps0_1 (after hostOps0 V))) (Proc.devRef .tc main_v4)
      = rows2 (N := 1000000) gather_S1000000x128_S16384x1_S16384x128_1_0_n_n_0_1_1128 1000000#32 (BitVec.ofNat 32 (1000000 - 1))
          (V (Proc.devRef .tc main_arg3)) (col0 (V (Proc.devRef .tc main_arg0))) := by
    rw [e0, e1, after_v4, keep_main_arg3_hostOps0, after_v1]
  have hr : after hostOps0_3 (after hostOps0_2 (after hostOps0_1 (after hostOps0 V))) (Proc.devRef .tc main_v5)
      = rows2 (N := 500) gather_S500x128_S16384x1_S16384x128_1_0_n_n_0_1_1128 500#32 (BitVec.ofNat 32 (500 - 1))
          (V (Proc.devRef .tc main_arg4)) (col1 (V (Proc.devRef .tc main_arg0))) := by
    rw [e2, after_v5, keep_main_arg4_hostOps0_1, keep_main_arg4_hostOps0, e3, after_v3]
  have ht : after hostOps0_3 (after hostOps0_2 (after hostOps0_1 (after hostOps0 V))) (Proc.devRef .tc main_v6)
      = rows3 (V (Proc.devRef .tc main_arg3)) (V (Proc.devRef .tc main_arg1)) := by
    rw [after_v6, keep_main_arg3_hostOps0_2, keep_main_arg3_hostOps0_1, keep_main_arg3_hostOps0, keep_main_arg1_hostOps0_2,
      keep_main_arg1_hostOps0_1, keep_main_arg1_hostOps0]
  have hl : after hostOps0_3 (after hostOps0_2 (after hostOps0_1 (after hostOps0 V))) (Proc.devRef .tc main_arg2) = V (Proc.devRef .tc main_arg2) := by
    rw [keep_main_arg2_hostOps0_3, keep_main_arg2_hostOps0_2, keep_main_arg2_hostOps0_1, keep_main_arg2_hostOps0]
  have k5 : after hostOps0_3 (after hostOps0_2 (after hostOps0_1 (after hostOps0 V))) (Proc.devRef .tc main_arg5) = V (Proc.devRef .tc main_arg5) := by
    rw [keep_main_arg5_hostOps0_3, keep_main_arg5_hostOps0_2, keep_main_arg5_hostOps0_1, keep_main_arg5_hostOps0]
  have k6 : after hostOps0_3 (after hostOps0_2 (after hostOps0_1 (after hostOps0 V))) (Proc.devRef .tc main_arg6) = V (Proc.devRef .tc main_arg6) := by
    rw [keep_main_arg6_hostOps0_3, keep_main_arg6_hostOps0_2, keep_main_arg6_hostOps0_1, keep_main_arg6_hostOps0]
  have k7 : after hostOps0_3 (after hostOps0_2 (after hostOps0_1 (after hostOps0 V))) (Proc.devRef .tc main_arg7) = V (Proc.devRef .tc main_arg7) := by
    rw [keep_main_arg7_hostOps0_3, keep_main_arg7_hostOps0_2, keep_main_arg7_hostOps0_1, keep_main_arg7_hostOps0]
  have k8 : after hostOps0_3 (after hostOps0_2 (after hostOps0_1 (after hostOps0 V))) (Proc.devRef .tc main_arg8) = V (Proc.devRef .tc main_arg8) := by
    rw [keep_main_arg8_hostOps0_3, keep_main_arg8_hostOps0_2, keep_main_arg8_hostOps0_1, keep_main_arg8_hostOps0]
  generalize after hostOps0_3 (after hostOps0_2 (after hostOps0_1 (after hostOps0 V))) = W at hs hr ht hl k5 k6 k7 k8 ⊢
  unfold Holds
  rw [after_x, after_mask, after_params.1, after_params.2.1, after_params.2.2.1, after_params.2.2.2.1, after_params.2.2.2.2.1, after_params.2.2.2.2.2,
    hs, hr, ht, hl, k5, k6, k7, k8]
  refine ⟨fun u i k => inputs_apply _ _ _ _ u i (fun y => ?_) (fun y => ?_) (fun y => ?_) k, fun u i => masks_apply _ u i, fun _ _ => rfl, fun _ => rfl,
    fun _ _ => rfl, fun _ => rfl, fun _ => rfl, fun i y => zeros_apply i y⟩
  · have hc : ∀ j, (col0 (V (Proc.devRef .tc main_arg0)) j).toNat < 1000000 := fun j =>
      (col0_lt _ 500 h0 j).trans (by omega)
    rw [rows2_apply (by omega) (by omega) _ rfl rfl rfl rfl rfl _ _ _ hc]
    exact congrArg (fun b => (V (Proc.devRef .tc main_arg3) : FVec Ideal S1000000x128 .f32) (ix2 b y)) (Fin.ext (by
      show (col0 _ (ix1 i)).toNat = _ % 1000000
      rw [col0_apply, Nat.mod_eq_of_lt ((h0 _).trans (by omega))]))
  · have hc : ∀ j, (col1 (V (Proc.devRef .tc main_arg0)) j).toNat < 500 := col1_lt _ 500 h0
    rw [rows2_apply (by omega) (by omega) _ rfl rfl rfl rfl rfl _ _ _ hc]
    exact congrArg (fun b => (V (Proc.devRef .tc main_arg4) : FVec Ideal S500x128 .f32) (ix2 b y)) (Fin.ext (by
      show (col1 _ (ix1 i)).toNat = _ % 500
      rw [col1_apply, Nat.mod_eq_of_lt (h0 _)]))
  · rw [rows3_apply _ _ h1]
    exact congrArg (fun b => (V (Proc.devRef .tc main_arg3) : FVec Ideal S1000000x128 .f32) (ix2 b y)) (Fin.ext (by
      show ((V (Proc.devRef .tc main_arg1) : IVec S16384x10 32) (ix2 i u)).toNat
        = ((V (Proc.devRef .tc main_arg1) : IVec S16384x10 32) (ix2 i (Fin.ofNat 10 u.val))).toNat % 1000000
      rw [Nat.mod_eq_of_lt (h1 _), show Fin.ofNat 10 u.val = u from Fin.ext (Nat.mod_eq_of_lt u.isLt)]))

/-- The reference's result at a row and a column is the recurrence's state of that row before step ten. -/
theorem result_row (m : (ℓ : Loc nD τ sig) → Buf (Elt Ideal) ℓ) (c : Dev nD)
    (h0 : ∀ i, ((m ((c.tc : Thread nD τ).loc main_arg0) : IVec S16384x3 32) i).toNat < 500)
    (h1 : ∀ i, ((m ((c.tc : Thread nD τ).loc main_arg1) : IVec S16384x10 32) i).toNat < 1000000) (i : Fin 16384) (y : Fin 128) :
    ((STEP^[10] (entryContents preI m c)) (Proc.devRef .tc main_v22_7) : FVec Ideal S16384x128 .f32) (ix2 i y)
      = Spec.state
          (Spec.parOf (m ((c.tc : Thread nD τ).loc main_arg5)) (m ((c.tc : Thread nD τ).loc main_arg6)) (m ((c.tc : Thread nD τ).loc main_arg7)) (m ((c.tc : Thread nD τ).loc main_arg8)))
          (Spec.rowOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) i) 10 y := by
  have H : Holds
      (Spec.parOf (m ((c.tc : Thread nD τ).loc main_arg5)) (m ((c.tc : Thread nD τ).loc main_arg6)) (m ((c.tc : Thread nD τ).loc main_arg7)) (m ((c.tc : Thread nD τ).loc main_arg8)))
      (Spec.rowOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) 0 (entryContents preI m c) := by
    simp only [entryContents, afterL_cons, afterL_nil]
    exact holds_entry (launchContents m c) h0 h1
  generalize entryContents preI m c = V at H ⊢
  exact (holds_iter H 10 le_rfl).state i y

end Cert.Proof.OfReference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.Kernel.Lists
public import proofs.«01_k».proof.Proof.Kernel.Run
public import proofs.«01_k».proof.Proof.KernelIdeal.Lists
public import proofs.«01_k».proof.Proof.KernelIdeal.Run
public import proofs.«01_k».proof.Proof.KernelIdeal.Rows
public import proofs.«01_k».proof.Proof.RefState
public import Idealize.ShloMosaic.Adequacy
public import Idealize.ShloMosaic.Init

@[expose] public section

noncomputable section

namespace Cert.Proof

open Idealize.ShloMosaic Idealize.SL.Sem

/-- `Kernel` runs, leaves its arguments and every counter as they were: its run with the result dropped. -/
theorem frame_kernel : Cert.quiescent_Kernel (hKernel := Cert.Kernel.Gen.facts) (hPre_in_range := Cert.Pre_in_range.Gen.facts) := fun m g hp =>
  (θ_run Cert.Kernel.defs _ _).mono (fun _ h => ⟨fun c => (h.1 c).2, h.2⟩)
    (OfKernel.run_main (F := Bits) m g fun d =>
      have h := Range.of_fn _ _ _ _ _ _ _ _ _ (hp d)
      OfKernel.ins_ok m d h.1 h.2)

/-- `KernelIdeal` runs, leaves its arguments and every counter as they were: its run with the result dropped. -/
theorem frame_kernelIdeal : Cert.quiescent_KernelIdeal (hKernelIdeal := Cert.KernelIdeal.Gen.facts) (hPre_in_range := Cert.Pre_in_range.Gen.facts) := fun m g hp =>
  (θ_run Cert.KernelIdeal.defs _ _).mono (fun _ h => ⟨fun c => (h.1 c).2, h.2⟩)
    (OfKernelIdeal.run_main (F := Ideal) m g fun d =>
      have h := Range.of_fn _ _ _ _ _ _ _ _ _ (hp d)
      OfKernelIdeal.ins_ok m d h.1 h.2)

/-- `ReferenceIdeal` runs and leaves its arguments as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, from the same arguments with their row numbers in range, `KernelIdeal` and `ReferenceIdeal` leave
    the same result: each leaves, at every row and column, the recurrence's state of that row before step ten. -/
theorem algebraic_kernelIdeal_reference : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hp hagree
  have hr := fun d => Range.of_fn _ _ _ _ _ _ _ _ _ (hp d)
  refine ⟨fun c => OfKernelIdeal.result (OfKernelIdeal.bufs₃ m) c,
    (θ_run Cert.KernelIdeal.defs _ _).mono (fun _ h => h.1)
      (OfKernelIdeal.run_main (F := Ideal) m g fun d => OfKernelIdeal.ins_ok m d (hr d).1 (hr d).2), ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6, e7, e8⟩ := hagree c
  have h0 := (hr c).1
  have h1 := (hr c).2
  have hk := OfKernelIdeal.result_row m c
  rw [← e0] at h0
  rw [← e1] at h1
  rw [← e0, ← e1, ← e2, ← e3, ← e4, ← e5, ← e6, ← e7, ← e8] at hk
  refine funext fun (j : (⟨2, ![16384, 128]⟩ : Shape).Idx) => ?_
  rw [← ix2_eta j]
  exact (OfReference.result_row m' c h0 h1 (j 0) (j 1)).trans (hk (j 0) (j 1)).symm

theorem claim : Cert.Claim := ⟨Cert.Kernel.Gen.facts, Cert.KernelIdeal.Gen.facts, Cert.ReferenceIdeal.Gen.facts, Cert.Pre_in_range.Gen.facts,
  frame_kernel, frame_kernelIdeal, frame_reference, fun m g _ => frame_reference m g trivial, trivial, algebraic_kernelIdeal_reference⟩

end Cert.Proof

end
